-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v4)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v4) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v17) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)) (v5 : (c : Dev Cert.InProjIdeal.nD) → Buf (Elt Ideal) ((c.tc : Thread Cert.InProjIdeal.nD Cert.InProjIdeal.τ).loc Cert.InProjIdeal.main_v7_5)) (v6 : (c : Dev Cert.InProjIdeal.nD) → Buf (Elt Ideal) ((c.tc : Thread Cert.InProjIdeal.nD Cert.InProjIdeal.τ).loc Cert.InProjIdeal.main_v7_6)) (v7 : (c : Dev Cert.InProjIdeal.nD) → Buf (Elt Ideal) ((c.tc : Thread Cert.InProjIdeal.nD Cert.InProjIdeal.τ).loc Cert.InProjIdeal.main_v7_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_v7_5) = v5 c
          ∧ r.2.mem ((c.tc : Thread Cert.InProjIdeal.nD Cert.InProjIdeal.τ).loc Cert.InProjIdeal.main_v7_6) = v6 c
          ∧ r.2.mem ((c.tc : Thread Cert.InProjIdeal.nD Cert.InProjIdeal.τ).loc Cert.InProjIdeal.main_v7_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v15) = v0 c
          ∧ r.2.mem ((c.tc : Thread Cert.InProjReferenceIdeal.nD Cert.InProjReferenceIdeal.τ).loc Cert.InProjReferenceIdeal.main_v20) = v1 c
          ∧ r.2.mem ((c.tc : Thread Cert.InProjReferenceIdeal.nD Cert.InProjReferenceIdeal.τ).loc Cert.InProjReferenceIdeal.main_v16) = v2 c
          ∧ r.2.mem ((c.tc : Thread Cert.InProjReferenceIdeal.nD Cert.InProjReferenceIdeal.τ).loc Cert.InProjReferenceIdeal.main_v17) = v3 c
          ∧ r.2.mem ((c.tc : Thread Cert.InProjReferenceIdeal.nD Cert.InProjReferenceIdeal.τ).loc Cert.InProjReferenceIdeal.main_v18) = v4 c
          ∧ r.2.mem ((c.tc : Thread Cert.InProjReferenceIdeal.nD Cert.InProjReferenceIdeal.τ).loc Cert.InProjReferenceIdeal.main_v26) = v5 c
          ∧ r.2.mem ((c.tc : Thread Cert.InProjReferenceIdeal.nD Cert.InProjReferenceIdeal.τ).loc Cert.InProjReferenceIdeal.main_v27) = v6 c
          ∧ r.2.mem ((c.tc : Thread Cert.InProjReferenceIdeal.nD Cert.InProjReferenceIdeal.τ).loc Cert.InProjReferenceIdeal.main_v29) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v14) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMem : Cert.Mem.Facts) (hMemIdeal : Cert.MemIdeal.Facts) (hMemReferenceIdeal : Cert.MemReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mem (hMem := hMem)
    ∧ quiescent_MemIdeal (hMemIdeal := hMemIdeal)
    ∧ quiescent_MemReferenceIdeal (hMemReferenceIdeal := hMemReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mem_MemIdeal
    ∧ algebraic_MemIdeal_MemReferenceIdeal (hMemIdeal := hMemIdeal) (hMemReferenceIdeal := hMemReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S1 : Shape := ⟨1, ![1]⟩
abbrev S16384x512 : Shape := ⟨2, ![16384, 512]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S1 .f32) (main_arg1 : FVec F S16384x512 .f32) (main_arg2 : FVec F S16384x512 .f32) (main_arg3 : FVec F S16384x512 .f32) (main_arg4 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S1 : Shape := ⟨1, ![1]⟩
abbrev S16384x512 : Shape := ⟨2, ![16384, 512]⟩
abbrev S128 : Shape := ⟨1, ![128]⟩
abbrev S136 : Shape := ⟨1, ![136]⟩
abbrev S512x16384 : Shape := ⟨2, ![512, 16384]⟩
abbrev S1x128 : Shape := ⟨2, ![1, 128]⟩
abbrev S128x1024 : Shape := ⟨2, ![128, 1024]⟩
abbrev S1024x128 : Shape := ⟨2, ![1024, 128]⟩
abbrev S2x1x1024 : Shape := ⟨3, ![2, 1, 1024]⟩
abbrev S2x144x1024 : Shape := ⟨3, ![2, 144, 1024]⟩
abbrev S256x128 : Shape := ⟨2, ![256, 128]⟩
abbrev S256x1024 : Shape := ⟨2, ![256, 1024]⟩
abbrev S16x1024 : Shape := ⟨2, ![16, 1024]⟩
abbrev S144x1024 : Shape := ⟨2, ![144, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x256 : Shape := ⟨2, ![144, 256]⟩
abbrev S128x768 : Shape := ⟨2, ![128, 768]⟩
abbrev S256x768 : Shape := ⟨2, ![256, 768]⟩
abbrev S128x512 : Shape := ⟨2, ![128, 512]⟩
abbrev S256x512 : Shape := ⟨2, ![256, 512]⟩
abbrev S128x256 : Shape := ⟨2, ![128, 256]⟩
abbrev S256x256 : Shape := ⟨2, ![256, 256]⟩
abbrev S1x768 : Shape := ⟨2, ![1, 768]⟩
abbrev S768 : Shape := ⟨1, ![768]⟩
abbrev S1x256 : Shape := ⟨2, ![1, 256]⟩
abbrev S1x144x768 : Shape := ⟨3, ![1, 144, 768]⟩
abbrev S144x768 : Shape := ⟨2, ![144, 768]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S256 : Shape := ⟨1, ![256]⟩
abbrev S1x144x256 : Shape := ⟨3, ![1, 144, 256]⟩
abbrev S1x128x1024 : Shape := ⟨3, ![1, 128, 1024]⟩
abbrev S1024x1 : Shape := ⟨2, ![1024, 1]⟩

abbrev nBuf : Space → Nat
  | .hbm => 11
  | .vmem => 11
  | .smem => 3
  | _ => 0

abbrev bufTy : (tb : Table) → Fin (tcTables nBuf tb) → BufTy
  | .hbm, ⟨0, _⟩ => ⟨S1, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S128, .f32⟩
  | .hbm, ⟨5, _⟩ => ⟨S512x16384, .f32⟩
  | .hbm, ⟨6, _⟩ => ⟨S16384x512, .bf16⟩
  | .hbm, ⟨7, _⟩ => ⟨S512x16384, .f32⟩
  | .hbm, ⟨8, _⟩ => ⟨S512x16384, .bf16⟩
  | .hbm, ⟨9, _⟩ => ⟨S1x128, .f32⟩
  | .hbm, ⟨10, _⟩ => ⟨S16384x512, .bf16⟩
  | .local _ .vmem, ⟨0, _⟩ => ⟨S128x1024, .f32⟩
  | .local _ .vmem, ⟨1, _⟩ => ⟨S128x1024, .f32⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | .local _ .vmem, ⟨9, _⟩ => ⟨S2x1x1024, .f32⟩
  | .local _ .vmem, ⟨10, _⟩ => ⟨S2x144x1024, .f32⟩
  | .local _ .smem, ⟨0, _⟩ => ⟨S136, .i32⟩
  | .local _ .smem, ⟨1, _⟩ => ⟨S136, .i32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c1_i32_4 : BitVec 32 := 1#32
  let v15 : BitVec 32 := Scalar.addi v1 c1_i32_4
  let c1_i32_5 : BitVec 32 := 1#32
  let v16 : BitVec 32 := Scalar.muli v15 c1_i32_5
  let c1_i32_6 : BitVec 32 := 1#32
  let v17 : BitVec 32 := Scalar.subi v16 c1_i32_6
  let v18 : BitVec 1 := Scalar.cmpi .eq v3 v17
  let v19 : BitVec 32 := Scalar.extui v18
  let c0_i32_7 : BitVec 32 := 0#32
  let v20 : BitVec 1 := Scalar.cmpi .ne v19 c0_i32_7
  v20

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![arg0.toNat, v1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S1 : Shape := ⟨1, ![1]⟩
abbrev S16384x512 : Shape := ⟨2, ![16384, 512]⟩
abbrev S128 : Shape := ⟨1, ![128]⟩
abbrev S16384x4x2x64 : Shape := ⟨4, ![16384, 4, 2, 64]⟩
abbrev S16384x4x128 : Shape := ⟨3, ![16384, 4, 128]⟩
abbrev S4x2x16384x16384 : Shape := ⟨4, ![4, 2, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x2x16384 : Shape := ⟨3, ![4, 2, 16384]⟩
abbrev S4x2x16384x1 : Shape := ⟨4, ![4, 2, 16384, 1]⟩
abbrev S4x1x16384x16384 : Shape := ⟨4, ![4, 1, 16384, 16384]⟩
abbrev S4x16384x16384 : Shape := ⟨3, ![4, 16384, 16384]⟩
abbrev S4x128x16384 : Shape := ⟨3, ![4, 128, 16384]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S1, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S128, .f32⟩
  | .hbm, ⟨5, _⟩ => ⟨S16384x4x2x64, .f32⟩
  | .hbm, ⟨6, _⟩ => ⟨S16384x4x2x64, .f32⟩
  | .hbm, ⟨7, _⟩ => ⟨S16384x4x128, .f32⟩
  | .hbm, ⟨8, _⟩ => ⟨S4x2x16384x16384, .f32⟩
  | .hbm, ⟨9, _⟩ => ⟨S_, .f32⟩
  | .hbm, ⟨10, _⟩ => ⟨S4x2x16384x16384, .f32⟩
  | .hbm, ⟨11, _⟩ => ⟨S4x2x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S4x2x16384x16384, .i1⟩
  | .hbm, ⟨21, _⟩ => ⟨S4x2x16384x16384, .f32⟩
  | .hbm, ⟨22, _⟩ => ⟨S4x2x16384x16384, .f32⟩
  | .hbm, ⟨23, _⟩ => ⟨S_, .f32⟩
  | .hbm, ⟨24, _⟩ => ⟨S4x2x16384, .f32⟩
  | .hbm, ⟨25, _⟩ => ⟨S_, .f32⟩
  | .hbm, ⟨26, _⟩ => ⟨S4x2x16384, .f32⟩
  | .hbm, ⟨27, _⟩ => ⟨S4x2x16384, .f32⟩
  | .hbm, ⟨28, _⟩ => ⟨S4x2x16384x1, .f32⟩
  | .hbm, ⟨29, _⟩ => ⟨S4x2x16384x16384, .f32⟩
  | .hbm, ⟨30, _⟩ => ⟨S4x2x16384x16384, .f32⟩
  | .hbm, ⟨31, _⟩ => ⟨S4x2x16384x16384, .f32⟩
  | .hbm, ⟨32, _⟩ => ⟨S_, .f32⟩
  | .hbm, ⟨33, _⟩ => ⟨S4x2x16384, .f32⟩
  | .hbm, ⟨34, _⟩ => ⟨S4x2x16384x1, .f32⟩
  | .hbm, ⟨35, _⟩ => ⟨S4x2x16384x16384, .f32⟩
  | .hbm, ⟨36, _⟩ => ⟨S4x2x16384x16384, .f32⟩
  | .hbm, ⟨37, _⟩ => ⟨S4x1x16384x16384, .f32⟩
  | .hbm, ⟨38, _⟩ => ⟨S4x16384x16384, .f32⟩
  | .hbm, ⟨39, _⟩ => ⟨S_, .f32⟩
  | .hbm, ⟨40, _⟩ => ⟨S4x1x16384x16384, .f32⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S4x16384x16384, .f32⟩
  | .hbm, ⟨45, _⟩ => ⟨S4x128x16384, .f32⟩
  | .hbm, ⟨46, _⟩ => ⟨S16384x4x128, .f32⟩
  | .hbm, ⟨47, _⟩ => ⟨S16384x4x128, .f32⟩
  | .hbm, ⟨48, _⟩ => ⟨S_, .f32⟩
  | .hbm, ⟨49, _⟩ => ⟨S16384x4, .f32⟩
  | .hbm, ⟨50, _⟩ => ⟨S16384x4x1, .f32⟩
  | .hbm, ⟨51, _⟩ => ⟨S_, .f32⟩
  | .hbm, ⟨52, _⟩ => ⟨S16384x4x1, .f32⟩
  | .hbm, ⟨53, _⟩ => ⟨S16384x4x1, .f32⟩
  | .hbm, ⟨54, _⟩ => ⟨S_, .f32⟩
  | .hbm, ⟨55, _⟩ => ⟨S16384x4x1, .f32⟩
  | .hbm, ⟨56, _⟩ => ⟨S16384x4x1, .f32⟩
  | .hbm, ⟨57, _⟩ => ⟨S16384x4x1, .f32⟩
  | .hbm, ⟨58, _⟩ => ⟨S16384x4x128, .f32⟩
  | .hbm, ⟨59, _⟩ => ⟨S16384x4x128, .f32⟩
  | .hbm, ⟨60, _⟩ => ⟨S1x1x128, .f32⟩
  | .hbm, ⟨61, _⟩ => ⟨S16384x4x128, .f32⟩
  | .hbm, ⟨62, _⟩ => ⟨S16384x4x128, .f32⟩
  | .hbm, ⟨63, _⟩ => ⟨S_, .f32⟩
  | .hbm, ⟨64, _⟩ => ⟨S16384x4x128, .f32⟩
  | .hbm, ⟨65, _⟩ => ⟨S16384x4x128, .f32⟩
  | .hbm, ⟨66, _⟩ => ⟨S16384x512, .f32⟩
  | .hbm, ⟨67, _⟩ => ⟨S16384x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Mem.lean ====
abbrev S256x1024 : Shape := ⟨2, ![256, 1024]⟩
abbrev S1024 : Shape := ⟨1, ![1024]⟩
abbrev S1024x256 : Shape := ⟨2, ![1024, 256]⟩
abbrev S1024x512 : Shape := ⟨2, ![1024, 512]⟩
abbrev S512x1024 : Shape := ⟨2, ![512, 1024]⟩
abbrev S1x1024 : Shape := ⟨2, ![1, 1024]⟩
abbrev S512x256 : Shape := ⟨2, ![512, 256]⟩
abbrev S256 : Shape := ⟨1, ![256]⟩
abbrev S256x1 : Shape := ⟨2, ![256, 1]⟩

abbrev nBuf : Space → Nat
  | .hbm => 9
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1x1024, .f32⟩
  | .hbm, ⟨8, _⟩ => ⟨S512x256, .f32⟩
  | .local _ .vmem, ⟨0, _⟩ => ⟨S256x1024, .f32⟩
  | .local _ .vmem, ⟨1, _⟩ => ⟨S1x1024, .f32⟩
  | .local _ .vmem, ⟨2, _⟩ => ⟨S512x1024, .bf16⟩
  | .local _ .vmem, ⟨3, _⟩ => ⟨S512x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemReferenceIdeal.lean ====
abbrev S256x1024 : Shape := ⟨2, ![256, 1024]⟩
abbrev S1024 : Shape := ⟨1, ![1024]⟩
abbrev S1024x256 : Shape := ⟨2, ![1024, 256]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x256 : Shape := ⟨2, ![256, 256]⟩
abbrev S512x256 : Shape := ⟨2, ![512, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S512x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x6912 : Shape := ⟨2, ![1024, 6912]⟩
abbrev S1024x512 : Shape := ⟨2, ![1024, 512]⟩
abbrev S1024x1024 : Shape := ⟨2, ![1024, 1024]⟩
abbrev S1x1024 : Shape := ⟨2, ![1, 1024]⟩
abbrev S16384x512 : Shape := ⟨2, ![16384, 512]⟩
abbrev S16384x1792 : Shape := ⟨2, ![16384, 1792]⟩
abbrev S16384x3072 : Shape := ⟨2, ![16384, 3072]⟩
abbrev S512x16384 : Shape := ⟨2, ![512, 16384]⟩
abbrev S256x1024 : Shape := ⟨2, ![256, 1024]⟩
abbrev S256x512 : Shape := ⟨2, ![256, 512]⟩
abbrev S256x1792 : Shape := ⟨2, ![256, 1792]⟩
abbrev S256x3072 : Shape := ⟨2, ![256, 3072]⟩
abbrev S512x256 : Shape := ⟨2, ![512, 256]⟩
abbrev S256 : Shape := ⟨1, ![256]⟩
abbrev S256x1 : Shape := ⟨2, ![256, 1]⟩
abbrev S1024x1792 : Shape := ⟨2, ![1024, 1792]⟩
abbrev S1024x3072 : Shape := ⟨2, ![1024, 3072]⟩
abbrev S512x1024 : Shape := ⟨2, ![512, 1024]⟩

abbrev nBuf : Space → Nat
  | .hbm => 18
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6912, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024x6912, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .f32⟩
  | .hbm, ⟨14, _⟩ => ⟨S16384x1792, .f32⟩
  | .hbm, ⟨15, _⟩ => ⟨S16384x3072, .f32⟩
  | .hbm, ⟨16, _⟩ => ⟨S512x16384, .f32⟩
  | .hbm, ⟨17, _⟩ => ⟨S512x16384, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6912, .bf16⟩
  | .local _ .vmem, ⟨4, _⟩ => ⟨S1024x1024, .bf16⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x1792, .f32⟩
  | .local _ .vmem, ⟨14, _⟩ => ⟨S256x1792, .f32⟩
  | .local _ .vmem, ⟨15, _⟩ => ⟨S256x3072, .f32⟩
  | .local _ .vmem, ⟨16, _⟩ => ⟨S256x3072, .f32⟩
  | .local _ .vmem, ⟨17, _⟩ => ⟨S512x256, .f32⟩
  | .local _ .vmem, ⟨18, _⟩ => ⟨S512x256, .f32⟩
  | .local _ .vmem, ⟨19, _⟩ => ⟨S512x256, .bf16⟩
  | .local _ .vmem, ⟨20, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev main_v7_6 : Ref sig .tc := ⟨.hbm, 16, rfl⟩
abbrev main_v7_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjReferenceIdeal.lean ====
abbrev S16384x1024 : Shape := ⟨2, ![16384, 1024]⟩
abbrev S1024 : Shape := ⟨1, ![1024]⟩
abbrev S1024x6912 : Shape := ⟨2, ![1024, 6912]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6912 : Shape := ⟨2, ![16384, 6912]⟩
abbrev S16384x512 : Shape := ⟨2, ![16384, 512]⟩
abbrev S16384x1792 : Shape := ⟨2, ![16384, 1792]⟩
abbrev S16384x3072 : Shape := ⟨2, ![16384, 3072]⟩
abbrev S512x16384 : Shape := ⟨2, ![512, 16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6912, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6912, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x1792, .f32⟩
  | .hbm, ⟨25, _⟩ => ⟨S16384x3072, .f32⟩
  | .hbm, ⟨26, _⟩ => ⟨S16384x512, .bf16⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S_, .f32⟩
  | .hbm, ⟨33, _⟩ => ⟨S16384x3072, .f32⟩
  | .hbm, ⟨34, _⟩ => ⟨S16384x3072, .f32⟩
  | .hbm, ⟨35, _⟩ => ⟨S512x16384, .f32⟩
  | .hbm, ⟨36, _⟩ => ⟨S512x16384, .f32⟩
  | .hbm, ⟨37, _⟩ => ⟨S512x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Merge.lean ====
abbrev S16384x1024 : Shape := ⟨2, ![16384, 1024]⟩
abbrev S16384x3072 : Shape := ⟨2, ![16384, 3072]⟩
abbrev S16384x512 : Shape := ⟨2, ![16384, 512]⟩
abbrev S512x1024 : Shape := ⟨2, ![512, 1024]⟩
abbrev S1024x1024 : Shape := ⟨2, ![1024, 1024]⟩
abbrev S512x3072 : Shape := ⟨2, ![512, 3072]⟩
abbrev S512x512 : Shape := ⟨2, ![512, 512]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x1024 : Shape := ⟨2, ![16384, 1024]⟩
abbrev S16384x3072 : Shape := ⟨2, ![16384, 3072]⟩
abbrev S16384x512 : Shape := ⟨2, ![16384, 512]⟩
abbrev S512x1024 : Shape := ⟨2, ![512, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Step.lean ====
/- The state of the attention kernel between grid points, and what one grid point makes of it: the running maximum and the
   running sums of each of the two score heads, as pure functions of the blocks the point reads. -/
module

public import proofs.«01_k».proof.Proof.Gen.KernelIdeal
public import proofs.«01_k».proof.Proof.Gen.KernelIdeal.Skeleton
public import Idealize.ShloMosaic.Lib.VecWindow

@[expose] public section

noncomputable section

namespace Cert.KernelIdeal.Attn

open Cert.KernelIdeal Cert.KernelIdeal.Gen
open Idealize.ShloMosaic Idealize.SL.Sem
open Idealize.ShloMosaic.VecWindow (window put)

variable {F : FTy → Type} [FloatOps F] [Named F]

/-- The two heads' running maxima (one per query column) and running sums (128 value features, then the weights' sum). -/
structure St (F : FTy → Type) [FloatOps F] where
  m0 : FVec F S1x1x1024 .f32
  m1 : FVec F S1x1x1024 .f32
  a0 : FVec F S1x144x1024 .f32
  a1 : FVec F S1x144x1024 .f32

/-- The state a query block starts from. -/
def start : St F where
  m0 := fun _ => Named.named κ "mask" 0xF149F2CA#32
  m1 := fun _ => Named.named κ "mask" 0xF149F2CA#32
  a0 := fun _ => Scalar.ofBits .f32 0x00000000#32
  a1 := fun _ => Scalar.ofBits .f32 0x00000000#32

/-- The running sums after the first, second and third sub-block of a key block strictly before the query block. -/
def fullA0 (q : Vec F S128x1024 .f32) (k : Vec F S1024x128 .bf16) (v : Vec F S128x1024 .bf16) (s : St F) : FVec F S1x144x1024 .f32 :=
  k0_pay25 (k0_pay12 q k) (k0_pay20 v) (k0_pay21 s.m0) s.a0

def fullA1 (q : Vec F S128x1024 .f32) (k : Vec F S1024x128 .bf16) (v : Vec F S128x1024 .bf16) (s : St F) : FVec F S1x144x1024 .f32 :=
  k0_pay26 (k0_pay13 q k) (k0_pay20 v) s.m1 s.a1

def fullM0 (q : Vec F S128x1024 .f32) (k : Vec F S1024x128 .bf16) (s : St F) : FVec F S1x1024 .f32 := k0_pay23 (k0_pay12 q k) (k0_pay21 s.m0)

def fullM1 (q : Vec F S128x1024 .f32) (k : Vec F S1024x128 .bf16) (s : St F) : FVec F S1x1024 .f32 := k0_pay24 (k0_pay13 q k) s.m1

def fullB0 (q : Vec F S128x1024 .f32) (k : Vec F S1024x128 .bf16) (v : Vec F S128x1024 .bf16) (s : St F) : FVec F S1x144x1024 .f32 :=
  k0_pay29 (k0_pay14 q k) (k0_pay20 v) (fullM0 q k s) (fullA0 q k v s)

def fullB1 (q : Vec F S128x1024 .f32) (k : Vec F S1024x128 .bf16) (v : Vec F S128x1024 .bf16) (s : St F) : FVec F S1x144x1024 .f32 :=
  k0_pay30 (k0_pay15 q k) (k0_pay20 v) (fullM1 q k s) (fullA1 q k v s)

def fullN0 (q : Vec F S128x1024 .f32) (k : Vec F S1024x128 .bf16) (s : St F) : FVec F S1x1024 .f32 := k0_pay27 (k0_pay14 q k) (fullM0 q k s)

def fullN1 (q : Vec F S128x1024 .f32) (k : Vec F S1024x128 .bf16) (s : St F) : FVec F S1x1024 .f32 := k0_pay28 (k0_pay15 q k) (fullM1 q k s)

def fullP0 (q : Vec F S128x1024 .f32) (k : Vec F S1024x128 .bf16) (s : St F) : FVec F S1x1024 .f32 :=
  k0_pay31 (k0_pay14 q k) (k0_pay16 q k) (fullM0 q k s)

def fullP1 (q : Vec F S128x1024 .f32) (k : Vec F S1024x128 .bf16) (s : St F) : FVec F S1x1024 .f32 := k0_pay32 (k0_pay17 q k) (fullN1 q k s)

def fullC0 (q : Vec F S128x1024 .f32) (k : Vec F S1024x128 .bf16) (v : Vec F S128x1024 .bf16) (s : St F) : FVec F S1x144x1024 .f32 :=
  k0_pay33 (k0_pay16 q k) (k0_pay20 v) (fullN0 q k s) (fullP0 q k s) (fullB0 q k v s)

def fullC1 (q : Vec F S128x1024 .f32) (k : Vec F S1024x128 .bf16) (v : Vec F S128x1024 .bf16) (s : St F) : FVec F S1x144x1024 .f32 :=
  k0_pay34 (k0_pay17 q k) (k0_pay20 v) (fullN1 q k s) (fullB1 q k v s)

/-- A key block strictly before the query block: four sub-blocks of 256 keys, unmasked. -/
def full (q : Vec F S128x1024 .f32) (k : Vec F S1024x128 .bf16) (v : Vec F S128x1024 .bf16) (s : St F) : St F where
  m0 := k0_pay41 (k0_pay35 (k0_pay18 q k) (fullP0 q k s))
  m1 := k0_pay3 (k0_pay38 (k0_pay19 q k) (fullP1 q k s))
  a0 := k0_pay39 (k0_pay20 v) (k0_pay36 (k0_pay18 q k) (fullP0 q k s)) (k0_pay37 (k0_pay18 q k) (fullP0 q k s)) (fullC0 q k v s)
  a1 := k0_pay40 (k0_pay19 q k) (k0_pay20 v) (fullP1 q k s) (fullC1 q k v s)

/-- The columns of the queries from the 256th, the 512th, the 768th on. -/
def tail256 (a : FVec F S1x144x1024 .f32) : FVec F S1x144x768 .f32 := window (s := S1x144x1024) a ![0, 0, 256] S1x144x768.size (by decide)

def tail512 (a : FVec F S1x144x1024 .f32) : FVec F S1x144x512 .f32 := window (s := S1x144x1024) a ![0, 0, 512] S1x144x512.size (by decide)

def tail768 (a : FVec F S1x144x1024 .f32) : FVec F S1x144x256 .f32 := window (s := S1x144x1024) a ![0, 0, 768] S1x144x256.size (by decide)

def putTail256 (a : FVec F S1x144x1024 .f32) (w : FVec F S1x144x768 .f32) : FVec F S1x144x1024 .f32 :=
  put (s := S1x144x1024) a ![0, 0, 256] S1x144x768.size w

def putTail512 (a : FVec F S1x144x1024 .f32) (w : FVec F S1x144x512 .f32) : FVec F S1x144x1024 .f32 :=
  put (s := S1x144x1024) a ![0, 0, 512] S1x144x512.size w

def putTail768 (a : FVec F S1x144x1024 .f32) (w : FVec F S1x144x256 .f32) : FVec F S1x144x1024 .f32 :=
  put (s := S1x144x1024) a ![0, 0, 768] S1x144x256.size w

section
variable (w1 w3 : Elt F .i32) (q : Vec F S128x1024 .f32) (k : Vec F S1024x128 .bf16) (v : Vec F S128x1024 .bf16) (s : St F)

/-- The first key of the key block, counted from the first query. -/
def lag : BitVec 32 := Scalar.muli (Scalar.subi w3 (Scalar.muli w1 1#32)) 1024#32

/-- The masked scores of the four sub-blocks of the key block on the diagonal. -/
def sc00 : FVec F S256x1024 .f32 := k0_pay48 w1 w3 q k
def sc01 : FVec F S256x1024 .f32 := k0_pay52 (k0_pay49 q k) (k0_pay50 (F := F) w1 w3) k0_pay51
def sc10 : FVec F S256x768 .f32 := k0_pay53 (k0_pay43 k) (k0_pay46 q) (lag (F := F) w1 w3)
def sc11 : FVec F S256x768 .f32 := k0_pay54 (k0_pay43 k) (k0_pay47 q) (lag (F := F) w1 w3)
def sc20 : FVec F S256x512 .f32 := k0_pay55 (k0_pay43 k) (k0_pay46 q) (lag (F := F) w1 w3)
def sc21 : FVec F S256x512 .f32 := k0_pay57 (lag (F := F) w1 w3) (k0_pay56 (k0_pay43 k) (k0_pay47 q)) 512#32
def sc30 : FVec F S256x256 .f32 := k0_pay58 (k0_pay43 k) (k0_pay46 q) (lag (F := F) w1 w3)
def sc31 : FVec F S256x256 .f32 := k0_pay59 (k0_pay43 k) (k0_pay47 q) (lag (F := F) w1 w3)

/-- The running maxima after each sub-block but the last. -/
def dM0 : FVec F S1x1024 .f32 := k0_pay63 (sc00 w1 w3 q k) (k0_pay61 s.m0)
def dM1 : FVec F S1x1024 .f32 := k0_pay64 (sc01 w1 w3 q k) (k0_pay62 s.m1)
def dT0 : FVec F S1x768 .f32 := k0_pay68 (sc00 w1 w3 q k) (sc10 w1 w3 q k) (k0_pay61 s.m0)
def dN0 : FVec F S1x1024 .f32 := k0_pay69 (dM0 w1 w3 q k s) (dT0 w1 w3 q k s)
def dN1 : FVec F S1x1024 .f32 := k0_pay72 (sc11 w1 w3 q k) (dM1 w1 w3 q k s)
def dU0 : FVec F S1x512 .f32 := k0_pay75 (dM0 w1 w3 q k s) (dT0 w1 w3 q k s)
def dP0 : FVec F S1x1024 .f32 := k0_pay78 (dN0 w1 w3 q k s) (dU0 w1 w3 q k s) (k0_pay76 (sc20 w1 w3 q k))
def dP1 : FVec F S1x1024 .f32 := k0_pay81 (sc21 w1 w3 q k) (dN1 w1 w3 q k s)
def dV0 : FVec F S1x256 .f32 := k0_pay84 (dN0 w1 w3 q k s) (dU0 w1 w3 q k s) (k0_pay76 (sc20 w1 w3 q k))

/-- The running sums after each sub-block. -/
def dA0 : FVec F S1x144x1024 .f32 := k0_pay65 (sc00 w1 w3 q k) (k0_pay60 (k0_pay44 v)) (k0_pay61 s.m0) s.a0
def dA1 : FVec F S1x144x1024 .f32 := k0_pay66 (sc01 w1 w3 q k) (k0_pay60 (k0_pay44 v)) (k0_pay62 s.m1) s.a1
def dB0 : FVec F S1x144x1024 .f32 :=
  putTail256 (dA0 w1 w3 q k v s) (k0_pay73 (sc10 w1 w3 q k) (k0_pay60 (k0_pay44 v)) (k0_pay67 (sc00 w1 w3 q k) (k0_pay61 s.m0)) (dT0 w1 w3 q k s) (tail256 (dA0 w1 w3 q k v s)))
def dB1 : FVec F S1x144x1024 .f32 :=
  putTail256 (dA1 w1 w3 q k v s) (k0_pay74 (sc11 w1 w3 q k) (k0_pay60 (k0_pay44 v)) (dM1 w1 w3 q k s) (tail256 (dA1 w1 w3 q k v s)))
def dC0 : FVec F S1x144x1024 .f32 :=
  putTail512 (dB0 w1 w3 q k v s) (k0_pay82 (sc20 w1 w3 q k) (k0_pay60 (k0_pay44 v)) (dU0 w1 w3 q k s) (k0_pay76 (sc20 w1 w3 q k)) (tail512 (dB0 w1 w3 q k v s)))
def dC1 : FVec F S1x144x1024 .f32 :=
  putTail512 (dB1 w1 w3 q k v s) (k0_pay83 (sc21 w1 w3 q k) (k0_pay60 (k0_pay44 v)) (dN1 w1 w3 q k s) (tail512 (dB1 w1 w3 q k v s)))

/-- The key block on the diagonal: four sub-blocks of 256 keys, each for the queries from its first key on, masked. -/
def diag : St F where
  m0 := k0_pay4 (k0_pay86 (sc30 w1 w3 q k) (dP0 w1 w3 q k s) (dV0 w1 w3 q k s))
  m1 := k0_pay5 (k0_pay89 (sc31 w1 w3 q k) (dP1 w1 w3 q k s))
  a0 := putTail768 (dC0 w1 w3 q k v s) (k0_pay90 (sc30 w1 w3 q k) (k0_pay60 (k0_pay44 v)) (dV0 w1 w3 q k s) (tail768 (dC0 w1 w3 q k v s)))
  a1 := putTail768 (dC1 w1 w3 q k v s) (k0_pay91 (sc31 w1 w3 q k) (k0_pay60 (k0_pay44 v)) (dP1 w1 w3 q k s) (tail768 (dC1 w1 w3 q k v s)))

end

/-- The value features' rows of the running sums, and the row of the weights' sum. -/
def rows (a : FVec F S1x144x1024 .f32) : FVec F S1x128x1024 .f32 := window (s := S1x144x1024) a ![0, 0, 0] S1x128x1024.size (by decide)

def weight (a : FVec F S1x144x1024 .f32) : FVec F S1x1x1024 .f32 := window (s := S1x144x1024) a ![0, 128, 0] S1x1x1024.size (by decide)

/-- What a query block writes, its last key block done. -/
def out (lam : Elt F .f32) (g : Vec F S1x128 .f32) (s : St F) : FVec F S1024x128 .bf16 :=
  k0_pay6 (rows s.a0) (weight s.a0) (rows s.a1) (weight s.a1) lam g

end Cert.KernelIdeal.Attn

end
-- ==== Proof.Pieces.lean ====
/- What a load at one unit-stride box reads of a buffer that a list of stores has filled: the newest store at that very box, a
   store that misses the box, a store inside the box, and a load of a part of the box. -/
module

public import Idealize.ShloMosaic.Lib.Writes
public import Idealize.ShloMosaic.Lib.VecWindow
public import Idealize.ShloMosaic.Lib.Exec

@[expose] public section

noncomputable section

namespace Cert.Pieces

open Idealize.ShloMosaic
open Idealize.ShloMosaic.VecWindow (window put)

variable {sig : RefSig} {κ : Kind} {sp : Space} {s : Shape} {e : EltTy} {Val : EltTy → Type}

/-- The newest store at the load's own box is what the load reads. -/
theorem readAt_hit (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A store apart from the load's box is not read. -/
theorem readAt_skip (v : View sig κ sp s e) (f : v.ty.Contents Val) (B : LoadRect s) (p : View.Piece Val s e) (L : List (View.Piece Val s e))
    (h : LoadRect.disj p.1 B = true) :
    v.readAt Val B (v.writes Val f (p :: L)) = v.readAt Val B (v.writes Val f L) :=
  funext fun j => View.read_writes_cons_miss v f p L _ (LoadRect.idx_not_mem_of_disj h j)

/-- A load of a part of a box reads a window of what the load of the box reads. -/
theorem readAt_part (v : View sig κ sp s e) (f : v.ty.Contents Val) {off size off' size' d : Fin s.rank → ℕ}
    (inb : ∀ a, off a + size a ≤ s.size a) (inb' : ∀ a, off' a + size' a ≤ s.size a) (hd : ∀ a, off' a = off a + d a)
    (inbd : ∀ a, d a + size' a ≤ size a) :
    v.readAt Val (Rect.unit off' size' inb').toLoadRect f
      = window (s := ⟨s.rank, size⟩) (v.readAt Val (Rect.unit off size inb).toLoadRect f) d size' inbd := by
  funext y
  exact congrArg (v.read Val f) (funext fun a => Fin.ext (by
    show off' a + 1 * (y a).val = off a + 1 * (d a + 1 * (y a).val)
    have := hd a; omega))

/-- A store inside the load's box replaces that part of what the load reads. -/
theorem readAt_put (v : View sig κ sp s e) (f : v.ty.Contents Val) {off size off' size' d : Fin s.rank → ℕ}
    (inb : ∀ a, off a + size a ≤ s.size a) (inb' : ∀ a, off' a + size' a ≤ s.size a) (hd : ∀ a, off' a = off a + d a)
    (w : (Rect.unit off' size' inb').shape.Idx → Val e) (L : List (View.Piece Val s e)) :
    v.readAt Val (Rect.unit off size inb).toLoadRect (v.writes Val f (⟨Rect.unit off' size' inb', w⟩ :: L))
      = put (s := ⟨s.rank, size⟩) (v.readAt Val (Rect.unit off size inb).toLoadRect (v.writes Val f L)) d size' w := by
  funext y
  unfold put
  split
  · next h =>
    refine View.read_writes_cons_hit_of_coords v f (Rect.unit off' size' inb') w L _ _ fun a => ?_
    show off a + 1 * (y a).val = off' a + 1 * ((y a).val - d a)
    have := hd a; have := h a; omega
  · next h =>
    refine View.read_writes_cons_miss v f _ L _ fun hm => h fun a => ?_
    obtain ⟨i, hi, he⟩ := (Rect.unit off' size' inb').mem_set.mp hm a
    have e1 : off a + 1 * (y a).val = off' a + 1 * i := he
    have e2 : i < size' a := hi
    have := hd a; omega

end Cert.Pieces

end
-- ==== Proof.Held.lean ====
/- The state that the attention kernel's scratch buffers hold, and what loads of their parts read. -/
module

public import proofs.«01_k».proof.Proof.Step
public import proofs.«01_k».proof.Proof.Pieces
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces (readAt_hit readAt_skip readAt_part readAt_put)

variable {F : FTy → Type} [FloatOps F] [Named F]

local notation "𝕄" => MT nD τ sig Unit (Elt F) ℕ (UR sig nD τ) ℕ

abbrev tq : Memref sig .tc .smem S136 .i32 := Memref.whole main_c
abbrev tk : Memref sig .tc .smem S136 .i32 := Memref.whole main_c_0
abbrev mSc : Memref sig .tc .vmem S2x1x1024 .f32 := Memref.whole cc0_scratch0
abbrev aSc : Memref sig .tc .vmem S2x144x1024 .f32 := Memref.whole cc0_scratch1

/-- The word a table holds for the point `i`. -/
abbrev wordOf (T : Memref sig .tc .smem S136 .i32) (i : grid0.Coords) (f : T.view.ty.Contents (Elt F)) : BitVec 32 :=
  View.readAt (Elt F) T.view (Rect.unit (s := S136) (k0_off1 i) S1.size (k0_off1_inb i)).toLoadRect f (Shape.Idx.first (numel1_S1.symm ▸ Nat.one_pos))

/-- The state that the scratch buffers hold. -/
def held (b : mSc.view.ty.Contents (Elt F)) (d : aSc.view.ty.Contents (Elt F)) : St F where
  m0 := View.readAt (Elt F) mSc.view (Rect.unit (s := S2x1x1024) ![0, 0, 0] S1x1x1024.size inb_S2x1x1024_S1x1x1024_0_0_0).toLoadRect b
  m1 := View.readAt (Elt F) mSc.view (Rect.unit (s := S2x1x1024) ![1, 0, 0] S1x1x1024.size inb_S2x1x1024_S1x1x1024_1_0_0).toLoadRect b
  a0 := View.readAt (Elt F) aSc.view (Rect.unit (s := S2x144x1024) ![0, 0, 0] S1x144x1024.size inb_S2x144x1024_S1x144x1024_0_0_0).toLoadRect d
  a1 := View.readAt (Elt F) aSc.view (Rect.unit (s := S2x144x1024) ![1, 0, 0] S1x144x1024.size inb_S2x144x1024_S1x144x1024_1_0_0).toLoadRect d

/-- What a body loads of an input block. -/
abbrev ldQ (arg : Memref sig .tc .vmem S128x1024 .f32) (x : S128x1024.Idx → Elt F .f32) : Vec F S128x1024 .f32 :=
  View.readAt (Elt F) arg.view (Rect.unit (s := S128x1024) ![0, 0] S128x1024.size inb_S128x1024_S128x1024_0_0).toLoadRect (arg.view.rep x)
abbrev ldK (arg : Memref sig .tc .vmem S1024x128 .bf16) (x : S1024x128.Idx → Elt F .bf16) : Vec F S1024x128 .bf16 :=
  View.readAt (Elt F) arg.view (Rect.unit (s := S1024x128) ![0, 0] S1024x128.size inb_S1024x128_S1024x128_0_0).toLoadRect (arg.view.rep x)
abbrev ldV (arg : Memref sig .tc .vmem S128x1024 .bf16) (x : S128x1024.Idx → Elt F .bf16) : Vec F S128x1024 .bf16 :=
  View.readAt (Elt F) arg.view (Rect.unit (s := S128x1024) ![0, 0] S128x1024.size inb_S128x1024_S128x1024_0_0).toLoadRect (arg.view.rep x)

theorem ldQ_eq (arg : Memref sig .tc .vmem S128x1024 .f32) (x : S128x1024.Idx → Elt F .f32) : ldQ arg x = x := View.readAt_rep_full _ _ _
theorem ldK_eq (arg : Memref sig .tc .vmem S1024x128 .bf16) (x : S1024x128.Idx → Elt F .bf16) : ldK arg x = x := View.readAt_rep_full _ _ _
theorem ldV_eq (arg : Memref sig .tc .vmem S128x1024 .bf16) (x : S128x1024.Idx → Elt F .bf16) : ldV arg x = x := View.readAt_rep_full _ _ _

abbrev rA0 : Rect S2x144x1024 := Rect.unit (s := S2x144x1024) ![0, 0, 0] S1x144x1024.size inb_S2x144x1024_S1x144x1024_0_0_0
abbrev rA1 : Rect S2x144x1024 := Rect.unit (s := S2x144x1024) ![1, 0, 0] S1x144x1024.size inb_S2x144x1024_S1x144x1024_1_0_0
abbrev rM0 : Rect S2x1x1024 := Rect.unit (s := S2x1x1024) ![0, 0, 0] S1x1x1024.size inb_S2x1x1024_S1x1x1024_0_0_0
abbrev rM1 : Rect S2x1x1024 := Rect.unit (s := S2x1x1024) ![1, 0, 0] S1x1x1024.size inb_S2x1x1024_S1x1x1024_1_0_0

theorem disj_A10 : LoadRect.disj rA1 rA0.toLoadRect = true := by decide
theorem disj_A01 : LoadRect.disj rA0 rA1.toLoadRect = true := by decide
theorem disj_M10 : LoadRect.disj rM1 rM0.toLoadRect = true := by decide

section
variable {sig' : RefSig} {κ' : Kind} {sp' : Space} {Val : EltTy → Type}

theorem readA0 (v : View sig' κ' sp' S2x144x1024 .f32) (f : v.ty.Contents Val) (X Y : S1x144x1024.Idx → Val .f32) (L : List (View.Piece Val S2x144x1024 .f32)) :
    v.readAt Val rA0.toLoadRect (v.writes Val f (⟨rA1, Y⟩ :: ⟨rA0, X⟩ :: L)) = X := by
  rw [readAt_skip _ _ _ _ _ disj_A10]
  exact readAt_hit v f rA0 X L

theorem readA1 (v : View sig' κ' sp' S2x144x1024 .f32) (f : v.ty.Contents Val) (X Y : S1x144x1024.Idx → Val .f32) (L : List (View.Piece Val S2x144x1024 .f32)) :
    v.readAt Val rA1.toLoadRect (v.writes Val f (⟨rA0, Y⟩ :: ⟨rA1, X⟩ :: L)) = X := by
  rw [readAt_skip _ _ _ _ _ disj_A01]
  exact readAt_hit v f rA1 X L

theorem readM0 (v : View sig' κ' sp' S2x1x1024 .f32) (f : v.ty.Contents Val) (X Y : S1x1x1024.Idx → Val .f32) (L : List (View.Piece Val S2x1x1024 .f32)) :
    v.readAt Val rM0.toLoadRect (v.writes Val f (⟨rM1, Y⟩ :: ⟨rM0, X⟩ :: L)) = X := by
  rw [readAt_skip _ _ _ _ _ disj_M10]
  exact readAt_hit v f rM0 X L

variable [∀ e, Nonempty (Val e)]

/-- A head's load after both heads' stores. -/
theorem loadA0 (v : View sig' κ' sp' S2x144x1024 .f32) (X Y : S1x144x1024.Idx → Val .f32) (L : List (View.Piece Val S2x144x1024 .f32)) :
    v.readCov (⟨rA1, Y⟩ :: ⟨rA0, X⟩ :: L) rA0.toLoadRect = X := readA0 v v.junk X Y L

theorem loadA1 (v : View sig' κ' sp' S2x144x1024 .f32) (X Y : S1x144x1024.Idx → Val .f32) (L : List (View.Piece Val S2x144x1024 .f32)) :
    v.readCov (⟨rA0, Y⟩ :: ⟨rA1, X⟩ :: L) rA1.toLoadRect = X := readA1 v v.junk X Y L

end

/-- The state held, from what the four loads of whole parts read. -/
theorem held_eq {b : mSc.view.ty.Contents (Elt F)} {d : aSc.view.ty.Contents (Elt F)} {X0 X1 : FVec F S1x1x1024 .f32} {Y0 Y1 : FVec F S1x144x1024 .f32}
    (h0 : View.readAt (Elt F) mSc.view rM0.toLoadRect b = X0) (h1 : View.readAt (Elt F) mSc.view rM1.toLoadRect b = X1)
    (h2 : View.readAt (Elt F) aSc.view rA0.toLoadRect d = Y0) (h3 : View.readAt (Elt F) aSc.view rA1.toLoadRect d = Y1) :
    held b d = ⟨X0, X1, Y0, Y1⟩ := by
  subst h0 h1 h2 h3; rfl

/-- The one number of the first input. -/
abbrev lamOf (x : S1.Idx → Elt F .f32) : Elt F .f32 := x (Shape.Idx.first (numel1_S1.symm ▸ Nat.one_pos))

abbrev rMw : Rect S2x1x1024 := Rect.unit (s := S2x1x1024) ![0, 0, 0] S2x1x1024.size inb_S2x1x1024_S2x1x1024_0_0_0
abbrev rAw : Rect S2x144x1024 := Rect.unit (s := S2x144x1024) ![0, 0, 0] S2x144x1024.size inb_S2x144x1024_S2x144x1024_0_0_0

/-- The scratch buffers as the first key block of a query block sets them. -/
def freshM : mSc.view.ty.Contents (Elt F) := View.writes mSc.view (Elt F) mSc.view.junk [⟨rMw, k0_pay1 (F := F)⟩]
def freshA : aSc.view.ty.Contents (Elt F) := View.writes aSc.view (Elt F) aSc.view.junk [⟨rAw, k0_pay2 (F := F)⟩]

theorem held_fresh : held (F := F) freshM freshA = start := by
  refine held_eq ?_ ?_ ?_ ?_
  · rw [readAt_part mSc.view freshM (off := ![0, 0, 0]) (size := S2x1x1024.size) (d := ![0, 0, 0]) inb_S2x1x1024_S2x1x1024_0_0_0 _ (by decide) (by decide)]
    unfold freshM
    rw [readAt_hit]
    rfl
  · rw [readAt_part mSc.view freshM (off := ![0, 0, 0]) (size := S2x1x1024.size) (d := ![1, 0, 0]) inb_S2x1x1024_S2x1x1024_0_0_0 _ (by decide) (by decide)]
    unfold freshM
    rw [readAt_hit]
    rfl
  · rw [readAt_part aSc.view freshA (off := ![0, 0, 0]) (size := S2x144x1024.size) (d := ![0, 0, 0]) inb_S2x144x1024_S2x144x1024_0_0_0 _ (by decide) (by decide)]
    unfold freshA
    rw [readAt_hit]
    rfl
  · rw [readAt_part aSc.view freshA (off := ![0, 0, 0]) (size := S2x144x1024.size) (d := ![1, 0, 0]) inb_S2x144x1024_S2x144x1024_0_0_0 _ (by decide) (by decide)]
    unfold freshA
    rw [readAt_hit]
    rfl

/-- The later queries' columns of a head's running sums. -/
abbrev rT0a : Rect S2x144x1024 := Rect.unit (s := S2x144x1024) ![0, 0, 256] S1x144x768.size inb_S2x144x1024_S1x144x768_0_0_256
abbrev rT1a : Rect S2x144x1024 := Rect.unit (s := S2x144x1024) ![1, 0, 256] S1x144x768.size inb_S2x144x1024_S1x144x768_1_0_256
abbrev rT0b : Rect S2x144x1024 := Rect.unit (s := S2x144x1024) ![0, 0, 512] S1x144x512.size inb_S2x144x1024_S1x144x512_0_0_512
abbrev rT1b : Rect S2x144x1024 := Rect.unit (s := S2x144x1024) ![1, 0, 512] S1x144x512.size inb_S2x144x1024_S1x144x512_1_0_512
abbrev rT0c : Rect S2x144x1024 := Rect.unit (s := S2x144x1024) ![0, 0, 768] S1x144x256.size inb_S2x144x1024_S1x144x256_0_0_768
abbrev rT1c : Rect S2x144x1024 := Rect.unit (s := S2x144x1024) ![1, 0, 768] S1x144x256.size inb_S2x144x1024_S1x144x256_1_0_768

/-- The rows that the output is made of. -/
abbrev rV0 : Rect S2x144x1024 := Rect.unit (s := S2x144x1024) ![0, 0, 0] S1x128x1024.size inb_S2x144x1024_S1x128x1024_0_0_0
abbrev rV1 : Rect S2x144x1024 := Rect.unit (s := S2x144x1024) ![1, 0, 0] S1x128x1024.size inb_S2x144x1024_S1x128x1024_1_0_0
abbrev rW0 : Rect S2x144x1024 := Rect.unit (s := S2x144x1024) ![0, 128, 0] S1x1x1024.size inb_S2x144x1024_S1x1x1024_0_128_0
abbrev rW1 : Rect S2x144x1024 := Rect.unit (s := S2x144x1024) ![1, 128, 0] S1x1x1024.size inb_S2x144x1024_S1x1x1024_1_128_0

theorem disj_T1a : LoadRect.disj rT1a rA0.toLoadRect = true := by decide
theorem disj_T1b : LoadRect.disj rT1b rA0.toLoadRect = true := by decide
theorem disj_T1c : LoadRect.disj rT1c rA0.toLoadRect = true := by decide
theorem disj_T0a : LoadRect.disj rT0a rA1.toLoadRect = true := by decide
theorem disj_T0b : LoadRect.disj rT0b rA1.toLoadRect = true := by decide
theorem disj_T0c : LoadRect.disj rT0c rA1.toLoadRect = true := by decide

section
variable {sig' : RefSig} {κ' : Kind} {sp' : Space} (v : View sig' κ' sp' S2x144x1024 .f32)

/-- A load of the later columns, a store of them, by the load of the whole part. -/
theorem tail0a (L : List (View.Piece (Elt F) S2x144x1024 .f32)) :
    v.readCov L rT0a.toLoadRect = tail256 (v.readAt (Elt F) rA0.toLoadRect (v.writes (Elt F) v.junk L)) :=
  readAt_part v _ (off := ![0, 0, 0]) (size := S1x144x1024.size) (d := ![0, 0, 256]) inb_S2x144x1024_S1x144x1024_0_0_0 inb_S2x144x1024_S1x144x768_0_0_256 (by decide) (by decide)

theorem put0a (f : v.ty.Contents (Elt F)) (W : FVec F S1x144x768 .f32) (L : List (View.Piece (Elt F) S2x144x1024 .f32)) :
    v.readAt (Elt F) rA0.toLoadRect (v.writes (Elt F) f (⟨rT0a, W⟩ :: L)) = putTail256 (v.readAt (Elt F) rA0.toLoadRect (v.writes (Elt F) f L)) W :=
  readAt_put v f (off := ![0, 0, 0]) (size := S1x144x1024.size) (d := ![0, 0, 256]) inb_S2x144x1024_S1x144x1024_0_0_0 inb_S2x144x1024_S1x144x768_0_0_256 (by decide) W L

theorem tail0b (L : List (View.Piece (Elt F) S2x144x1024 .f32)) :
    v.readCov L rT0b.toLoadRect = tail512 (v.readAt (Elt F) rA0.toLoadRect (v.writes (Elt F) v.junk L)) :=
  readAt_part v _ (off := ![0, 0, 0]) (size := S1x144x1024.size) (d := ![0, 0, 512]) inb_S2x144x1024_S1x144x1024_0_0_0 inb_S2x144x1024_S1x144x512_0_0_512 (by decide) (by decide)

theorem put0b (f : v.ty.Contents (Elt F)) (W : FVec F S1x144x512 .f32) (L : List (View.Piece (Elt F) S2x144x1024 .f32)) :
    v.readAt (Elt F) rA0.toLoadRect (v.writes (Elt F) f (⟨rT0b, W⟩ :: L)) = putTail512 (v.readAt (Elt F) rA0.toLoadRect (v.writes (Elt F) f L)) W :=
  readAt_put v f (off := ![0, 0, 0]) (size := S1x144x1024.size) (d := ![0, 0, 512]) inb_S2x144x1024_S1x144x1024_0_0_0 inb_S2x144x1024_S1x144x512_0_0_512 (by decide) W L

theorem tail0c (L : List (View.Piece (Elt F) S2x144x1024 .f32)) :
    v.readCov L rT0c.toLoadRect = tail768 (v.readAt (Elt F) rA0.toLoadRect (v.writes (Elt F) v.junk L)) :=
  readAt_part v _ (off := ![0, 0, 0]) (size := S1x144x1024.size) (d := ![0, 0, 768]) inb_S2x144x1024_S1x144x1024_0_0_0 inb_S2x144x1024_S1x144x256_0_0_768 (by decide) (by decide)

theorem put0c (f : v.ty.Contents (Elt F)) (W : FVec F S1x144x256 .f32) (L : List (View.Piece (Elt F) S2x144x1024 .f32)) :
    v.readAt (Elt F) rA0.toLoadRect (v.writes (Elt F) f (⟨rT0c, W⟩ :: L)) = putTail768 (v.readAt (Elt F) rA0.toLoadRect (v.writes (Elt F) f L)) W :=
  readAt_put v f (off := ![0, 0, 0]) (size := S1x144x1024.size) (d := ![0, 0, 768]) inb_S2x144x1024_S1x144x1024_0_0_0 inb_S2x144x1024_S1x144x256_0_0_768 (by decide) W L

theorem tail1a (L : List (View.Piece (Elt F) S2x144x1024 .f32)) :
    v.readCov L rT1a.toLoadRect = tail256 (v.readAt (Elt F) rA1.toLoadRect (v.writes (Elt F) v.junk L)) :=
  readAt_part v _ (off := ![1, 0, 0]) (size := S1x144x1024.size) (d := ![0, 0, 256]) inb_S2x144x1024_S1x144x1024_1_0_0 inb_S2x144x1024_S1x144x768_1_0_256 (by decide) (by decide)

theorem put1a (f : v.ty.Contents (Elt F)) (W : FVec F S1x144x768 .f32) (L : List (View.Piece (Elt F) S2x144x1024 .f32)) :
    v.readAt (Elt F) rA1.toLoadRect (v.writes (Elt F) f (⟨rT1a, W⟩ :: L)) = putTail256 (v.readAt (Elt F) rA1.toLoadRect (v.writes (Elt F) f L)) W :=
  readAt_put v f (off := ![1, 0, 0]) (size := S1x144x1024.size) (d := ![0, 0, 256]) inb_S2x144x1024_S1x144x1024_1_0_0 inb_S2x144x1024_S1x144x768_1_0_256 (by decide) W L

theorem tail1b (L : List (View.Piece (Elt F) S2x144x1024 .f32)) :
    v.readCov L rT1b.toLoadRect = tail512 (v.readAt (Elt F) rA1.toLoadRect (v.writes (Elt F) v.junk L)) :=
  readAt_part v _ (off := ![1, 0, 0]) (size := S1x144x1024.size) (d := ![0, 0, 512]) inb_S2x144x1024_S1x144x1024_1_0_0 inb_S2x144x1024_S1x144x512_1_0_512 (by decide) (by decide)

theorem put1b (f : v.ty.Contents (Elt F)) (W : FVec F S1x144x512 .f32) (L : List (View.Piece (Elt F) S2x144x1024 .f32)) :
    v.readAt (Elt F) rA1.toLoadRect (v.writes (Elt F) f (⟨rT1b, W⟩ :: L)) = putTail512 (v.readAt (Elt F) rA1.toLoadRect (v.writes (Elt F) f L)) W :=
  readAt_put v f (off := ![1, 0, 0]) (size := S1x144x1024.size) (d := ![0, 0, 512]) inb_S2x144x1024_S1x144x1024_1_0_0 inb_S2x144x1024_S1x144x512_1_0_512 (by decide) W L

theorem tail1c (L : List (View.Piece (Elt F) S2x144x1024 .f32)) :
    v.readCov L rT1c.toLoadRect = tail768 (v.readAt (Elt F) rA1.toLoadRect (v.writes (Elt F) v.junk L)) :=
  readAt_part v _ (off := ![1, 0, 0]) (size := S1x144x1024.size) (d := ![0, 0, 768]) inb_S2x144x1024_S1x144x1024_1_0_0 inb_S2x144x1024_S1x144x256_1_0_768 (by decide) (by decide)

theorem put1c (f : v.ty.Contents (Elt F)) (W : FVec F S1x144x256 .f32) (L : List (View.Piece (Elt F) S2x144x1024 .f32)) :
    v.readAt (Elt F) rA1.toLoadRect (v.writes (Elt F) f (⟨rT1c, W⟩ :: L)) = putTail768 (v.readAt (Elt F) rA1.toLoadRect (v.writes (Elt F) f L)) W :=
  readAt_put v f (off := ![1, 0, 0]) (size := S1x144x1024.size) (d := ![0, 0, 768]) inb_S2x144x1024_S1x144x1024_1_0_0 inb_S2x144x1024_S1x144x256_1_0_768 (by decide) W L

theorem rows0 (L : List (View.Piece (Elt F) S2x144x1024 .f32)) :
    v.readCov L rV0.toLoadRect = rows (v.readAt (Elt F) rA0.toLoadRect (v.writes (Elt F) v.junk L)) :=
  readAt_part v _ (off := ![0, 0, 0]) (size := S1x144x1024.size) (d := ![0, 0, 0]) inb_S2x144x1024_S1x144x1024_0_0_0 inb_S2x144x1024_S1x128x1024_0_0_0 (by decide) (by decide)

theorem weight0 (L : List (View.Piece (Elt F) S2x144x1024 .f32)) :
    v.readCov L rW0.toLoadRect = weight (v.readAt (Elt F) rA0.toLoadRect (v.writes (Elt F) v.junk L)) :=
  readAt_part v _ (off := ![0, 0, 0]) (size := S1x144x1024.size) (d := ![0, 128, 0]) inb_S2x144x1024_S1x144x1024_0_0_0 inb_S2x144x1024_S1x1x1024_0_128_0 (by decide) (by decide)

theorem rows1 (L : List (View.Piece (Elt F) S2x144x1024 .f32)) :
    v.readCov L rV1.toLoadRect = rows (v.readAt (Elt F) rA1.toLoadRect (v.writes (Elt F) v.junk L)) :=
  readAt_part v _ (off := ![1, 0, 0]) (size := S1x144x1024.size) (d := ![0, 0, 0]) inb_S2x144x1024_S1x144x1024_1_0_0 inb_S2x144x1024_S1x128x1024_1_0_0 (by decide) (by decide)

theorem weight1 (L : List (View.Piece (Elt F) S2x144x1024 .f32)) :
    v.readCov L rW1.toLoadRect = weight (v.readAt (Elt F) rA1.toLoadRect (v.writes (Elt F) v.junk L)) :=
  readAt_part v _ (off := ![1, 0, 0]) (size := S1x144x1024.size) (d := ![0, 128, 0]) inb_S2x144x1024_S1x144x1024_1_0_0 inb_S2x144x1024_S1x1x1024_1_128_0 (by decide) (by decide)

end

end Cert.KernelIdeal.Attn

end
-- ==== Proof.Sched.lean ====
/- The pairs (query block, key block) that the attention kernel's grid walks, and what they decide at each point. -/
module

public import proofs.«01_k».proof.Proof.Held

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

variable {F : FTy → Type} [FloatOps F] [Named F]

/-- The query block and the key block that the tables hold for the pair `p`. -/
abbrev qiOf (p : Fin 136) : BitVec 32 := lit0 p
abbrev kjOf (p : Fin 136) : BitVec 32 := lit1 p

/-- The tables, as the host writes them. -/
abbrev tabQ : S136.Idx → BitVec 32 := fun i => lit0 (S136.rowMajor i)
abbrev tabK : S136.Idx → BitVec 32 := fun i => lit1 (S136.rowMajor i)

def tabs : pre0.Contents (Elt F) := fun | ⟨0, _⟩ => tabQ | ⟨1, _⟩ => tabK | ⟨_ + 2, h⟩ => absurd h (by simp)

/-- A grid point's pair. -/
abbrev pairOf (i : grid0.Coords) : Fin 136 := i 1

theorem words_all : (List.finRange grid0.N).all (fun t =>
    decide (wordOf (F := F) tq (grid0.coords t) tabQ = qiOf (pairOf (grid0.coords t)))
    && decide (wordOf (F := F) tk (grid0.coords t) tabK = kjOf (pairOf (grid0.coords t)))) = true := by sl_kernel_rfl

theorem words (t : Fin grid0.N) : wordOf (F := F) tq (grid0.coords t) tabQ = qiOf (pairOf (grid0.coords t))
    ∧ wordOf (F := F) tk (grid0.coords t) tabK = kjOf (pairOf (grid0.coords t)) := by
  have h := List.all_eq_true.1 (words_all (F := F)) t (List.mem_finRange t)
  rw [Bool.and_eq_true] at h
  exact ⟨of_decide_eq_true h.1, of_decide_eq_true h.2⟩

/-- Every block that a table names lies inside its array. -/
theorem inb1 : ∀ i : grid0.Coords, ∀ a, (cc0_transform_1 k0_off1_inb numel1_S1 (tabs (F := F)) i a + 1) * S128x1024.size a ≤ S512x16384.size a :=
  of_decide_eq_true (by sl_kernel_rfl)
theorem inb2 : ∀ i : grid0.Coords, ∀ a, (cc0_transform_2 k0_off1_inb numel1_S1 (tabs (F := F)) i a + 1) * S1024x128.size a ≤ S16384x512.size a :=
  of_decide_eq_true (by sl_kernel_rfl)
theorem inb3 : ∀ i : grid0.Coords, ∀ a, (cc0_transform_3 k0_off1_inb numel1_S1 (tabs (F := F)) i a + 1) * S128x1024.size a ≤ S512x16384.size a :=
  of_decide_eq_true (by sl_kernel_rfl)
theorem inb5 : ∀ i : grid0.Coords, ∀ a, (cc0_transform_5 k0_off1_inb numel1_S1 (tabs (F := F)) i a + 1) * S1024x128.size a ≤ S16384x512.size a :=
  of_decide_eq_true (by sl_kernel_rfl)

theorem tabs_ok : ok0 (tabs (F := F)) :=
  ⟨fun i => ⟨inb1 i, .inl rfl⟩,
   fun i => ⟨inb2 i, .inr (Affine.block_words_dvd (s := S16384x512) (p := EltTy.packing .bf16) (by decide) (by decide))⟩,
   fun i => ⟨inb3 i, .inr (Affine.block_words_dvd (s := S512x16384) (p := EltTy.packing .bf16) (by decide) (by decide))⟩,
   fun i => ⟨inb5 i, .inr (Affine.block_words_dvd (s := S16384x512) (p := EltTy.packing .bf16) (by decide) (by decide))⟩⟩

/-- The tables that the pipeline runs at, and the pipeline at them. -/
def adm : (pcfg0 (F := F)).Adm := ⟨tabs, tabs_ok⟩
abbrev cfgA : Pipeline.Cfg sig Λ₀ := cfg0 (F := F) adm

abbrev crd (t : Fin (cfgA (F := F)).N) : grid0.Coords := grid0.coords t
abbrev qw (t : Fin (cfgA (F := F)).N) : BitVec 32 := qiOf (pairOf (crd t))
abbrev kw (t : Fin (cfgA (F := F)).N) : BitVec 32 := kjOf (pairOf (crd t))

/-- Whether a point's key block lies strictly before its query block's own, and whether it is the first one. -/
def before (p : Fin 136) : Prop := (Scalar.cmpi .ne (Scalar.extui (Scalar.cmpi .slt (kjOf p) (Scalar.muli (qiOf p) 1#32))) 0#32) = 1#1
def first (p : Fin 136) : Prop := (Scalar.cmpi .ne (Scalar.extui (Scalar.cmpi .eq (kjOf p) 0#32)) 0#32) = 1#1
instance (p : Fin 136) : Decidable (before p) := by unfold before; infer_instance
instance (p : Fin 136) : Decidable (first p) := by unfold first; infer_instance

theorem flushes_all : (List.finRange grid0.N).all (fun t =>
    decide (((cfgA (F := F)).win (5 : Fin 6)).flushF t = !decide (before (pairOf (grid0.coords t))))
    && decide ((cfgA (F := F)).idle (5 : Fin 6) (grid0.coords t) = decide (before (pairOf (grid0.coords t))))) = true := by sl_kernel_rfl

theorem flushes (t : Fin (cfgA (F := F)).N) : ((cfgA (F := F)).win (5 : Fin 6)).flush t = !decide (before (pairOf (crd t)))
    ∧ (cfgA (F := F)).idle (5 : Fin 6) (crd t) = decide (before (pairOf (crd t))) := by
  have h := List.all_eq_true.1 (flushes_all (F := F)) t (List.mem_finRange t)
  rw [Bool.and_eq_true] at h
  exact ⟨(Pipeline.Window.flush_eq_flushF _ t).trans (of_decide_eq_true h.1), of_decide_eq_true h.2⟩

/-- The body's other two decisions are the negation of `before`. -/
theorem others : ∀ p : Fin 136,
    ((Scalar.cmpi .ne (Scalar.extui (Scalar.cmpi .sge (kjOf p) (Scalar.muli (qiOf p) 1#32))) 0#32) = 1#1 ↔ ¬ before p)
    ∧ (k0_cond4 (qiOf p) (kjOf p) = 1#1 ↔ ¬ before p) := by decide +kernel

end Cert.KernelIdeal.Attn

end
-- ==== Proof.RunA.lean ====
/- One grid point at the first key block where it is also the diagonal one. -/
module

public import proofs.«01_k».proof.Proof.Held

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces (readAt_hit readAt_skip readAt_part readAt_put)

variable {F : FTy → Type} [FloatOps F] [Named F]

local notation "𝕄" => MT nD τ sig Unit (Elt F) ℕ (UR sig nD τ) ℕ

set_option maxHeartbeats 1000000 in
/-- The body at such a point: the state starts anew, moves by the diagonal key block, and the query block's output is written. -/
theorem run_A (c : Dev nD) (i : grid0.Coords) (arg4 : Memref sig .tc .smem S1 .f32) (harg4 : arg4.IsWhole) (arg5 : Memref sig .tc .vmem S128x1024 .f32) (harg5 : arg5.IsWhole)
    (arg6 : Memref sig .tc .vmem S1024x128 .bf16) (harg6 : arg6.IsWhole) (arg7 : Memref sig .tc .vmem S128x1024 .bf16) (harg7 : arg7.IsWhole)
    (arg8 : Memref sig .tc .vmem S1x128 .f32) (harg8 : arg8.IsWhole) (arg9 : Memref sig .tc .vmem S1024x128 .bf16) (harg9 : arg9.IsWhole)
    (T0 T1 : S136.Idx → Elt F .i32)
    (x0 : S1.Idx → Elt F .f32) (x1 : S128x1024.Idx → Elt F .f32) (x2 : S1024x128.Idx → Elt F .bf16) (x3 : S128x1024.Idx → Elt F .bf16) (x4 : S1x128.Idx → Elt F .f32)
    (h0 : (Scalar.cmpi .ne (Scalar.extui (Scalar.cmpi .eq (wordOf tk i T1) 0#32)) 0#32) = 1#1)
    (h1 : ¬ (Scalar.cmpi .ne (Scalar.extui (Scalar.cmpi .slt (wordOf tk i T1) (Scalar.muli (wordOf tq i T0) 1#32))) 0#32) = 1#1)
    (h2 : (Scalar.cmpi .ne (Scalar.extui (Scalar.cmpi .sge (wordOf tk i T1) (Scalar.muli (wordOf tq i T0) 1#32))) 0#32) = 1#1)
    (h3 : k0_cond4 (wordOf tq i T0) (wordOf tk i T1) = 1#1)
    (f9 : arg9.view.ty.Contents (Elt F)) (b : Buf (Elt F) ((c : Thread nD τ).loc cc0_scratch0)) (d : Buf (Elt F) ((c : Thread nD τ).loc cc0_scratch1)) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} f9)
          ∗ (tq.view.loc (c : Thread nD τ) ↦{fullShare.right} T0)
          ∗ (tk.view.loc (c : Thread nD τ) ↦{fullShare.right} T1)
          ∗ (mSc.view.loc (c : Thread nD τ) ↦{fullShare} b)
          ∗ (aSc.view.loc (c : Thread nD τ) ↦{fullShare} d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep (out (lamOf x0) x4 (diag (wordOf tq i T0) (wordOf tk i T1) x1 x2 x3 start)))
              ∗ (tq.view.loc (c : Thread nD τ) ↦{fullShare.right} T0)
              ∗ (tk.view.loc (c : Thread nD τ) ↦{fullShare.right} T1)
              ∗ (∃ b' d', ⌜held b' d' = diag (wordOf tq i T0) (wordOf tk i T1) x1 x2 x3 start⌝ ∗ (mSc.view.loc (c : Thread nD τ) ↦{fullShare} b') ∗ (aSc.view.loc (c : Thread nD τ) ↦{fullShare} d'))) -∗ K ⟨⟩))
      ⊢ wp frame (wpE (defs₀ (F := F)) Variants.none c none) Set.univ
          (cc0_attn_prompt i tq (Memref.isWhole_whole _) tk (Memref.isWhole_whole _) arg4 harg4 arg5 harg5 arg6 harg6 arg7 harg7 arg8 harg8 arg9 harg9 mSc (Memref.isWhole_whole _) aSc (Memref.isWhole_whole _)) K := by
  rw [cc0_attn_prompt_eq_skeleton]; unfold cc0_attn_prompt_skel
  iintro ⟨H0, H1, H2, H3, H4, H5, HT0, HT1, HS0, HS1, Hk⟩
  have hS0 : mSc.IsWhole := Memref.isWhole_whole _
  have hS1 : aSc.IsWhole := Memref.isWhole_whole _
  have hT0 : tq.IsWhole := Memref.isWhole_whole _
  have hT1 : tk.IsWhole := Memref.isWhole_whole _
  sl_exec! (disch := first | sl_exact h0 | sl_exact h1 | sl_exact h2 | sl_exact h3)
  sl_step
  have hq := ldQ_eq arg5 x1
  have hk := ldK_eq arg6 x2
  have hv := ldV_eq arg7 x3
  have S : held (F := F) freshM freshA = ⟨run_A.sl.v145 (F := F), run_A.sl.v147 (F := F), run_A.sl.v167 (F := F), run_A.sl.v177 (F := F) i arg5 arg6 arg7 T0 T1 x1 x2 x3⟩ := by
    refine held_eq ?_ ?_ ?_ ?_
    · unfold run_A.sl.v145 run_A.sl.HS0_1; rfl
    · unfold run_A.sl.v147 run_A.sl.HS0_1; rfl
    · unfold run_A.sl.v167 run_A.sl.HS1_1; rfl
    · unfold run_A.sl.v177 run_A.sl.HS1_2
      rw [View.readCov, readAt_skip _ _ _ _ _ disj_A01]
      rfl
  have A0 : run_A.sl.v211 i arg5 arg6 arg7 T0 T1 x1 x2 x3 = tail256 (dA0 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v211 run_A.sl.HS1_3 run_A.sl.HS1_2
    rw [tail0a, readA0]
    refine congrArg tail256 ?_
    dsimp only [dA0, sc00]
    rfl
  have A1 : run_A.sl.v221 i arg5 arg6 arg7 T0 T1 x1 x2 x3 = tail256 (dA1 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v221 run_A.sl.HS1_4 run_A.sl.HS1_3
    rw [tail1a, readAt_skip _ _ _ _ _ disj_T0a, readAt_hit]
    refine congrArg tail256 ?_
    dsimp only [dA1, sc01]
    rfl
  have B0 : run_A.sl.v255 i arg5 arg6 arg7 T0 T1 x1 x2 x3 = tail512 (dB0 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v255 run_A.sl.HS1_5 run_A.sl.HS1_4 run_A.sl.HS1_3 run_A.sl.HS1_2
    rw [tail0b, readAt_skip _ _ _ _ _ disj_T1a, put0a, readA0, dB0, ← A0]
    dsimp only [dA0, sc00, sc10, lag, dT0]
    rfl
  have B1 : run_A.sl.v265 i arg5 arg6 arg7 T0 T1 x1 x2 x3 = tail512 (dB1 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v265 run_A.sl.HS1_6 run_A.sl.HS1_5 run_A.sl.HS1_4 run_A.sl.HS1_3
    rw [tail1b, readAt_skip _ _ _ _ _ disj_T0b, put1a, readAt_skip _ _ _ _ _ disj_T0a, readAt_hit, dB1, ← A1]
    dsimp only [dA1, sc01, sc11, lag, dM1]
    rfl
  have C0 : run_A.sl.v299 i arg5 arg6 arg7 T0 T1 x1 x2 x3 = tail768 (dC0 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v299 run_A.sl.HS1_7 run_A.sl.HS1_6 run_A.sl.HS1_5 run_A.sl.HS1_4 run_A.sl.HS1_3 run_A.sl.HS1_2
    rw [tail0c, readAt_skip _ _ _ _ _ disj_T1b, put0b, readAt_skip _ _ _ _ _ disj_T1a, put0a, readA0, dC0, ← B0, dB0, ← A0]
    dsimp only [dA0, sc00, sc10, sc20, lag, dT0, dU0, dM0]
    rfl
  have C1 : run_A.sl.v309 i arg5 arg6 arg7 T0 T1 x1 x2 x3 = tail768 (dC1 (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.v309 run_A.sl.HS1_8 run_A.sl.HS1_7 run_A.sl.HS1_6 run_A.sl.HS1_5 run_A.sl.HS1_4 run_A.sl.HS1_3
    rw [tail1c, readAt_skip _ _ _ _ _ disj_T0c, put1b, readAt_skip _ _ _ _ _ disj_T0b, put1a, readAt_skip _ _ _ _ _ disj_T0a, readAt_hit, dC1, ← B1, dB1, ← A1]
    dsimp only [dA1, sc01, sc11, sc21, lag, dM1, dN1]
    rfl
  have D0 : View.readAt (Elt F) aSc.view rA0.toLoadRect (aSc.view.writes (Elt F) aSc.view.junk (run_A.sl.HS1_9 i arg5 arg6 arg7 T0 T1 x1 x2 x3)) = (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a0 := by
    unfold run_A.sl.HS1_9 run_A.sl.HS1_8 run_A.sl.HS1_7 run_A.sl.HS1_6 run_A.sl.HS1_5 run_A.sl.HS1_4 run_A.sl.HS1_3 run_A.sl.HS1_2
    rw [readAt_skip _ _ _ _ _ disj_T1c, put0c, readAt_skip _ _ _ _ _ disj_T1b, put0b, readAt_skip _ _ _ _ _ disj_T1a, put0a, readA0]
    dsimp only [diag]
    rw [← C0, dC0, ← B0, dB0, ← A0]
    dsimp only [dA0, sc00, sc10, sc20, sc30, lag, dT0, dU0, dM0, dN0, dV0]
    rfl
  have D1 : View.readAt (Elt F) aSc.view rA1.toLoadRect (aSc.view.writes (Elt F) aSc.view.junk (run_A.sl.HS1_9 i arg5 arg6 arg7 T0 T1 x1 x2 x3)) = (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a1 := by
    unfold run_A.sl.HS1_9 run_A.sl.HS1_8 run_A.sl.HS1_7 run_A.sl.HS1_6 run_A.sl.HS1_5 run_A.sl.HS1_4 run_A.sl.HS1_3
    rw [put1c, readAt_skip _ _ _ _ _ disj_T0c, put1b, readAt_skip _ _ _ _ _ disj_T0b, put1a, readAt_skip _ _ _ _ _ disj_T0a, readAt_hit]
    dsimp only [diag]
    rw [← C1, dC1, ← B1, dB1, ← A1]
    dsimp only [dA1, sc01, sc11, sc21, sc31, lag, dM1, dN1, dP1]
    rfl
  have V0 : run_A.sl.v21 i arg5 arg6 arg7 T0 T1 x1 x2 x3 = rows (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a0 := by
    unfold run_A.sl.v21
    rw [rows0, D0]
  have V1 : run_A.sl.v27 i arg5 arg6 arg7 T0 T1 x1 x2 x3 = rows (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a1 := by
    unfold run_A.sl.v27
    rw [rows1, D1]
  have W0 : run_A.sl.v23 i arg5 arg6 arg7 T0 T1 x1 x2 x3 = weight (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a0 := by
    unfold run_A.sl.v23
    rw [weight0, D0]
  have W1 : run_A.sl.v29 i arg5 arg6 arg7 T0 T1 x1 x2 x3 = weight (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a1 := by
    unfold run_A.sl.v29
    rw [weight1, D1]
  have G : diag (wordOf tq i T0) (wordOf tk i T1) x1 x2 x3 start = diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩ := by rw [hq, hk, hv, ← S, held_fresh]
  rw [G]
  have E (f : arg9.view.ty.Contents (Elt F)) : arg9.view.read (Elt F) (arg9.view.writes (Elt F) f (run_A.sl.H5_1 i arg4 arg5 arg6 arg7 arg8 T0 T1 x0 x1 x2 x3 x4)) = out (lamOf x0) x4 (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩) := by
    unfold run_A.sl.H5_1
    rw [View.read_writes_full, V0, V1, W0, W1, out]
    refine congrArg₂ (k0_pay6 _ _ _ _) ?_ ?_
    · unfold run_A.sl.r_20
      exact congrFun (View.readAt_rep_full arg4.view x0 _) _
    · exact View.readAt_rep_full arg8.view x4 _
  iapply Hk
  isplitl [H0]; · iexact H0
  isplitl [H1]; · iexact H1
  isplitl [H2]; · iexact H2
  isplitl [H3]; · iexact H3
  isplitl [H4]; · iexact H4
  isplitl [H5]
  · iapply (pointsTo_rep_of_read (c : Thread nD τ) arg9 _ _ _ (E _))
    iexact H5
  isplitl [HT0]; · iexact HT0
  isplitl [HT1]; · iexact HT1
  iexists _, _
  isplitr
  swap
  · isplitl [HS0]; · iexact HS0
    iexact HS1
  ipureintro
  show _ = (⟨(diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).m0, (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).m1, (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a0, (diag (wordOf tq i T0) (wordOf tk i T1) (ldQ arg5 x1) (ldK arg6 x2) (ldV arg7 x3) ⟨run_A.sl.v145 (F := F), run_A.sl.v147 (F := F), run_A.sl.v167 (F := F), run_A.sl.v177 (F := F) i arg5 arg6 arg7 T0 T1 x1 x2 x3⟩).a1⟩ : St F)
  refine held_eq ?_ ?_ D0 D1
  · unfold run_A.sl.HS0_3
    rw [readM0]
    dsimp only [diag, sc00, sc10, sc20, sc30, lag, dT0, dU0, dM0, dN0, dV0, dP0]; rfl
  · unfold run_A.sl.HS0_3
    rw [readAt_hit]
    dsimp only [diag, sc01, sc11, sc21, sc31, lag, dM1, dN1, dP1, dT0, dU0, dM0, dN0, dV0, dP0]; rfl

end Cert.KernelIdeal.Attn

end
-- ==== Proof.RunB.lean ====
/- One grid point at the first key block, strictly before the diagonal one. -/
module

public import proofs.«01_k».proof.Proof.Held

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces (readAt_hit readAt_skip readAt_part readAt_put)

variable {F : FTy → Type} [FloatOps F] [Named F]

local notation "𝕄" => MT nD τ sig Unit (Elt F) ℕ (UR sig nD τ) ℕ

set_option maxHeartbeats 1000000 in
/-- The body at such a point: the state starts anew and moves by one whole key block. -/
theorem run_B (c : Dev nD) (i : grid0.Coords) (arg4 : Memref sig .tc .smem S1 .f32) (harg4 : arg4.IsWhole) (arg5 : Memref sig .tc .vmem S128x1024 .f32) (harg5 : arg5.IsWhole)
    (arg6 : Memref sig .tc .vmem S1024x128 .bf16) (harg6 : arg6.IsWhole) (arg7 : Memref sig .tc .vmem S128x1024 .bf16) (harg7 : arg7.IsWhole)
    (arg8 : Memref sig .tc .vmem S1x128 .f32) (harg8 : arg8.IsWhole) (arg9 : Memref sig .tc .vmem S1024x128 .bf16) (harg9 : arg9.IsWhole)
    (T0 T1 : S136.Idx → Elt F .i32)
    (x0 : S1.Idx → Elt F .f32) (x1 : S128x1024.Idx → Elt F .f32) (x2 : S1024x128.Idx → Elt F .bf16) (x3 : S128x1024.Idx → Elt F .bf16) (x4 : S1x128.Idx → Elt F .f32)
    (h0 : (Scalar.cmpi .ne (Scalar.extui (Scalar.cmpi .eq (wordOf tk i T1) 0#32)) 0#32) = 1#1)
    (h1 : (Scalar.cmpi .ne (Scalar.extui (Scalar.cmpi .slt (wordOf tk i T1) (Scalar.muli (wordOf tq i T0) 1#32))) 0#32) = 1#1)
    (h2 : ¬ (Scalar.cmpi .ne (Scalar.extui (Scalar.cmpi .sge (wordOf tk i T1) (Scalar.muli (wordOf tq i T0) 1#32))) 0#32) = 1#1)
    (h3 : ¬ k0_cond4 (wordOf tq i T0) (wordOf tk i T1) = 1#1)
    (b : Buf (Elt F) ((c : Thread nD τ).loc cc0_scratch0)) (d : Buf (Elt F) ((c : Thread nD τ).loc cc0_scratch1)) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tq.view.loc (c : Thread nD τ) ↦{fullShare.right} T0)
          ∗ (tk.view.loc (c : Thread nD τ) ↦{fullShare.right} T1)
          ∗ (mSc.view.loc (c : Thread nD τ) ↦{fullShare} b)
          ∗ (aSc.view.loc (c : Thread nD τ) ↦{fullShare} d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tq.view.loc (c : Thread nD τ) ↦{fullShare.right} T0)
              ∗ (tk.view.loc (c : Thread nD τ) ↦{fullShare.right} T1)
              ∗ (∃ b' d', ⌜held b' d' = full x1 x2 x3 start⌝ ∗ (mSc.view.loc (c : Thread nD τ) ↦{fullShare} b') ∗ (aSc.view.loc (c : Thread nD τ) ↦{fullShare} d'))) -∗ K ⟨⟩))
      ⊢ wp frame (wpE (defs₀ (F := F)) Variants.none c none) Set.univ
          (cc0_attn_prompt i tq (Memref.isWhole_whole _) tk (Memref.isWhole_whole _) arg4 harg4 arg5 harg5 arg6 harg6 arg7 harg7 arg8 harg8 arg9 harg9 mSc (Memref.isWhole_whole _) aSc (Memref.isWhole_whole _)) K := by
  rw [cc0_attn_prompt_eq_skeleton]; unfold cc0_attn_prompt_skel
  iintro ⟨H0, H1, H2, H3, H4, HT0, HT1, HS0, HS1, Hk⟩
  have hS0 : mSc.IsWhole := Memref.isWhole_whole _
  have hS1 : aSc.IsWhole := Memref.isWhole_whole _
  have hT0 : tq.IsWhole := Memref.isWhole_whole _
  have hT1 : tk.IsWhole := Memref.isWhole_whole _
  sl_exec! (disch := first | sl_exact h0 | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _, _
  isplitr
  swap
  · isplitl [HS0]; · iexact HS0
    iexact HS1
  ipureintro
  have hq := ldQ_eq arg5 x1
  have hk := ldK_eq arg6 x2
  have hv := ldV_eq arg7 x3
  have S : held (F := F) freshM freshA = ⟨run_B.sl.v56 (F := F), run_B.sl.v58 (F := F), run_B.sl.v78 (F := F), run_B.sl.v88 (F := F) arg5 arg6 arg7 x1 x2 x3⟩ := by
    refine held_eq ?_ ?_ ?_ ?_
    · unfold run_B.sl.v56 run_B.sl.HS0_1; rfl
    · unfold run_B.sl.v58 run_B.sl.HS0_1; rfl
    · unfold run_B.sl.v78 run_B.sl.HS1_1; rfl
    · unfold run_B.sl.v88 run_B.sl.HS1_2
      rw [View.readCov, readAt_skip _ _ _ _ _ disj_A01]
      rfl
  have A0 : run_B.sl.v116 arg5 arg6 arg7 x1 x2 x3 = fullA0 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v116 run_B.sl.HS1_3 run_B.sl.HS1_2
    rw [loadA0]
    dsimp only [fullA0]
    rfl
  have A1 : run_B.sl.v126 arg5 arg6 arg7 x1 x2 x3 = fullA1 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v126 run_B.sl.HS1_4 run_B.sl.HS1_3
    rw [loadA1]
    dsimp only [fullA1]
    rfl
  have B0 : run_B.sl.v154 arg5 arg6 arg7 x1 x2 x3 = fullB0 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v154 run_B.sl.HS1_5 run_B.sl.HS1_4
    rw [loadA0, fullB0, ← A0]
    dsimp only [fullM0, fullN0, fullP0]
    rfl
  have B1 : run_B.sl.v164 arg5 arg6 arg7 x1 x2 x3 = fullB1 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v164 run_B.sl.HS1_6 run_B.sl.HS1_5
    rw [loadA1, fullB1, ← A1]
    dsimp only [fullM1, fullN1, fullP1]
    rfl
  have C0 : run_B.sl.v192 arg5 arg6 arg7 x1 x2 x3 = fullC0 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v192 run_B.sl.HS1_7 run_B.sl.HS1_6
    rw [loadA0, fullC0, ← B0]
    dsimp only [fullM0, fullN0, fullP0]
    rfl
  have C1 : run_B.sl.v202 arg5 arg6 arg7 x1 x2 x3 = fullC1 (ldQ arg5 x1) (ldK arg6 x2) (ldV arg7 x3) ⟨run_B.sl.v56 (F := F), run_B.sl.v58 (F := F), run_B.sl.v78 (F := F), run_B.sl.v88 (F := F) arg5 arg6 arg7 x1 x2 x3⟩ := by
    unfold run_B.sl.v202 run_B.sl.HS1_8 run_B.sl.HS1_7
    rw [loadA1, fullC1, ← B1]
    dsimp only [fullM1, fullN1, fullP1]
    rfl
  have G : full x1 x2 x3 start = full (ldQ arg5 x1) (ldK arg6 x2) (ldV arg7 x3) ⟨run_B.sl.v56 (F := F), run_B.sl.v58 (F := F), run_B.sl.v78 (F := F), run_B.sl.v88 (F := F) arg5 arg6 arg7 x1 x2 x3⟩ := by rw [hq, hk, hv, ← S, held_fresh]
  rw [G]
  unfold full run_B.sl.HS0_3 run_B.sl.HS0_2 run_B.sl.HS1_9 run_B.sl.HS1_8
  refine held_eq ?_ ?_ ?_ ?_
  · rw [readM0]
    dsimp only [fullP0, fullM0]; rfl
  · rw [readAt_hit]
    dsimp only [fullP1, fullN1, fullM1]; rfl
  · rw [readA0, ← C0]
    dsimp only [fullP0, fullM0]; rfl
  · rw [readAt_hit, ← C1]
    dsimp only [fullP1, fullN1, fullM1]; rfl

end Cert.KernelIdeal.Attn

end
-- ==== Proof.RunC.lean ====
/- One grid point at the diagonal key block, not the first. -/
module

public import proofs.«01_k».proof.Proof.Held

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces (readAt_hit readAt_skip readAt_part readAt_put)

variable {F : FTy → Type} [FloatOps F] [Named F]

local notation "𝕄" => MT nD τ sig Unit (Elt F) ℕ (UR sig nD τ) ℕ

set_option maxHeartbeats 1000000 in
/-- The body at such a point: the state moves by the diagonal key block and the query block's output is written. -/
theorem run_C (c : Dev nD) (i : grid0.Coords) (arg4 : Memref sig .tc .smem S1 .f32) (harg4 : arg4.IsWhole) (arg5 : Memref sig .tc .vmem S128x1024 .f32) (harg5 : arg5.IsWhole)
    (arg6 : Memref sig .tc .vmem S1024x128 .bf16) (harg6 : arg6.IsWhole) (arg7 : Memref sig .tc .vmem S128x1024 .bf16) (harg7 : arg7.IsWhole)
    (arg8 : Memref sig .tc .vmem S1x128 .f32) (harg8 : arg8.IsWhole) (arg9 : Memref sig .tc .vmem S1024x128 .bf16) (harg9 : arg9.IsWhole)
    (T0 T1 : S136.Idx → Elt F .i32)
    (x0 : S1.Idx → Elt F .f32) (x1 : S128x1024.Idx → Elt F .f32) (x2 : S1024x128.Idx → Elt F .bf16) (x3 : S128x1024.Idx → Elt F .bf16) (x4 : S1x128.Idx → Elt F .f32)
    (h0 : ¬ (Scalar.cmpi .ne (Scalar.extui (Scalar.cmpi .eq (wordOf tk i T1) 0#32)) 0#32) = 1#1)
    (h1 : ¬ (Scalar.cmpi .ne (Scalar.extui (Scalar.cmpi .slt (wordOf tk i T1) (Scalar.muli (wordOf tq i T0) 1#32))) 0#32) = 1#1)
    (h2 : (Scalar.cmpi .ne (Scalar.extui (Scalar.cmpi .sge (wordOf tk i T1) (Scalar.muli (wordOf tq i T0) 1#32))) 0#32) = 1#1)
    (h3 : k0_cond4 (wordOf tq i T0) (wordOf tk i T1) = 1#1)
    (f9 : arg9.view.ty.Contents (Elt F)) (b : Buf (Elt F) ((c : Thread nD τ).loc cc0_scratch0)) (d : Buf (Elt F) ((c : Thread nD τ).loc cc0_scratch1)) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} f9)
          ∗ (tq.view.loc (c : Thread nD τ) ↦{fullShare.right} T0)
          ∗ (tk.view.loc (c : Thread nD τ) ↦{fullShare.right} T1)
          ∗ (mSc.view.loc (c : Thread nD τ) ↦{fullShare} b)
          ∗ (aSc.view.loc (c : Thread nD τ) ↦{fullShare} d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep (out (lamOf x0) x4 (diag (wordOf tq i T0) (wordOf tk i T1) x1 x2 x3 (held b d))))
              ∗ (tq.view.loc (c : Thread nD τ) ↦{fullShare.right} T0)
              ∗ (tk.view.loc (c : Thread nD τ) ↦{fullShare.right} T1)
              ∗ (∃ b' d', ⌜held b' d' = diag (wordOf tq i T0) (wordOf tk i T1) x1 x2 x3 (held b d)⌝ ∗ (mSc.view.loc (c : Thread nD τ) ↦{fullShare} b') ∗ (aSc.view.loc (c : Thread nD τ) ↦{fullShare} d'))) -∗ K ⟨⟩))
      ⊢ wp frame (wpE (defs₀ (F := F)) Variants.none c none) Set.univ
          (cc0_attn_prompt i tq (Memref.isWhole_whole _) tk (Memref.isWhole_whole _) arg4 harg4 arg5 harg5 arg6 harg6 arg7 harg7 arg8 harg8 arg9 harg9 mSc (Memref.isWhole_whole _) aSc (Memref.isWhole_whole _)) K := by
  rw [cc0_attn_prompt_eq_skeleton]; unfold cc0_attn_prompt_skel
  iintro ⟨H0, H1, H2, H3, H4, H5, HT0, HT1, HS0, HS1, Hk⟩
  have hS0 : mSc.IsWhole := Memref.isWhole_whole _
  have hS1 : aSc.IsWhole := Memref.isWhole_whole _
  have hT0 : tq.IsWhole := Memref.isWhole_whole _
  have hT1 : tk.IsWhole := Memref.isWhole_whole _
  sl_exec! (disch := first | sl_exact h0 | sl_exact h1 | sl_exact h2 | sl_exact h3)
  sl_step
  have hq := ldQ_eq arg5 x1
  have hk := ldK_eq arg6 x2
  have hv := ldV_eq arg7 x3
  have A0 : run_C.sl.v211 c i arg5 arg6 arg7 T0 T1 x1 x2 x3 b d = tail256 (dA0 (wordOf tq i T0) (wordOf tk i T1) (ldQ arg5 x1) (ldK arg6 x2) (ldV arg7 x3) (held b d)) := by
    unfold run_C.sl.v211 run_C.sl.HS1_2
    rw [tail0a, readA0]
    refine congrArg tail256 ?_
    dsimp only [dA0, sc00]
    rfl
  have A1 : run_C.sl.v221 c i arg5 arg6 arg7 T0 T1 x1 x2 x3 b d = tail256 (dA1 (wordOf tq i T0) (wordOf tk i T1) (ldQ arg5 x1) (ldK arg6 x2) (ldV arg7 x3) (held b d)) := by
    unfold run_C.sl.v221 run_C.sl.HS1_3 run_C.sl.HS1_2
    rw [tail1a, readAt_skip _ _ _ _ _ disj_T0a, readAt_hit]
    refine congrArg tail256 ?_
    dsimp only [dA1, sc01]
    rfl
  have B0 : run_C.sl.v255 c i arg5 arg6 arg7 T0 T1 x1 x2 x3 b d = tail512 (dB0 (wordOf tq i T0) (wordOf tk i T1) (ldQ arg5 x1) (ldK arg6 x2) (ldV arg7 x3) (held b d)) := by
    unfold run_C.sl.v255 run_C.sl.HS1_4 run_C.sl.HS1_3 run_C.sl.HS1_2
    rw [tail0b, readAt_skip _ _ _ _ _ disj_T1a, put0a, readA0, dB0, ← A0]
    dsimp only [dA0, sc00, sc10, lag, dT0]
    rfl
  have B1 : run_C.sl.v265 c i arg5 arg6 arg7 T0 T1 x1 x2 x3 b d = tail512 (dB1 (wordOf tq i T0) (wordOf tk i T1) (ldQ arg5 x1) (ldK arg6 x2) (ldV arg7 x3) (held b d)) := by
    unfold run_C.sl.v265 run_C.sl.HS1_5 run_C.sl.HS1_4 run_C.sl.HS1_3 run_C.sl.HS1_2
    rw [tail1b, readAt_skip _ _ _ _ _ disj_T0b, put1a, readAt_skip _ _ _ _ _ disj_T0a, readAt_hit, dB1, ← A1]
    dsimp only [dA1, sc01, sc11, lag, dM1]
    rfl
  have C0 : run_C.sl.v299 c i arg5 arg6 arg7 T0 T1 x1 x2 x3 b d = tail768 (dC0 (wordOf tq i T0) (wordOf tk i T1) (ldQ arg5 x1) (ldK arg6 x2) (ldV arg7 x3) (held b d)) := by
    unfold run_C.sl.v299 run_C.sl.HS1_6 run_C.sl.HS1_5 run_C.sl.HS1_4 run_C.sl.HS1_3 run_C.sl.HS1_2
    rw [tail0c, readAt_skip _ _ _ _ _ disj_T1b, put0b, readAt_skip _ _ _ _ _ disj_T1a, put0a, readA0, dC0, ← B0, dB0, ← A0]
    dsimp only [dA0, sc00, sc10, sc20, lag, dT0, dU0, dM0]
    rfl
  have C1 : run_C.sl.v309 c i arg5 arg6 arg7 T0 T1 x1 x2 x3 b d = tail768 (dC1 (wordOf tq i T0) (wordOf tk i T1) (ldQ arg5 x1) (ldK arg6 x2) (ldV arg7 x3) (held b d)) := by
    unfold run_C.sl.v309 run_C.sl.HS1_7 run_C.sl.HS1_6 run_C.sl.HS1_5 run_C.sl.HS1_4 run_C.sl.HS1_3 run_C.sl.HS1_2
    rw [tail1c, readAt_skip _ _ _ _ _ disj_T0c, put1b, readAt_skip _ _ _ _ _ disj_T0b, put1a, readAt_skip _ _ _ _ _ disj_T0a, readAt_hit, dC1, ← B1, dB1, ← A1]
    dsimp only [dA1, sc01, sc11, sc21, lag, dM1, dN1]
    rfl
  have D0 : View.readAt (Elt F) aSc.view rA0.toLoadRect (aSc.view.writes (Elt F) aSc.view.junk (run_C.sl.HS1_8 c i arg5 arg6 arg7 T0 T1 x1 x2 x3 b d)) = (diag (wordOf tq i T0) (wordOf tk i T1) (ldQ arg5 x1) (ldK arg6 x2) (ldV arg7 x3) (held b d)).a0 := by
    unfold run_C.sl.HS1_8 run_C.sl.HS1_7 run_C.sl.HS1_6 run_C.sl.HS1_5 run_C.sl.HS1_4 run_C.sl.HS1_3 run_C.sl.HS1_2
    rw [readAt_skip _ _ _ _ _ disj_T1c, put0c, readAt_skip _ _ _ _ _ disj_T1b, put0b, readAt_skip _ _ _ _ _ disj_T1a, put0a, readA0]
    dsimp only [diag]
    rw [← C0, dC0, ← B0, dB0, ← A0]
    dsimp only [dA0, sc00, sc10, sc20, sc30, lag, dT0, dU0, dM0, dN0, dV0]
    rfl
  have D1 : View.readAt (Elt F) aSc.view rA1.toLoadRect (aSc.view.writes (Elt F) aSc.view.junk (run_C.sl.HS1_8 c i arg5 arg6 arg7 T0 T1 x1 x2 x3 b d)) = (diag (wordOf tq i T0) (wordOf tk i T1) (ldQ arg5 x1) (ldK arg6 x2) (ldV arg7 x3) (held b d)).a1 := by
    unfold run_C.sl.HS1_8 run_C.sl.HS1_7 run_C.sl.HS1_6 run_C.sl.HS1_5 run_C.sl.HS1_4 run_C.sl.HS1_3 run_C.sl.HS1_2
    rw [put1c, readAt_skip _ _ _ _ _ disj_T0c, put1b, readAt_skip _ _ _ _ _ disj_T0b, put1a, readAt_skip _ _ _ _ _ disj_T0a, readAt_hit]
    dsimp only [diag]
    rw [← C1, dC1, ← B1, dB1, ← A1]
    dsimp only [dA1, sc01, sc11, sc21, sc31, lag, dM1, dN1, dP1]
    rfl
  have V0 : run_C.sl.v21 c i arg5 arg6 arg7 T0 T1 x1 x2 x3 b d = rows (diag (wordOf tq i T0) (wordOf tk i T1) (ldQ arg5 x1) (ldK arg6 x2) (ldV arg7 x3) (held b d)).a0 := by
    unfold run_C.sl.v21
    rw [rows0, D0]
  have V1 : run_C.sl.v27 c i arg5 arg6 arg7 T0 T1 x1 x2 x3 b d = rows (diag (wordOf tq i T0) (wordOf tk i T1) (ldQ arg5 x1) (ldK arg6 x2) (ldV arg7 x3) (held b d)).a1 := by
    unfold run_C.sl.v27
    rw [rows1, D1]
  have W0 : run_C.sl.v23 c i arg5 arg6 arg7 T0 T1 x1 x2 x3 b d = weight (diag (wordOf tq i T0) (wordOf tk i T1) (ldQ arg5 x1) (ldK arg6 x2) (ldV arg7 x3) (held b d)).a0 := by
    unfold run_C.sl.v23
    rw [weight0, D0]
  have W1 : run_C.sl.v29 c i arg5 arg6 arg7 T0 T1 x1 x2 x3 b d = weight (diag (wordOf tq i T0) (wordOf tk i T1) (ldQ arg5 x1) (ldK arg6 x2) (ldV arg7 x3) (held b d)).a1 := by
    unfold run_C.sl.v29
    rw [weight1, D1]
  have G : diag (wordOf tq i T0) (wordOf tk i T1) x1 x2 x3 (held b d) = diag (wordOf tq i T0) (wordOf tk i T1) (ldQ arg5 x1) (ldK arg6 x2) (ldV arg7 x3) (held b d) := by rw [hq, hk, hv]
  rw [G]
  have E (f : arg9.view.ty.Contents (Elt F)) : arg9.view.read (Elt F) (arg9.view.writes (Elt F) f (run_C.sl.H5_1 c i arg4 arg5 arg6 arg7 arg8 T0 T1 x0 x1 x2 x3 x4 b d)) = out (lamOf x0) x4 (diag (wordOf tq i T0) (wordOf tk i T1) (ldQ arg5 x1) (ldK arg6 x2) (ldV arg7 x3) (held b d)) := by
    unfold run_C.sl.H5_1
    rw [View.read_writes_full, V0, V1, W0, W1, out]
    refine congrArg₂ (k0_pay6 _ _ _ _) ?_ ?_
    · unfold run_C.sl.r_20
      exact congrFun (View.readAt_rep_full arg4.view x0 _) _
    · exact View.readAt_rep_full arg8.view x4 _
  iapply Hk
  isplitl [H0]; · iexact H0
  isplitl [H1]; · iexact H1
  isplitl [H2]; · iexact H2
  isplitl [H3]; · iexact H3
  isplitl [H4]; · iexact H4
  isplitl [H5]
  · iapply (pointsTo_rep_of_read (c : Thread nD τ) arg9 _ _ _ (E _))
    iexact H5
  isplitl [HT0]; · iexact HT0
  isplitl [HT1]; · iexact HT1
  iexists _, _
  isplitr
  swap
  · isplitl [HS0]; · iexact HS0
    iexact HS1
  ipureintro
  show _ = (⟨(diag (wordOf tq i T0) (wordOf tk i T1) (ldQ arg5 x1) (ldK arg6 x2) (ldV arg7 x3) (held b d)).m0, (diag (wordOf tq i T0) (wordOf tk i T1) (ldQ arg5 x1) (ldK arg6 x2) (ldV arg7 x3) (held b d)).m1, (diag (wordOf tq i T0) (wordOf tk i T1) (ldQ arg5 x1) (ldK arg6 x2) (ldV arg7 x3) (held b d)).a0, (diag (wordOf tq i T0) (wordOf tk i T1) (ldQ arg5 x1) (ldK arg6 x2) (ldV arg7 x3) (held b d)).a1⟩ : St F)
  refine held_eq ?_ ?_ D0 D1
  · unfold run_C.sl.HS0_2
    rw [readM0]
    dsimp only [diag, sc00, sc10, sc20, sc30, lag, dT0, dU0, dM0, dN0, dV0, dP0]; rfl
  · unfold run_C.sl.HS0_2
    rw [readAt_hit]
    dsimp only [diag, sc01, sc11, sc21, sc31, lag, dM1, dN1, dP1, dT0, dU0, dM0, dN0, dV0, dP0]; rfl

end Cert.KernelIdeal.Attn

end
-- ==== Proof.RunD.lean ====
/- One grid point at a key block strictly between the first and the diagonal one. -/
module

public import proofs.«01_k».proof.Proof.Held

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces (readAt_hit readAt_skip readAt_part readAt_put)

variable {F : FTy → Type} [FloatOps F] [Named F]

local notation "𝕄" => MT nD τ sig Unit (Elt F) ℕ (UR sig nD τ) ℕ

set_option maxHeartbeats 8000000 in
/-- The body at such a point: the state moves by one whole key block. -/
theorem run_D (c : Dev nD) (i : grid0.Coords) (arg4 : Memref sig .tc .smem S1 .f32) (harg4 : arg4.IsWhole) (arg5 : Memref sig .tc .vmem S128x1024 .f32) (harg5 : arg5.IsWhole)
    (arg6 : Memref sig .tc .vmem S1024x128 .bf16) (harg6 : arg6.IsWhole) (arg7 : Memref sig .tc .vmem S128x1024 .bf16) (harg7 : arg7.IsWhole)
    (arg8 : Memref sig .tc .vmem S1x128 .f32) (harg8 : arg8.IsWhole) (arg9 : Memref sig .tc .vmem S1024x128 .bf16) (harg9 : arg9.IsWhole)
    (T0 T1 : S136.Idx → Elt F .i32)
    (x0 : S1.Idx → Elt F .f32) (x1 : S128x1024.Idx → Elt F .f32) (x2 : S1024x128.Idx → Elt F .bf16) (x3 : S128x1024.Idx → Elt F .bf16) (x4 : S1x128.Idx → Elt F .f32)
    (h0 : ¬ (Scalar.cmpi .ne (Scalar.extui (Scalar.cmpi .eq (wordOf tk i T1) 0#32)) 0#32) = 1#1)
    (h1 : (Scalar.cmpi .ne (Scalar.extui (Scalar.cmpi .slt (wordOf tk i T1) (Scalar.muli (wordOf tq i T0) 1#32))) 0#32) = 1#1)
    (h2 : ¬ (Scalar.cmpi .ne (Scalar.extui (Scalar.cmpi .sge (wordOf tk i T1) (Scalar.muli (wordOf tq i T0) 1#32))) 0#32) = 1#1)
    (h3 : ¬ k0_cond4 (wordOf tq i T0) (wordOf tk i T1) = 1#1)
    (b : Buf (Elt F) ((c : Thread nD τ).loc cc0_scratch0)) (d : Buf (Elt F) ((c : Thread nD τ).loc cc0_scratch1)) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tq.view.loc (c : Thread nD τ) ↦{fullShare.right} T0)
          ∗ (tk.view.loc (c : Thread nD τ) ↦{fullShare.right} T1)
          ∗ (mSc.view.loc (c : Thread nD τ) ↦{fullShare} b)
          ∗ (aSc.view.loc (c : Thread nD τ) ↦{fullShare} d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tq.view.loc (c : Thread nD τ) ↦{fullShare.right} T0)
              ∗ (tk.view.loc (c : Thread nD τ) ↦{fullShare.right} T1)
              ∗ (∃ b' d', ⌜held b' d' = full x1 x2 x3 (held b d)⌝ ∗ (mSc.view.loc (c : Thread nD τ) ↦{fullShare} b') ∗ (aSc.view.loc (c : Thread nD τ) ↦{fullShare} d'))) -∗ K ⟨⟩))
      ⊢ wp frame (wpE (defs₀ (F := F)) Variants.none c none) Set.univ
          (cc0_attn_prompt i tq (Memref.isWhole_whole _) tk (Memref.isWhole_whole _) arg4 harg4 arg5 harg5 arg6 harg6 arg7 harg7 arg8 harg8 arg9 harg9 mSc (Memref.isWhole_whole _) aSc (Memref.isWhole_whole _)) K := by
  rw [cc0_attn_prompt_eq_skeleton]; unfold cc0_attn_prompt_skel
  iintro ⟨H0, H1, H2, H3, H4, HT0, HT1, HS0, HS1, Hk⟩
  have hS0 : mSc.IsWhole := Memref.isWhole_whole _
  have hS1 : aSc.IsWhole := Memref.isWhole_whole _
  have hT0 : tq.IsWhole := Memref.isWhole_whole _
  have hT1 : tk.IsWhole := Memref.isWhole_whole _
  sl_exec! (disch := first | sl_exact h0 | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _, _
  isplitr
  swap
  · isplitl [HS0]; · iexact HS0
    iexact HS1
  ipureintro
  have hq := ldQ_eq arg5 x1
  have hk := ldK_eq arg6 x2
  have hv := ldV_eq arg7 x3
  have A0 : run_D.sl.v116 c arg5 arg6 arg7 x1 x2 x3 b d = fullA0 (ldQ arg5 x1) (ldK arg6 x2) (ldV arg7 x3) (held b d) := by
    unfold run_D.sl.v116 run_D.sl.HS1_2
    rw [loadA0]
    rfl
  have A1 : run_D.sl.v126 c arg5 arg6 arg7 x1 x2 x3 b d = fullA1 (ldQ arg5 x1) (ldK arg6 x2) (ldV arg7 x3) (held b d) := by
    unfold run_D.sl.v126 run_D.sl.HS1_3 run_D.sl.HS1_2
    rw [loadA1]
    rfl
  have B0 : run_D.sl.v154 c arg5 arg6 arg7 x1 x2 x3 b d = fullB0 (ldQ arg5 x1) (ldK arg6 x2) (ldV arg7 x3) (held b d) := by
    unfold run_D.sl.v154 run_D.sl.HS1_4 run_D.sl.HS1_3
    rw [loadA0, fullB0, ← A0]
    rfl
  have B1 : run_D.sl.v164 c arg5 arg6 arg7 x1 x2 x3 b d = fullB1 (ldQ arg5 x1) (ldK arg6 x2) (ldV arg7 x3) (held b d) := by
    unfold run_D.sl.v164 run_D.sl.HS1_5 run_D.sl.HS1_4
    rw [loadA1, fullB1, ← A1]
    rfl
  have C0 : run_D.sl.v192 c arg5 arg6 arg7 x1 x2 x3 b d = fullC0 (ldQ arg5 x1) (ldK arg6 x2) (ldV arg7 x3) (held b d) := by
    unfold run_D.sl.v192 run_D.sl.HS1_6 run_D.sl.HS1_5
    rw [loadA0, fullC0, ← B0]
    rfl
  have C1 : run_D.sl.v202 c arg5 arg6 arg7 x1 x2 x3 b d = fullC1 (ldQ arg5 x1) (ldK arg6 x2) (ldV arg7 x3) (held b d) := by
    unfold run_D.sl.v202 run_D.sl.HS1_7 run_D.sl.HS1_6
    rw [loadA1, fullC1, ← B1]
    rfl
  have G : full x1 x2 x3 (held b d) = full (ldQ arg5 x1) (ldK arg6 x2) (ldV arg7 x3) (held b d) := by rw [hq, hk, hv]
  rw [G]
  unfold full run_D.sl.HS0_2 run_D.sl.HS1_8 run_D.sl.HS1_7
  refine held_eq ?_ ?_ ?_ ?_
  · rw [readM0]; rfl
  · rw [readAt_hit]; rfl
  · rw [readA0, ← C0]; rfl
  · rw [readAt_hit, ← C1]; rfl

end Cert.KernelIdeal.Attn

end
-- ==== Proof.Grid.lean ====
/- The attention kernel's grid: what each point finds and leaves, and the whole run. -/
module

public import proofs.«01_k».proof.Proof.Sched
public import proofs.«01_k».proof.Proof.RunA
public import proofs.«01_k».proof.Proof.RunB
public import proofs.«01_k».proof.Proof.RunC
public import proofs.«01_k».proof.Proof.RunD
public import Idealize.ShloMosaic.Lib.Pipeline.Quiescent
public import Idealize.ShloMosaic.Lib.Pipeline.Frame
public import Idealize.ShloMosaic.Lib.Claim
public import Idealize.ShloMosaic.Adequacy
public import Idealize.ShloMosaic.Init

@[expose] public section

set_option Elab.async false
set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

abbrev pcs : Fin 1 → Pipeline.Cfg sig Λ₀ := Pipeline.pin (pcfgs (F := F)) fun _ => adm

/-- What the buffers hold once the host operations have run. -/
abbrev V (c : Dev nD) (b : Ref sig .tc) : Buf (Elt F) ((c.tc : Thread nD τ).loc b) := StableHlo.after hostOps0 (fun b => m (c, b)) b

/-- A window's block at a point. -/
def blk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V m c (Pipeline.arrRef (cfgA (F := F)).spec w))

abbrev xL (c : Dev nD) (t : Fin (cfgA (F := F)).N) : S1.Idx → Elt F .f32 := blk m c (0 : Fin 6) t
abbrev xQ (c : Dev nD) (t : Fin (cfgA (F := F)).N) : S128x1024.Idx → Elt F .f32 := blk m c (1 : Fin 6) t
abbrev xK (c : Dev nD) (t : Fin (cfgA (F := F)).N) : S1024x128.Idx → Elt F .bf16 := blk m c (2 : Fin 6) t
abbrev xV (c : Dev nD) (t : Fin (cfgA (F := F)).N) : S128x1024.Idx → Elt F .bf16 := blk m c (3 : Fin 6) t
abbrev xG (c : Dev nD) (t : Fin (cfgA (F := F)).N) : S1x128.Idx → Elt F .f32 := blk m c (4 : Fin 6) t

/-- The state after one pair. -/
def step (p : Fin 136) (q : Vec F S128x1024 .f32) (k : Vec F S1024x128 .bf16) (v : Vec F S128x1024 .bf16) (s : St F) : St F :=
  if before p then full q k v (if first p then start else s) else diag (qiOf p) (kjOf p) q k v (if first p then start else s)

/-- The state before the grid's point `n`. -/
def state (c : Dev nD) : ℕ → St F
  | 0 => start
  | n + 1 => if h : n < (cfgA (F := F)).N then step (pairOf (crd ⟨n, h⟩)) (xQ m c ⟨n, h⟩) (xK m c ⟨n, h⟩) (xV m c ⟨n, h⟩) (state c n) else start

theorem state_succ (c : Dev nD) (t : Fin (cfgA (F := F)).N) : state m c (t.val + 1) = step (pairOf (crd t)) (xQ m c t) (xK m c t) (xV m c t) (state m c t.val) := by
  rw [state, dif_pos t.isLt]

/-- What the scratch buffers hold before a point: the state, from the second point on; and the tables. -/
def Phi (c : Dev nD) (n : ℕ) : sProp 𝕄 :=
  iprop((∃ b d, ⌜n ≠ 0 → held b d = state m c n⌝ ∗ (mSc.view.loc (c : Thread nD τ) ↦{fullShare} b) ∗ (aSc.view.loc (c : Thread nD τ) ↦{fullShare} d))
    ∗ (tq.view.loc (c : Thread nD τ) ↦{fullShare.right} tabQ) ∗ (tk.view.loc (c : Thread nD τ) ↦{fullShare.right} tabK) ∗ (∃ r, prngReg c r))

/-- The pipeline's data. -/
def dats (_ : Fin 1) (c : Dev nD) : Dat τ (Elt F) Unit ℕ (UR sig nD τ) ℕ (cfgA (F := F)) c where
  A w := V m c (Pipeline.arrRef (cfgA (F := F)).spec w)
  after w t := match w with
    | ⟨0, _⟩ => blk m c (0 : Fin 6) t
    | ⟨1, _⟩ => blk m c (1 : Fin 6) t
    | ⟨2, _⟩ => blk m c (2 : Fin 6) t
    | ⟨3, _⟩ => blk m c (3 : Fin 6) t
    | ⟨4, _⟩ => blk m c (4 : Fin 6) t
    | ⟨5, _⟩ => out (lamOf (xL m c t)) (xG m c t) (state m c (t.val + 1))
  Φ t := Phi m c t.val
  q _ := fullShare
  owed _ := 0

theorem after_0 (c : Dev nD) (t : Fin (cfgA (F := F)).N) : (dats m 0 c).after (0 : Fin 6) t = blk m c (0 : Fin 6) t := rfl
theorem after_1 (c : Dev nD) (t : Fin (cfgA (F := F)).N) : (dats m 0 c).after (1 : Fin 6) t = blk m c (1 : Fin 6) t := rfl
theorem after_2 (c : Dev nD) (t : Fin (cfgA (F := F)).N) : (dats m 0 c).after (2 : Fin 6) t = blk m c (2 : Fin 6) t := rfl
theorem after_3 (c : Dev nD) (t : Fin (cfgA (F := F)).N) : (dats m 0 c).after (3 : Fin 6) t = blk m c (3 : Fin 6) t := rfl
theorem after_4 (c : Dev nD) (t : Fin (cfgA (F := F)).N) : (dats m 0 c).after (4 : Fin 6) t = blk m c (4 : Fin 6) t := rfl
theorem after_5 (c : Dev nD) (t : Fin (cfgA (F := F)).N) : (dats m 0 c).after (5 : Fin 6) t = out (lamOf (xL m c t)) (xG m c t) (state m c (t.val + 1)) := rfl

/-! An input's staging buffer holds its block. -/
theorem before_0 (c : Dev nD) (t : Fin (cfgA (F := F)).N) (d) : (dats m 0 c).before (0 : Fin 6) t d = blk m c (0 : Fin 6) t :=
  ((dats m 0 c).before_in_eq_fetched (0 : Fin 6) rfl (fun _ => rfl) (fun _ _ _ => rfl) (fun t => by rw [after_0]; unfold Dat.blockOf blk; rfl) t d).trans
    (by unfold Dat.fetched Dat.blockOf blk; rfl)
theorem before_1 (c : Dev nD) (t : Fin (cfgA (F := F)).N) (d) : (dats m 0 c).before (1 : Fin 6) t d = blk m c (1 : Fin 6) t :=
  ((dats m 0 c).before_in_eq_fetched (1 : Fin 6) rfl (fun _ => rfl) (fun _ _ _ => rfl) (fun t => by rw [after_1]; unfold Dat.blockOf blk; rfl) t d).trans
    (by unfold Dat.fetched Dat.blockOf blk; rfl)
theorem before_2 (c : Dev nD) (t : Fin (cfgA (F := F)).N) (d) : (dats m 0 c).before (2 : Fin 6) t d = blk m c (2 : Fin 6) t :=
  ((dats m 0 c).before_in_eq_fetched (2 : Fin 6) rfl (fun _ => rfl) (fun _ _ _ => rfl) (fun t => by rw [after_2]; unfold Dat.blockOf blk; rfl) t d).trans
    (by unfold Dat.fetched Dat.blockOf blk; rfl)
theorem before_3 (c : Dev nD) (t : Fin (cfgA (F := F)).N) (d) : (dats m 0 c).before (3 : Fin 6) t d = blk m c (3 : Fin 6) t :=
  ((dats m 0 c).before_in_eq_fetched (3 : Fin 6) rfl (fun _ => rfl) (fun _ _ _ => rfl) (fun t => by rw [after_3]; unfold Dat.blockOf blk; rfl) t d).trans
    (by unfold Dat.fetched Dat.blockOf blk; rfl)
theorem before_4 (c : Dev nD) (t : Fin (cfgA (F := F)).N) (d) : (dats m 0 c).before (4 : Fin 6) t d = blk m c (4 : Fin 6) t :=
  ((dats m 0 c).before_in_eq_fetched (4 : Fin 6) rfl (fun _ => rfl) (fun _ _ _ => rfl) (fun t => by rw [after_4]; unfold Dat.blockOf blk; rfl) t d).trans
    (by unfold Dat.fetched Dat.blockOf blk; rfl)

/-! The staging memrefs at a point. -/
abbrev ms0 (t : Fin (cfgA (F := F)).N) : Memref sig .tc .smem S1 .f32 := spec0_0.stage ((cfgA (F := F)).slots t (0 : Fin 6))
theorem hs0 (t : Fin (cfgA (F := F)).N) : (ms0 t).IsWhole := hstage0_0 (((cfgA (F := F)).slots t (0 : Fin 6)).cast nbuf0_0)
abbrev ms1 (t : Fin (cfgA (F := F)).N) : Memref sig .tc .vmem S128x1024 .f32 := spec0_1.stage ((cfgA (F := F)).slots t (1 : Fin 6))
theorem hs1 (t : Fin (cfgA (F := F)).N) : (ms1 t).IsWhole := hstage0_1 (((cfgA (F := F)).slots t (1 : Fin 6)).cast nbuf0_1)
abbrev ms2 (t : Fin (cfgA (F := F)).N) : Memref sig .tc .vmem S1024x128 .bf16 := spec0_2.stage ((cfgA (F := F)).slots t (2 : Fin 6))
theorem hs2 (t : Fin (cfgA (F := F)).N) : (ms2 t).IsWhole := hstage0_2 (((cfgA (F := F)).slots t (2 : Fin 6)).cast nbuf0_2)
abbrev ms3 (t : Fin (cfgA (F := F)).N) : Memref sig .tc .vmem S128x1024 .bf16 := spec0_3.stage ((cfgA (F := F)).slots t (3 : Fin 6))
theorem hs3 (t : Fin (cfgA (F := F)).N) : (ms3 t).IsWhole := hstage0_3 (((cfgA (F := F)).slots t (3 : Fin 6)).cast nbuf0_3)
abbrev ms4 (t : Fin (cfgA (F := F)).N) : Memref sig .tc .vmem S1x128 .f32 := spec0_4.stage ((cfgA (F := F)).slots t (4 : Fin 6))
theorem hs4 (t : Fin (cfgA (F := F)).N) : (ms4 t).IsWhole := hstage0_4 (((cfgA (F := F)).slots t (4 : Fin 6)).cast nbuf0_4)
abbrev ms5 (t : Fin (cfgA (F := F)).N) : Memref sig .tc .vmem S1024x128 .bf16 := spec0_5.stage ((cfgA (F := F)).slots t (5 : Fin 6))
theorem hs5 (t : Fin (cfgA (F := F)).N) : (ms5 t).IsWhole := hstage0_5 (((cfgA (F := F)).slots t (5 : Fin 6)).cast nbuf0_5)

/-- The body at a point, as the pipeline calls it. -/
abbrev bodyAt (t : Fin (cfgA (F := F)).N) : Prog (TpuEff nD τ sig (Elt F) Λ₀ .tc) PUnit :=
  cc0_attn_prompt (crd t) tq (Memref.isWhole_whole _) tk (Memref.isWhole_whole _) (ms0 t) (hs0 t) (ms1 t) (hs1 t) (ms2 t) (hs2 t) (ms3 t) (hs3 t) (ms4 t) (hs4 t) (ms5 t) (hs5 t) mSc (Memref.isWhole_whole _) aSc (Memref.isWhole_whole _)

theorem Phi_pre (c : Dev nD) (t : Fin (cfgA (F := F)).N) : (dats m 0 c).Φ t.castSucc = Phi m c t.val := congrArg (Phi m c) (Fin.val_castSucc t)
theorem Phi_post (c : Dev nD) (t : Fin (cfgA (F := F)).N) : (dats m 0 c).Φ t.succ = Phi m c (t.val + 1) := congrArg (Phi m c) (Fin.val_succ t)
theorem owes_post (c : Dev nD) (t : Fin (cfgA (F := F)).N) : (dats m 0 c).owesAt () t.succ = (dats m 0 c).owesAt () t.castSucc := rfl

theorem first_all : (List.finRange grid0.N).all (fun t => decide (t.val = 0 → first (pairOf (grid0.coords t)))) = true := by sl_kernel_rfl

theorem first_zero (t : Fin (cfgA (F := F)).N) (h : ¬ first (pairOf (crd t))) : t.val ≠ 0 := by
  have hall := List.all_eq_true.1 first_all t (List.mem_finRange t)
  exact fun h0 => h (of_decide_eq_true hall h0)

set_option maxHeartbeats 2000000 in
/-- The body meets its obligation at every point. -/
theorem sound_body (c : Dev nD) (t : Fin (cfgA (F := F)).N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  obtain ⟨f5, i5⟩ := flushes t
  obtain ⟨w0, w1⟩ := words (F := F) t
  obtain ⟨o2, o3⟩ := others (pairOf (crd t))
  by_cases p0 : first (pairOf (crd t)) <;> by_cases p1 : before (pairOf (crd t))
  · have i5' : (cfgA (F := F)).idle (5 : Fin 6) ((cfgA (F := F)).grid.coords t) = true := i5.trans (decide_eq_true p1)
    have f5' : ((cfgA (F := F)).win (5 : Fin 6)).flush t = false := f5.trans (by rw [decide_eq_true p1]; rfl)
    rewrite [i5']
    simp only [before_0, before_1, before_2, before_3, before_4, after_0, after_1, after_2, after_3, after_4, after_5, f5']
    rewrite [Phi_post, Phi_pre, owes_post]
    unfold Phi
    iintro ⟨⟨⟨%b, %d, %hb, HS0, HS1⟩, HT0, HT1, Hp⟩, Ho, ⟨%d0, H0⟩, ⟨%d1, H1⟩, ⟨%d2, H2⟩, ⟨%d3, H3⟩, ⟨%d4, H4⟩, ⟨%d5, H5⟩⟩
    iapply (run_B c (crd t) (ms0 t) (hs0 t) (ms1 t) (hs1 t) (ms2 t) (hs2 t) (ms3 t) (hs3 t) (ms4 t) (hs4 t) (ms5 t) (hs5 t) tabQ tabK (xL m c t) (xQ m c t) (xK m c t) (xV m c t) (xG m c t) (by rw [w1]; exact p0) (by rw [w0, w1]; exact p1) (by rw [w0, w1]; exact fun h => o2.1 h p1) (by rw [w0, w1]; exact fun h => o3.1 h p1) b d _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HS0]; · iexact HS0
    isplitl [HS1]; · iexact HS1
    iintro ⟨H0, H1, H2, H3, H4, HT0, HT1, ⟨%b', %d', %hb', HS0, HS1⟩⟩
    have hs : held b' d' = state m c (t.val + 1) := by rw [hb', state_succ, step, if_pos p1, if_pos p0]
    isplitl [HS0 HS1 HT0 HT1 Hp]
    · isplitl [HS0 HS1]
      · iexists b', d'; isplitr; swap
        · isplitl [HS0]; · iexact HS0
          iexact HS1
        · ipureintro; exact fun _ => hs
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · have i5' : (cfgA (F := F)).idle (5 : Fin 6) ((cfgA (F := F)).grid.coords t) = false := i5.trans (decide_eq_false p1)
    have f5' : ((cfgA (F := F)).win (5 : Fin 6)).flush t = true := f5.trans (by rw [decide_eq_false p1]; rfl)
    rewrite [i5']
    simp only [before_0, before_1, before_2, before_3, before_4, after_0, after_1, after_2, after_3, after_4, after_5, f5']
    rewrite [Phi_post, Phi_pre, owes_post]
    unfold Phi
    iintro ⟨⟨⟨%b, %d, %hb, HS0, HS1⟩, HT0, HT1, Hp⟩, Ho, ⟨%d0, H0⟩, ⟨%d1, H1⟩, ⟨%d2, H2⟩, ⟨%d3, H3⟩, ⟨%d4, H4⟩, ⟨%d5, H5⟩⟩
    iapply (run_A c (crd t) (ms0 t) (hs0 t) (ms1 t) (hs1 t) (ms2 t) (hs2 t) (ms3 t) (hs3 t) (ms4 t) (hs4 t) (ms5 t) (hs5 t) tabQ tabK (xL m c t) (xQ m c t) (xK m c t) (xV m c t) (xG m c t) (by rw [w1]; exact p0) (by rw [w0, w1]; exact p1) (by rw [w0, w1]; exact o2.2 p1) (by rw [w0, w1]; exact o3.2 p1) ((ms5 t).view.rep ((dats m 0 c).before (5 : Fin 6) t d5)) b d _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [HS0]; · iexact HS0
    isplitl [HS1]; · iexact HS1
    iintro ⟨H0, H1, H2, H3, H4, H5, HT0, HT1, ⟨%b', %d', %hb', HS0, HS1⟩⟩
    have hs : held b' d' = state m c (t.val + 1) := by rw [hb', w0, w1, state_succ, step, if_neg p1, if_pos p0]
    isplitl [HS0 HS1 HT0 HT1 Hp]
    · isplitl [HS0 HS1]
      · iexists b', d'; isplitr; swap
        · isplitl [HS0]; · iexact HS0
          iexact HS1
        · ipureintro; exact fun _ => hs
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iapply owns_of_rep
    rewrite [← hs, hb']
    iexact H5
  · have i5' : (cfgA (F := F)).idle (5 : Fin 6) ((cfgA (F := F)).grid.coords t) = true := i5.trans (decide_eq_true p1)
    have f5' : ((cfgA (F := F)).win (5 : Fin 6)).flush t = false := f5.trans (by rw [decide_eq_true p1]; rfl)
    rewrite [i5']
    simp only [before_0, before_1, before_2, before_3, before_4, after_0, after_1, after_2, after_3, after_4, after_5, f5']
    rewrite [Phi_post, Phi_pre, owes_post]
    unfold Phi
    iintro ⟨⟨⟨%b, %d, %hb, HS0, HS1⟩, HT0, HT1, Hp⟩, Ho, ⟨%d0, H0⟩, ⟨%d1, H1⟩, ⟨%d2, H2⟩, ⟨%d3, H3⟩, ⟨%d4, H4⟩, ⟨%d5, H5⟩⟩
    iapply (run_D c (crd t) (ms0 t) (hs0 t) (ms1 t) (hs1 t) (ms2 t) (hs2 t) (ms3 t) (hs3 t) (ms4 t) (hs4 t) (ms5 t) (hs5 t) tabQ tabK (xL m c t) (xQ m c t) (xK m c t) (xV m c t) (xG m c t) (by rw [w1]; exact p0) (by rw [w0, w1]; exact p1) (by rw [w0, w1]; exact fun h => o2.1 h p1) (by rw [w0, w1]; exact fun h => o3.1 h p1) b d _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HS0]; · iexact HS0
    isplitl [HS1]; · iexact HS1
    iintro ⟨H0, H1, H2, H3, H4, HT0, HT1, ⟨%b', %d', %hb', HS0, HS1⟩⟩
    have hs : held b' d' = state m c (t.val + 1) := by rw [hb', state_succ, step, if_pos p1, if_neg p0, hb (first_zero t p0)]
    isplitl [HS0 HS1 HT0 HT1 Hp]
    · isplitl [HS0 HS1]
      · iexists b', d'; isplitr; swap
        · isplitl [HS0]; · iexact HS0
          iexact HS1
        · ipureintro; exact fun _ => hs
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · have i5' : (cfgA (F := F)).idle (5 : Fin 6) ((cfgA (F := F)).grid.coords t) = false := i5.trans (decide_eq_false p1)
    have f5' : ((cfgA (F := F)).win (5 : Fin 6)).flush t = true := f5.trans (by rw [decide_eq_false p1]; rfl)
    rewrite [i5']
    simp only [before_0, before_1, before_2, before_3, before_4, after_0, after_1, after_2, after_3, after_4, after_5, f5']
    rewrite [Phi_post, Phi_pre, owes_post]
    unfold Phi
    iintro ⟨⟨⟨%b, %d, %hb, HS0, HS1⟩, HT0, HT1, Hp⟩, Ho, ⟨%d0, H0⟩, ⟨%d1, H1⟩, ⟨%d2, H2⟩, ⟨%d3, H3⟩, ⟨%d4, H4⟩, ⟨%d5, H5⟩⟩
    iapply (run_C c (crd t) (ms0 t) (hs0 t) (ms1 t) (hs1 t) (ms2 t) (hs2 t) (ms3 t) (hs3 t) (ms4 t) (hs4 t) (ms5 t) (hs5 t) tabQ tabK (xL m c t) (xQ m c t) (xK m c t) (xV m c t) (xG m c t) (by rw [w1]; exact p0) (by rw [w0, w1]; exact p1) (by rw [w0, w1]; exact o2.2 p1) (by rw [w0, w1]; exact o3.2 p1) ((ms5 t).view.rep ((dats m 0 c).before (5 : Fin 6) t d5)) b d _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [HS0]; · iexact HS0
    isplitl [HS1]; · iexact HS1
    iintro ⟨H0, H1, H2, H3, H4, H5, HT0, HT1, ⟨%b', %d', %hb', HS0, HS1⟩⟩
    have hs : held b' d' = state m c (t.val + 1) := by rw [hb', w0, w1, state_succ, step, if_neg p1, if_neg p0, hb (first_zero t p0)]
    isplitl [HS0 HS1 HT0 HT1 Hp]
    · isplitl [HS0 HS1]
      · iexists b', d'; isplitr; swap
        · isplitl [HS0]; · iexact HS0
          iexact HS1
        · ipureintro; exact fun _ => hs
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iapply owns_of_rep
    rewrite [← hs, hb']
    iexact H5

theorem body_obligation (c : Dev nD) : BodyObligation (dats m 0 c) (defs₀ (F := F)) Variants.none () Set.univ := fun t => by
  rw [bigSep_W0]
  exact sound_body m c t

theorem share_eq (c : Dev nD) (w : Fin (cfgA (F := F)).W) : (dats m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- The invariant before the first point, from the scratch buffers and the tables. -/
theorem phi_intro (c : Dev nD) :
    iprop(Pipeline.ΦA (cfgA (F := F)).spec c ∗ Pipeline.ΦT pre0 (adm (F := F)).1 c) ⊢ (dats m 0 c).Φ 0 := by
  rw [show Pipeline.ΦT pre0 (adm (F := F)).1 c = _ from prefHeld_eq c _ _, show (dats m 0 c).Φ 0 = Phi m c 0 from rfl]
  unfold Pipeline.ΦA
  rw [scopedRest0_eq]
  unfold Phi
  iintro ⟨⟨⟨⟨%b, HS0⟩, ⟨%d, HS1⟩⟩, Hp⟩, HT0, HT1⟩
  isplitl [HS0 HS1]
  · iexists b, d; isplitr; swap
    · isplitl [HS0]; · iexact HS0
      iexact HS1
    · ipureintro; exact fun h => absurd rfl h
  isplitl [HT0]; · iexact HT0
  isplitl [HT1]; · iexact HT1
  iexact Hp

/-- After the last point it gives the scratch buffers back. -/
theorem phi_exit (c : Dev nD) : (dats m 0 c).Φ (Fin.last (cfgA (F := F)).N) ⊢ Pipeline.ΦA (cfgA (F := F)).spec c := by
  rw [show (dats m 0 c).Φ (Fin.last (cfgA (F := F)).N) = Phi m c (Fin.last (cfgA (F := F)).N).val from rfl]
  unfold Pipeline.ΦA
  rw [scopedRest0_eq]
  unfold Phi
  iintro ⟨⟨%b, %d, -, HS0, HS1⟩, -, -, Hp⟩
  isplitr [Hp]; swap
  · iexact Hp
  isplitl [HS0]
  · iexists b; iexact HS0
  iexists d; iexact HS1

/-- The tables hold the literals when the kernel starts. -/
theorem tabs_held (c : Dev nD) (j : Fin 2) : V m c (pre0.ref j) = (adm (F := F)).1 j := by
  fin_cases j
  · rfl
  · rfl

/-- The whole program: it ends, the output array at what the points wrote, every other buffer as the host operations left it, every semaphore at zero. -/
theorem run_main (g : Dev nD → PrngReg) :
    θ_run (defs (F := F)) (onTc (τ := τ) (main (F := F))) (s₀ m g)
      (fun r => Pipeline.FramePost (pcs (F := F)) (dats m) 0 (V m) r ∧ r.2.sem = fun _ => 0) :=
  Pipeline.θ_run_frameP_track (pcfgs (F := F)) (fun _ => adm) (dats m) 0 (launch0 (F := F)) defs₀ Variants.none m g main
    (hbody := fun c => (body_obligation m c).loose)
    (hshare := share_eq m) (howed := fun _ _ => rfl) (V := V m)
    (hmain := Pipeline.hmainP_prefix _ _ _ _ m main hostOps0 hostOps0_sub (by simp only [List.Forall]; exact ⟨rfl, rfl, rfl, rfl, rfl, rfl, rfl⟩) main_chain)
    (hA := fun _ _ => rfl) (hpf := tabs_held m) (hin := phi_intro m) (hout := phi_exit m) _ (fun _ h => h)

end Cert.KernelIdeal.Attn

end
-- ==== Proof.Frames.lean ====
/- The kernel ends with its arguments as they were and every counter at zero, at any float values: hence both of its frames. -/
module

public import proofs.«01_k».proof.Defs
public import proofs.«01_k».proof.Proof.Grid
public import proofs.«01_k».proof.Proof.Gen.Kernel

@[expose] public section

set_option Elab.async false
set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat)

section
variable {F : FTy → Type} [FloatOps F] [Named F]
variable (m : (ℓ : Loc nD τ sig) → Buf (Elt F) ℓ)

/-- The kernel's result: the output array after the last point. -/
def result (c : Dev nD) : Buf (Elt F) ((c : Thread nD τ).loc main_v5) := (dats m 0 c).arrAt (5 : Fin 6) (cfgA (F := F)).N

theorem run (g : Dev nD → PrngReg) :
    θ_run (defs (F := F)) (onTc (τ := τ) (main (F := F))) (s₀ m g)
      (fun r => (∀ c : Dev nD, r.2.mem ((c.tc : Thread nD τ).loc main_v5) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine (θ_run defs _ _).mono (fun r h => ⟨fun c => ⟨(h.1 c).1 (5 : Fin 6), ?_, ?_, ?_, ?_, ?_⟩, h.2⟩) (run_main m g)
  · exact ((h.1 c).1 (0 : Fin 6)).trans (((dats m 0 c).arrAt_in (0 : Fin 6) rfl _).trans rfl)
  · exact ((h.1 c).2 main_arg1 (Pipeline.mem_restRefs_of (win := spec0) _ rfl (by decide))).trans rfl
  · exact ((h.1 c).2 main_arg2 (Pipeline.mem_restRefs_of (win := spec0) _ rfl (by decide))).trans rfl
  · exact ((h.1 c).2 main_arg3 (Pipeline.mem_restRefs_of (win := spec0) _ rfl (by decide))).trans rfl
  · exact ((h.1 c).2 main_arg4 (Pipeline.mem_restRefs_of (win := spec0) _ rfl (by decide))).trans rfl

end

theorem frame_ideal : Cert.quiescent_KernelIdeal := fun m g _ =>
  (θ_run defs _ _).mono (fun _ h => ⟨fun c => (h.1 c).2, h.2⟩) (run m g)

/-- At machine words a named constant is its word. -/
local instance : Named Bits where
  named _ _ {φ} b := Scalar.ofBits φ b

/-- The frame at machine words, in the words of the program with named constants. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_bits : FrameBits := fun m g _ =>
  (θ_run defs _ _).mono (fun _ h => ⟨fun c => (h.1 c).2, h.2⟩) (run m g)

/-- The two programs' texts are the same, so the frames are. -/
theorem same_frame : FrameBits = Cert.quiescent_Kernel := by sl_kernel_rfl

theorem frame_kernel : Cert.quiescent_Kernel := same_frame ▸ frame_bits

end Cert.KernelIdeal.Attn

end
-- ==== Proof.Columns.lean ====
/- What one sub-block of keys makes of one query column: the new maximum and the new running sums, as the payloads compute them. -/
module

public import proofs.«01_k».proof.Proof.Step
public import Idealize.ShloMosaic.Lib.Pointwise

@[expose] public section

noncomputable section

namespace Cert.KernelIdeal.Attn

open Cert.KernelIdeal Cert.KernelIdeal.Gen
open Idealize.ShloMosaic
open Idealize.ShloMosaic.VecWindow (window put)

/-- The maximum after a sub-block of scores. -/
def mx (m : EReal) (σ : Fin 256 → EReal) : EReal := max m (Finset.univ.fold max ⊥ σ)

/-- A running sum after it, the maximum before and after given. -/
def upw (m m' a : EReal) (σ w : Fin 256 → EReal) : EReal := Ideal.exp2 (m - m') * a + ∑ k, w k * Ideal.exp2 (σ k - m')

/-- A running sum after it. -/
abbrev up (m a : EReal) (σ w : Fin 256 → EReal) : EReal := upw m (mx m σ) a σ w

theorem neg_inf : Ideal.ofBits .f32 0xFF800000#32 = ⊥ := by simp [Ideal.ofBits, Ideal.ieee]

variable (q : Vec Ideal S128x1024 .f32) (k : Vec Ideal S1024x128 .bf16) (v : Vec Ideal S128x1024 .bf16) (s : St Ideal)

/-- The scores of the two score halves: sub-block `o` of the keys against a query column. -/
def scA (o : ℕ) (ho : o + 256 ≤ 1024) (j : Fin 1024) (x : Fin 256) : EReal :=
  ∑ f : Fin 128, Scalar.select (IntOp.cmpi CmpIPredicate.slt (BitVec.ofNat 32 f.val) 64#32)
    (k (ix2 ⟨o + x.val, by omega⟩ f) * (q (ix2 f j) * Named.named (F := Ideal) κ "scale" (φ := .f32) 0x3E38AA3B#32)) 0
def scB (o : ℕ) (ho : o + 256 ≤ 1024) (j : Fin 1024) (x : Fin 256) : EReal :=
  ∑ f : Fin 128, Scalar.select (IntOp.cmpi CmpIPredicate.sge (BitVec.ofNat 32 f.val) 64#32)
    (k (ix2 ⟨o + x.val, by omega⟩ f) * (q (ix2 f j) * Named.named (F := Ideal) κ "scale" (φ := .f32) 0x3E38AA3B#32)) 0

/-- The values of a sub-block, with the rows of ones. -/
def vals (o : ℕ) (ho : o + 256 ≤ 1024) (r : Fin 144) (x : Fin 256) : EReal :=
  if h : r.val < 128 then v (ix2 ⟨r.val, h⟩ ⟨o + x.val, by omega⟩) else 1

theorem vals20 (o : ℕ) (ho : o + 256 ≤ 1024) (r : Fin 144) (x : Fin 256) : k0_pay20 v (ix2 r ⟨o + x.val, by omega⟩) = vals v o ho r x := by
  unfold vals
  pointwise [k0_pay20]

theorem vals20f (o : ℕ) (ho : o + 256 ≤ 1024) (r : Fin 144) : (fun x : Fin 256 => k0_pay20 v (ix2 r ⟨o + x.val, by omega⟩)) = vals v o ho r :=
  funext (vals20 v o ho r)

theorem pay12_at (x : Fin 256) (j : Fin 1024) : k0_pay12 q k (ix2 x j) = scA q k 0 (by decide) j x := by
  unfold scA
  pointwise [k0_pay12, k0_pay8, k0_pay10, k0_pay7, k0_pay9]
theorem pay13_at (x : Fin 256) (j : Fin 1024) : k0_pay13 q k (ix2 x j) = scB q k 0 (by decide) j x := by
  unfold scB
  pointwise [k0_pay13, k0_pay8, k0_pay11, k0_pay7, k0_pay9]
theorem pay14_at (x : Fin 256) (j : Fin 1024) : k0_pay14 q k (ix2 x j) = scA q k 256 (by decide) j x := by
  unfold scA
  pointwise [k0_pay14, k0_pay8, k0_pay10, k0_pay7, k0_pay9]
theorem pay15_at (x : Fin 256) (j : Fin 1024) : k0_pay15 q k (ix2 x j) = scB q k 256 (by decide) j x := by
  unfold scB
  pointwise [k0_pay15, k0_pay8, k0_pay11, k0_pay7, k0_pay9]
theorem pay16_at (x : Fin 256) (j : Fin 1024) : k0_pay16 q k (ix2 x j) = scA q k 512 (by decide) j x := by
  unfold scA
  pointwise [k0_pay16, k0_pay8, k0_pay10, k0_pay7, k0_pay9]
theorem pay17_at (x : Fin 256) (j : Fin 1024) : k0_pay17 q k (ix2 x j) = scB q k 512 (by decide) j x := by
  unfold scB
  pointwise [k0_pay17, k0_pay8, k0_pay11, k0_pay7, k0_pay9]
theorem pay18_at (x : Fin 256) (j : Fin 1024) : k0_pay18 q k (ix2 x j) = scA q k 768 (by decide) j x := by
  unfold scA
  pointwise [k0_pay18, k0_pay8, k0_pay10, k0_pay7, k0_pay9]
theorem pay19_at (x : Fin 256) (j : Fin 1024) : k0_pay19 q k (ix2 x j) = scB q k 768 (by decide) j x := by
  unfold scB
  pointwise [k0_pay19, k0_pay8, k0_pay11, k0_pay7, k0_pay9]

/-! The maxima of the payloads, at a column. -/
theorem pay21_at (m : FVec Ideal S1x1x1024 .f32) (j : Fin 1024) : k0_pay21 m (ix2 0 j) = m (ix3 0 0 j) := by pointwise [k0_pay21]
theorem pay22_at (m : FVec Ideal S1x1x1024 .f32) (j : Fin 1024) : k0_pay22 m (ix2 0 j) = m (ix3 0 0 j) := by pointwise [k0_pay22]
theorem pay23_mx (st : FVec Ideal S256x1024 .f32) (m : FVec Ideal S1x1024 .f32) (j : Fin 1024) : k0_pay23 st m (ix2 0 j) = mx (m (ix2 0 j)) (fun x => st (ix2 x j)) := by
  unfold mx; pointwise [k0_pay23]; rw [neg_inf]
theorem pay27_mx (st : FVec Ideal S256x1024 .f32) (m : FVec Ideal S1x1024 .f32) (j : Fin 1024) : k0_pay27 st m (ix2 0 j) = mx (m (ix2 0 j)) (fun x => st (ix2 x j)) := by
  unfold mx; pointwise [k0_pay27]; rw [neg_inf]
theorem pay28_mx (st : FVec Ideal S256x1024 .f32) (m : FVec Ideal S1x1024 .f32) (j : Fin 1024) : k0_pay28 st m (ix2 0 j) = mx (m (ix2 0 j)) (fun x => st (ix2 x j)) := by
  unfold mx; pointwise [k0_pay28]; rw [neg_inf]
theorem pay32_mx (st : FVec Ideal S256x1024 .f32) (m : FVec Ideal S1x1024 .f32) (j : Fin 1024) : k0_pay32 st m (ix2 0 j) = mx (m (ix2 0 j)) (fun x => st (ix2 x j)) := by
  unfold mx; pointwise [k0_pay32]; rw [neg_inf]
theorem pay35_mx (st : FVec Ideal S256x1024 .f32) (m : FVec Ideal S1x1024 .f32) (j : Fin 1024) : k0_pay35 st m (ix2 0 j) = mx (m (ix2 0 j)) (fun x => st (ix2 x j)) := by
  unfold mx; pointwise [k0_pay35]; rw [neg_inf]
theorem pay38_mx (st : FVec Ideal S256x1024 .f32) (m : FVec Ideal S1x1024 .f32) (j : Fin 1024) : k0_pay38 st m (ix2 0 j) = mx (m (ix2 0 j)) (fun x => st (ix2 x j)) := by
  unfold mx; pointwise [k0_pay38]; rw [neg_inf]
theorem pay24_mx (st : FVec Ideal S256x1024 .f32) (m : FVec Ideal S1x1x1024 .f32) (j : Fin 1024) : k0_pay24 st m (ix2 0 j) = mx (m (ix3 0 0 j)) (fun x => st (ix2 x j)) := by
  unfold mx; pointwise [k0_pay24, k0_pay22]; rw [neg_inf]
theorem pay31_mx (su : FVec Ideal S256x1024 .f32) (st : FVec Ideal S256x1024 .f32) (m : FVec Ideal S1x1024 .f32) (j : Fin 1024) : k0_pay31 su st m (ix2 0 j) = mx (k0_pay27 su m (ix2 0 j)) (fun x => st (ix2 x j)) := by
  unfold mx; pointwise [k0_pay31]; rw [neg_inf]

/-! The running sums of the payloads, at a column. -/
theorem pay25_up (st : FVec Ideal S256x1024 .f32) (w : FVec Ideal S144x1024 .bf16) (m : FVec Ideal S1x1024 .f32) (a : FVec Ideal S1x144x1024 .f32) (r : Fin 144) (j : Fin 1024) :
    k0_pay25 st w m a (ix3 0 r j) = upw (m (ix2 0 j)) (k0_pay23 st m (ix2 0 j)) (a (ix3 0 r j)) (fun x => st (ix2 x j)) (fun x => w (ix2 r ⟨0 + x.val, by omega⟩)) := by
  unfold upw; simp only [Nat.zero_add]; pointwise [k0_pay25]; rfl
theorem pay26_up (st : FVec Ideal S256x1024 .f32) (w : FVec Ideal S144x1024 .bf16) (m : FVec Ideal S1x1x1024 .f32) (a : FVec Ideal S1x144x1024 .f32) (r : Fin 144) (j : Fin 1024) :
    k0_pay26 st w m a (ix3 0 r j) = upw (m (ix3 0 0 j)) (k0_pay24 st m (ix2 0 j)) (a (ix3 0 r j)) (fun x => st (ix2 x j)) (fun x => w (ix2 r ⟨0 + x.val, by omega⟩)) := by
  unfold upw; simp only [Nat.zero_add]; pointwise [k0_pay26, k0_pay22]; rfl
theorem pay29_up (st : FVec Ideal S256x1024 .f32) (w : FVec Ideal S144x1024 .bf16) (m : FVec Ideal S1x1024 .f32) (a : FVec Ideal S1x144x1024 .f32) (r : Fin 144) (j : Fin 1024) :
    k0_pay29 st w m a (ix3 0 r j) = upw (m (ix2 0 j)) (k0_pay27 st m (ix2 0 j)) (a (ix3 0 r j)) (fun x => st (ix2 x j)) (fun x => w (ix2 r ⟨256 + x.val, by omega⟩)) := by
  unfold upw; pointwise [k0_pay29]; rfl
theorem pay30_up (st : FVec Ideal S256x1024 .f32) (w : FVec Ideal S144x1024 .bf16) (m : FVec Ideal S1x1024 .f32) (a : FVec Ideal S1x144x1024 .f32) (r : Fin 144) (j : Fin 1024) :
    k0_pay30 st w m a (ix3 0 r j) = upw (m (ix2 0 j)) (k0_pay28 st m (ix2 0 j)) (a (ix3 0 r j)) (fun x => st (ix2 x j)) (fun x => w (ix2 r ⟨256 + x.val, by omega⟩)) := by
  unfold upw; pointwise [k0_pay30]; rfl
theorem pay33_up (st : FVec Ideal S256x1024 .f32) (w : FVec Ideal S144x1024 .bf16) (m m' : FVec Ideal S1x1024 .f32) (a : FVec Ideal S1x144x1024 .f32) (r : Fin 144) (j : Fin 1024) :
    k0_pay33 st w m m' a (ix3 0 r j) = upw (m (ix2 0 j)) (m' (ix2 0 j)) (a (ix3 0 r j)) (fun x => st (ix2 x j)) (fun x => w (ix2 r ⟨512 + x.val, by omega⟩)) := by
  unfold upw; pointwise [k0_pay33]; rfl
theorem pay34_up (st : FVec Ideal S256x1024 .f32) (w : FVec Ideal S144x1024 .bf16) (m : FVec Ideal S1x1024 .f32) (a : FVec Ideal S1x144x1024 .f32) (r : Fin 144) (j : Fin 1024) :
    k0_pay34 st w m a (ix3 0 r j) = upw (m (ix2 0 j)) (k0_pay32 st m (ix2 0 j)) (a (ix3 0 r j)) (fun x => st (ix2 x j)) (fun x => w (ix2 r ⟨512 + x.val, by omega⟩)) := by
  unfold upw; pointwise [k0_pay34]; rfl
theorem pay39_up (st : FVec Ideal S256x1024 .f32) (w : FVec Ideal S144x1024 .bf16) (m : FVec Ideal S1x1024 .f32) (a : FVec Ideal S1x144x1024 .f32) (r : Fin 144) (j : Fin 1024) :
    k0_pay39 w (k0_pay36 st m) (k0_pay37 st m) a (ix3 0 r j) = upw (m (ix2 0 j)) (k0_pay35 st m (ix2 0 j)) (a (ix3 0 r j)) (fun x => st (ix2 x j)) (fun x => w (ix2 r ⟨768 + x.val, by omega⟩)) := by
  unfold upw; pointwise [k0_pay39, k0_pay36, k0_pay37]; rfl
theorem pay40_up (st : FVec Ideal S256x1024 .f32) (w : FVec Ideal S144x1024 .bf16) (m : FVec Ideal S1x1024 .f32) (a : FVec Ideal S1x144x1024 .f32) (r : Fin 144) (j : Fin 1024) :
    k0_pay40 st w m a (ix3 0 r j) = upw (m (ix2 0 j)) (k0_pay38 st m (ix2 0 j)) (a (ix3 0 r j)) (fun x => st (ix2 x j)) (fun x => w (ix2 r ⟨768 + x.val, by omega⟩)) := by
  unfold upw; pointwise [k0_pay40]; rfl
theorem pay41_at (m : FVec Ideal S1x1024 .f32) (j : Fin 1024) : k0_pay41 m (ix3 0 0 j) = m (ix2 0 j) := by pointwise [k0_pay41]
theorem pay3_at (m : FVec Ideal S1x1024 .f32) (j : Fin 1024) : k0_pay3 m (ix3 0 0 j) = m (ix2 0 j) := by pointwise [k0_pay3]
theorem pay4_at (m : FVec Ideal S1x1024 .f32) (j : Fin 1024) : k0_pay4 m (ix3 0 0 j) = m (ix2 0 j) := by pointwise [k0_pay4]
theorem pay5_at (m : FVec Ideal S1x1024 .f32) (j : Fin 1024) : k0_pay5 m (ix3 0 0 j) = m (ix2 0 j) := by pointwise [k0_pay5]

end Cert.KernelIdeal.Attn

end
-- ==== Proof.Full.lean ====
/- A key block strictly before the query block, column by column. -/
module

public import proofs.«01_k».proof.Proof.Columns

@[expose] public section

noncomputable section

namespace Cert.KernelIdeal.Attn

open Cert.KernelIdeal Cert.KernelIdeal.Gen
open Idealize.ShloMosaic
open Idealize.ShloMosaic.VecWindow (window put)

variable (q : Vec Ideal S128x1024 .f32) (k : Vec Ideal S1024x128 .bf16) (v : Vec Ideal S128x1024 .bf16) (s : St Ideal)

/-! A key block strictly before the query block, sub-block by sub-block. -/
section
variable (r : Fin 144) (j : Fin 1024)
theorem M0_at : fullM0 q k s (ix2 0 j) = mx (s.m0 (ix3 0 0 j)) (scA q k 0 (by decide) j) := by
  rw [fullM0, pay23_mx]; simp only [pay21_at, pay12_at]
theorem A0_at : fullA0 q k v s (ix3 0 r j) = up (s.m0 (ix3 0 0 j)) (s.a0 (ix3 0 r j)) (scA q k 0 (by decide) j) (vals v 0 (by decide) r) := by
  rw [fullA0, pay25_up, pay23_mx]; simp only [pay21_at, pay12_at]; rw [vals20f v 0 (by decide) r]
theorem N0_at : fullN0 q k s (ix2 0 j) = mx (fullM0 q k s (ix2 0 j)) (scA q k 256 (by decide) j) := by
  rw [fullN0, pay27_mx]; simp only [pay14_at]
theorem B0_at : fullB0 q k v s (ix3 0 r j) = up (fullM0 q k s (ix2 0 j)) (fullA0 q k v s (ix3 0 r j)) (scA q k 256 (by decide) j) (vals v 256 (by decide) r) := by
  rw [fullB0, pay29_up, pay27_mx]; simp only [pay14_at]; rw [vals20f v 256 (by decide) r]
theorem P0_at : fullP0 q k s (ix2 0 j) = mx (fullN0 q k s (ix2 0 j)) (scA q k 512 (by decide) j) := by
  rw [fullP0, pay31_mx, ← fullN0]; simp only [pay16_at]
theorem C0_at : fullC0 q k v s (ix3 0 r j) = up (fullN0 q k s (ix2 0 j)) (fullB0 q k v s (ix3 0 r j)) (scA q k 512 (by decide) j) (vals v 512 (by decide) r) := by
  rw [fullC0, pay33_up, P0_at]; simp only [pay16_at]; rw [vals20f v 512 (by decide) r]
theorem m0_at : (full q k v s).m0 (ix3 0 0 j) = mx (fullP0 q k s (ix2 0 j)) (scA q k 768 (by decide) j) := by
  show k0_pay41 (k0_pay35 (k0_pay18 q k) (fullP0 q k s)) (ix3 0 0 j) = _
  rw [pay41_at, pay35_mx]; simp only [pay18_at]
theorem a0_at : (full q k v s).a0 (ix3 0 r j) = up (fullP0 q k s (ix2 0 j)) (fullC0 q k v s (ix3 0 r j)) (scA q k 768 (by decide) j) (vals v 768 (by decide) r) := by
  show k0_pay39 (k0_pay20 v) (k0_pay36 (k0_pay18 q k) (fullP0 q k s)) (k0_pay37 (k0_pay18 q k) (fullP0 q k s)) (fullC0 q k v s) (ix3 0 r j) = _
  rw [pay39_up, pay35_mx]; simp only [pay18_at]; rw [vals20f v 768 (by decide) r]
theorem M1_at : fullM1 q k s (ix2 0 j) = mx (s.m1 (ix3 0 0 j)) (scB q k 0 (by decide) j) := by
  rw [fullM1, pay24_mx]; simp only [pay13_at]
theorem A1_at : fullA1 q k v s (ix3 0 r j) = up (s.m1 (ix3 0 0 j)) (s.a1 (ix3 0 r j)) (scB q k 0 (by decide) j) (vals v 0 (by decide) r) := by
  rw [fullA1, pay26_up, pay24_mx]; simp only [pay13_at]; rw [vals20f v 0 (by decide) r]
theorem N1_at : fullN1 q k s (ix2 0 j) = mx (fullM1 q k s (ix2 0 j)) (scB q k 256 (by decide) j) := by
  rw [fullN1, pay28_mx]; simp only [pay15_at]
theorem B1_at : fullB1 q k v s (ix3 0 r j) = up (fullM1 q k s (ix2 0 j)) (fullA1 q k v s (ix3 0 r j)) (scB q k 256 (by decide) j) (vals v 256 (by decide) r) := by
  rw [fullB1, pay30_up, pay28_mx]; simp only [pay15_at]; rw [vals20f v 256 (by decide) r]
theorem P1_at : fullP1 q k s (ix2 0 j) = mx (fullN1 q k s (ix2 0 j)) (scB q k 512 (by decide) j) := by
  rw [fullP1, pay32_mx]; simp only [pay17_at]
theorem C1_at : fullC1 q k v s (ix3 0 r j) = up (fullN1 q k s (ix2 0 j)) (fullB1 q k v s (ix3 0 r j)) (scB q k 512 (by decide) j) (vals v 512 (by decide) r) := by
  rw [fullC1, pay34_up, pay32_mx]; simp only [pay17_at]; rw [vals20f v 512 (by decide) r]
theorem m1_at : (full q k v s).m1 (ix3 0 0 j) = mx (fullP1 q k s (ix2 0 j)) (scB q k 768 (by decide) j) := by
  show k0_pay3 (k0_pay38 (k0_pay19 q k) (fullP1 q k s)) (ix3 0 0 j) = _
  rw [pay3_at, pay38_mx]; simp only [pay19_at]
theorem a1_at : (full q k v s).a1 (ix3 0 r j) = up (fullP1 q k s (ix2 0 j)) (fullC1 q k v s (ix3 0 r j)) (scB q k 768 (by decide) j) (vals v 768 (by decide) r) := by
  show k0_pay40 (k0_pay19 q k) (k0_pay20 v) (fullP1 q k s) (fullC1 q k v s) (ix3 0 r j) = _
  rw [pay40_up, pay38_mx]; simp only [pay19_at]; rw [vals20f v 768 (by decide) r]
end

end Cert.KernelIdeal.Attn

end
-- ==== Proof.DiagPay.lean ====
/- The key block on the diagonal, column by column: the payloads, each at a column of its own narrower block. -/
module

public import proofs.«01_k».proof.Proof.Columns

@[expose] public section

noncomputable section

namespace Cert.KernelIdeal.Attn

open Cert.KernelIdeal Cert.KernelIdeal.Gen
open Idealize.ShloMosaic
open Idealize.ShloMosaic.VecWindow (window put)

theorem pay61_at (m : FVec Ideal S1x1x1024 .f32) (j : Fin 1024) : k0_pay61 m (ix2 0 j) = m (ix3 0 0 j) := by pointwise [k0_pay61]
theorem pay62_at (m : FVec Ideal S1x1x1024 .f32) (j : Fin 1024) : k0_pay62 m (ix2 0 j) = m (ix3 0 0 j) := by pointwise [k0_pay62]
theorem pay63_mx (st : FVec Ideal S256x1024 .f32) (m : FVec Ideal S1x1024 .f32) (j : Fin 1024) : k0_pay63 st m (ix2 0 j) = mx (m (ix2 0 j)) (fun x => st (ix2 x j)) := by
  unfold mx; pointwise [k0_pay63]; rw [neg_inf]
theorem pay64_mx (st : FVec Ideal S256x1024 .f32) (m : FVec Ideal S1x1024 .f32) (j : Fin 1024) : k0_pay64 st m (ix2 0 j) = mx (m (ix2 0 j)) (fun x => st (ix2 x j)) := by
  unfold mx; pointwise [k0_pay64]; rw [neg_inf]
theorem pay68_mx (su : FVec Ideal S256x1024 .f32) (st : FVec Ideal S256x768 .f32) (m : FVec Ideal S1x1024 .f32) (j : Fin 768) : k0_pay68 su st m (ix2 0 j) = mx (k0_pay63 su m (ix2 0 ⟨256 + j.val, by omega⟩)) (fun x => st (ix2 x j)) := by
  unfold mx; pointwise [k0_pay68, k0_pay67]; rw [neg_inf]
theorem pay71_mx (st : FVec Ideal S256x768 .f32) (m : FVec Ideal S1x1024 .f32) (j : Fin 768) : k0_pay71 st m (ix2 0 j) = mx (m (ix2 0 ⟨256 + j.val, by omega⟩)) (fun x => st (ix2 x j)) := by
  unfold mx; pointwise [k0_pay71, k0_pay70]; rw [neg_inf]
theorem pay77_mx (st : FVec Ideal S256x512 .f32) (m : FVec Ideal S1x512 .f32) (j : Fin 512) : k0_pay77 m (k0_pay76 st) (ix2 0 j) = mx (m (ix2 0 j)) (fun x => st (ix2 x j)) := by
  unfold mx; pointwise [k0_pay77, k0_pay76]; rw [neg_inf]
theorem pay80_mx (st : FVec Ideal S256x512 .f32) (m : FVec Ideal S1x1024 .f32) (j : Fin 512) : k0_pay80 st m (ix2 0 j) = mx (m (ix2 0 ⟨512 + j.val, by omega⟩)) (fun x => st (ix2 x j)) := by
  unfold mx; pointwise [k0_pay80, k0_pay79]; rw [neg_inf]
theorem pay85_mx (st : FVec Ideal S256x256 .f32) (m : FVec Ideal S1x256 .f32) (j : Fin 256) : k0_pay85 st m (ix2 0 j) = mx (m (ix2 0 j)) (fun x => st (ix2 x j)) := by
  unfold mx; pointwise [k0_pay85]; rw [neg_inf]
theorem pay88_mx (st : FVec Ideal S256x256 .f32) (m : FVec Ideal S1x1024 .f32) (j : Fin 256) : k0_pay88 st m (ix2 0 j) = mx (m (ix2 0 ⟨768 + j.val, by omega⟩)) (fun x => st (ix2 x j)) := by
  unfold mx; pointwise [k0_pay88, k0_pay87]; rw [neg_inf]

/-! The maxima joined: the columns before the sub-block as they were, the others new. -/
theorem pay69_lo (m : FVec Ideal S1x1024 .f32) (t : FVec Ideal S1x768 .f32) (j : Fin 256) : k0_pay69 m t (ix2 0 ⟨j.val, by omega⟩) = m (ix2 0 ⟨j.val, by omega⟩) := by
  pointwise [k0_pay69]
theorem pay69_hi (m : FVec Ideal S1x1024 .f32) (t : FVec Ideal S1x768 .f32) (j : Fin 768) : k0_pay69 m t (ix2 0 ⟨256 + j.val, by omega⟩) = t (ix2 0 j) := by
  pointwise [k0_pay69]
theorem pay72_lo (st : FVec Ideal S256x768 .f32) (m : FVec Ideal S1x1024 .f32) (j : Fin 256) : k0_pay72 st m (ix2 0 ⟨j.val, by omega⟩) = m (ix2 0 ⟨j.val, by omega⟩) := by
  pointwise [k0_pay72]
theorem pay72_hi (st : FVec Ideal S256x768 .f32) (m : FVec Ideal S1x1024 .f32) (j : Fin 768) : k0_pay72 st m (ix2 0 ⟨256 + j.val, by omega⟩) = k0_pay71 st m (ix2 0 j) := by
  pointwise [k0_pay72]
theorem pay78_lo (m : FVec Ideal S1x1024 .f32) (t : FVec Ideal S1x512 .f32) (n : FVec Ideal S512 .f32) (j : Fin 512) : k0_pay78 m t n (ix2 0 ⟨j.val, by omega⟩) = m (ix2 0 ⟨j.val, by omega⟩) := by
  pointwise [k0_pay78]
theorem pay78_hi (m : FVec Ideal S1x1024 .f32) (t : FVec Ideal S1x512 .f32) (n : FVec Ideal S512 .f32) (j : Fin 512) : k0_pay78 m t n (ix2 0 ⟨512 + j.val, by omega⟩) = k0_pay77 t n (ix2 0 j) := by
  pointwise [k0_pay78]
theorem pay81_lo (st : FVec Ideal S256x512 .f32) (m : FVec Ideal S1x1024 .f32) (j : Fin 512) : k0_pay81 st m (ix2 0 ⟨j.val, by omega⟩) = m (ix2 0 ⟨j.val, by omega⟩) := by
  pointwise [k0_pay81]
theorem pay81_hi (st : FVec Ideal S256x512 .f32) (m : FVec Ideal S1x1024 .f32) (j : Fin 512) : k0_pay81 st m (ix2 0 ⟨512 + j.val, by omega⟩) = k0_pay80 st m (ix2 0 j) := by
  pointwise [k0_pay81]
theorem pay86_lo (st : FVec Ideal S256x256 .f32) (m : FVec Ideal S1x1024 .f32) (t : FVec Ideal S1x256 .f32) (j : Fin 768) : k0_pay86 st m t (ix2 0 ⟨j.val, by omega⟩) = m (ix2 0 ⟨j.val, by omega⟩) := by
  pointwise [k0_pay86]
theorem pay86_hi (st : FVec Ideal S256x256 .f32) (m : FVec Ideal S1x1024 .f32) (t : FVec Ideal S1x256 .f32) (j : Fin 256) : k0_pay86 st m t (ix2 0 ⟨768 + j.val, by omega⟩) = k0_pay85 st t (ix2 0 j) := by
  pointwise [k0_pay86]
theorem pay89_lo (st : FVec Ideal S256x256 .f32) (m : FVec Ideal S1x1024 .f32) (j : Fin 768) : k0_pay89 st m (ix2 0 ⟨j.val, by omega⟩) = m (ix2 0 ⟨j.val, by omega⟩) := by
  pointwise [k0_pay89]
theorem pay89_hi (st : FVec Ideal S256x256 .f32) (m : FVec Ideal S1x1024 .f32) (j : Fin 256) : k0_pay89 st m (ix2 0 ⟨768 + j.val, by omega⟩) = k0_pay88 st m (ix2 0 j) := by
  pointwise [k0_pay89]
theorem pay67_at (st : FVec Ideal S256x1024 .f32) (m : FVec Ideal S1x1024 .f32) (j : Fin 768) : k0_pay67 st m (ix2 0 j) = k0_pay63 st m (ix2 0 ⟨256 + j.val, by omega⟩) := by pointwise [k0_pay67]
theorem pay75_at (m : FVec Ideal S1x1024 .f32) (t : FVec Ideal S1x768 .f32) (j : Fin 512) : k0_pay75 m t (ix2 0 j) = k0_pay69 m t (ix2 0 ⟨512 + j.val, by omega⟩) := by pointwise [k0_pay75]
theorem pay84_at (m : FVec Ideal S1x1024 .f32) (t : FVec Ideal S1x512 .f32) (n : FVec Ideal S512 .f32) (j : Fin 256) : k0_pay84 m t n (ix2 0 j) = k0_pay78 m t n (ix2 0 ⟨768 + j.val, by omega⟩) := by pointwise [k0_pay84]

/-! The running sums, at a column. -/
theorem pay65_up (st : FVec Ideal S256x1024 .f32) (w : FVec Ideal S144x1024 .bf16) (m : FVec Ideal S1x1024 .f32) (a : FVec Ideal S1x144x1024 .f32) (r : Fin 144) (j : Fin 1024) :
    k0_pay65 st w m a (ix3 0 r j) = upw (m (ix2 0 j)) (k0_pay63 st m (ix2 0 j)) (a (ix3 0 r j)) (fun x => st (ix2 x j)) (fun x => w (ix2 r ⟨0 + x.val, by omega⟩)) := by
  unfold upw; simp only [Nat.zero_add]; pointwise [k0_pay65]; rfl
theorem pay66_up (st : FVec Ideal S256x1024 .f32) (w : FVec Ideal S144x1024 .bf16) (m : FVec Ideal S1x1024 .f32) (a : FVec Ideal S1x144x1024 .f32) (r : Fin 144) (j : Fin 1024) :
    k0_pay66 st w m a (ix3 0 r j) = upw (m (ix2 0 j)) (k0_pay64 st m (ix2 0 j)) (a (ix3 0 r j)) (fun x => st (ix2 x j)) (fun x => w (ix2 r ⟨0 + x.val, by omega⟩)) := by
  unfold upw; simp only [Nat.zero_add]; pointwise [k0_pay66]; rfl
theorem pay73_up (st : FVec Ideal S256x768 .f32) (w : FVec Ideal S144x1024 .bf16) (m t : FVec Ideal S1x768 .f32) (a : FVec Ideal S1x144x768 .f32) (r : Fin 144) (j : Fin 768) :
    k0_pay73 st w m t a (ix3 0 r j) = upw (m (ix2 0 j)) (t (ix2 0 j)) (a (ix3 0 r j)) (fun x => st (ix2 x j)) (fun x => w (ix2 r ⟨256 + x.val, by omega⟩)) := by
  unfold upw; pointwise [k0_pay73]; rfl
theorem pay74_up (st : FVec Ideal S256x768 .f32) (w : FVec Ideal S144x1024 .bf16) (m : FVec Ideal S1x1024 .f32) (a : FVec Ideal S1x144x768 .f32) (r : Fin 144) (j : Fin 768) :
    k0_pay74 st w m a (ix3 0 r j) = upw (m (ix2 0 ⟨256 + j.val, by omega⟩)) (k0_pay71 st m (ix2 0 j)) (a (ix3 0 r j)) (fun x => st (ix2 x j)) (fun x => w (ix2 r ⟨256 + x.val, by omega⟩)) := by
  unfold upw; pointwise [k0_pay74, k0_pay70]; rfl
theorem pay82_up (st : FVec Ideal S256x512 .f32) (w : FVec Ideal S144x1024 .bf16) (m : FVec Ideal S1x512 .f32) (n : FVec Ideal S512 .f32) (a : FVec Ideal S1x144x512 .f32) (r : Fin 144) (j : Fin 512) :
    k0_pay82 st w m n a (ix3 0 r j) = upw (m (ix2 0 j)) (k0_pay77 m n (ix2 0 j)) (a (ix3 0 r j)) (fun x => st (ix2 x j)) (fun x => w (ix2 r ⟨512 + x.val, by omega⟩)) := by
  unfold upw; pointwise [k0_pay82]; rfl
theorem pay83_up (st : FVec Ideal S256x512 .f32) (w : FVec Ideal S144x1024 .bf16) (m : FVec Ideal S1x1024 .f32) (a : FVec Ideal S1x144x512 .f32) (r : Fin 144) (j : Fin 512) :
    k0_pay83 st w m a (ix3 0 r j) = upw (m (ix2 0 ⟨512 + j.val, by omega⟩)) (k0_pay80 st m (ix2 0 j)) (a (ix3 0 r j)) (fun x => st (ix2 x j)) (fun x => w (ix2 r ⟨512 + x.val, by omega⟩)) := by
  unfold upw; pointwise [k0_pay83, k0_pay79]; rfl
theorem pay90_up (st : FVec Ideal S256x256 .f32) (w : FVec Ideal S144x1024 .bf16) (m : FVec Ideal S1x256 .f32) (a : FVec Ideal S1x144x256 .f32) (r : Fin 144) (j : Fin 256) :
    k0_pay90 st w m a (ix3 0 r j) = upw (m (ix2 0 j)) (k0_pay85 st m (ix2 0 j)) (a (ix3 0 r j)) (fun x => st (ix2 x j)) (fun x => w (ix2 r ⟨768 + x.val, by omega⟩)) := by
  unfold upw; pointwise [k0_pay90]; rfl
theorem pay91_up (st : FVec Ideal S256x256 .f32) (w : FVec Ideal S144x1024 .bf16) (m : FVec Ideal S1x1024 .f32) (a : FVec Ideal S1x144x256 .f32) (r : Fin 144) (j : Fin 256) :
    k0_pay91 st w m a (ix3 0 r j) = upw (m (ix2 0 ⟨768 + j.val, by omega⟩)) (k0_pay88 st m (ix2 0 j)) (a (ix3 0 r j)) (fun x => st (ix2 x j)) (fun x => w (ix2 r ⟨768 + x.val, by omega⟩)) := by
  unfold upw; pointwise [k0_pay91, k0_pay87]; rfl

/-! The sums of the columns of a sub-block, taken out and put back. -/
theorem tail256_at (a : FVec Ideal S1x144x1024 .f32) (r : Fin 144) (j : Fin 768) : tail256 a (ix3 0 r j) = a (ix3 0 r ⟨256 + j.val, by omega⟩) :=
  congrArg a (funext fun b => match b with
    | 0 => Fin.ext (show 0 + 1 * 0 = 0 from rfl)
    | 1 => Fin.ext (show 0 + 1 * r.val = r.val by omega)
    | 2 => Fin.ext (show 256 + 1 * j.val = 256 + j.val by omega))
theorem putTail256_lo (a : FVec Ideal S1x144x1024 .f32) (w : FVec Ideal S1x144x768 .f32) (r : Fin 144) (j : Fin 256) :
    putTail256 a w (ix3 0 r ⟨j.val, by omega⟩) = a (ix3 0 r ⟨j.val, by omega⟩) :=
  dif_neg fun h => absurd (show 256 ≤ j.val from (h 2).1) (by omega)
theorem putTail256_hi (a : FVec Ideal S1x144x1024 .f32) (w : FVec Ideal S1x144x768 .f32) (r : Fin 144) (j : Fin 768) :
    putTail256 a w (ix3 0 r ⟨256 + j.val, by omega⟩) = w (ix3 0 r j) :=
  (dif_pos fun b => match b with
    | 0 => ⟨Nat.le_refl 0, show 0 < 0 + 1 by omega⟩
    | 1 => ⟨Nat.zero_le _, show r.val < 0 + 144 by omega⟩
    | 2 => ⟨show 256 ≤ 256 + j.val by omega, show 256 + j.val < 256 + 768 by omega⟩).trans
  (congrArg w (funext fun b => match b with
    | 0 => Fin.ext (show 0 - 0 = 0 from rfl)
    | 1 => Fin.ext (show r.val - 0 = r.val by omega)
    | 2 => Fin.ext (show 256 + j.val - 256 = j.val by omega)))
theorem tail512_at (a : FVec Ideal S1x144x1024 .f32) (r : Fin 144) (j : Fin 512) : tail512 a (ix3 0 r j) = a (ix3 0 r ⟨512 + j.val, by omega⟩) :=
  congrArg a (funext fun b => match b with
    | 0 => Fin.ext (show 0 + 1 * 0 = 0 from rfl)
    | 1 => Fin.ext (show 0 + 1 * r.val = r.val by omega)
    | 2 => Fin.ext (show 512 + 1 * j.val = 512 + j.val by omega))
theorem putTail512_lo (a : FVec Ideal S1x144x1024 .f32) (w : FVec Ideal S1x144x512 .f32) (r : Fin 144) (j : Fin 512) :
    putTail512 a w (ix3 0 r ⟨j.val, by omega⟩) = a (ix3 0 r ⟨j.val, by omega⟩) :=
  dif_neg fun h => absurd (show 512 ≤ j.val from (h 2).1) (by omega)
theorem putTail512_hi (a : FVec Ideal S1x144x1024 .f32) (w : FVec Ideal S1x144x512 .f32) (r : Fin 144) (j : Fin 512) :
    putTail512 a w (ix3 0 r ⟨512 + j.val, by omega⟩) = w (ix3 0 r j) :=
  (dif_pos fun b => match b with
    | 0 => ⟨Nat.le_refl 0, show 0 < 0 + 1 by omega⟩
    | 1 => ⟨Nat.zero_le _, show r.val < 0 + 144 by omega⟩
    | 2 => ⟨show 512 ≤ 512 + j.val by omega, show 512 + j.val < 512 + 512 by omega⟩).trans
  (congrArg w (funext fun b => match b with
    | 0 => Fin.ext (show 0 - 0 = 0 from rfl)
    | 1 => Fin.ext (show r.val - 0 = r.val by omega)
    | 2 => Fin.ext (show 512 + j.val - 512 = j.val by omega)))
theorem tail768_at (a : FVec Ideal S1x144x1024 .f32) (r : Fin 144) (j : Fin 256) : tail768 a (ix3 0 r j) = a (ix3 0 r ⟨768 + j.val, by omega⟩) :=
  congrArg a (funext fun b => match b with
    | 0 => Fin.ext (show 0 + 1 * 0 = 0 from rfl)
    | 1 => Fin.ext (show 0 + 1 * r.val = r.val by omega)
    | 2 => Fin.ext (show 768 + 1 * j.val = 768 + j.val by omega))
theorem putTail768_lo (a : FVec Ideal S1x144x1024 .f32) (w : FVec Ideal S1x144x256 .f32) (r : Fin 144) (j : Fin 768) :
    putTail768 a w (ix3 0 r ⟨j.val, by omega⟩) = a (ix3 0 r ⟨j.val, by omega⟩) :=
  dif_neg fun h => absurd (show 768 ≤ j.val from (h 2).1) (by omega)
theorem putTail768_hi (a : FVec Ideal S1x144x1024 .f32) (w : FVec Ideal S1x144x256 .f32) (r : Fin 144) (j : Fin 256) :
    putTail768 a w (ix3 0 r ⟨768 + j.val, by omega⟩) = w (ix3 0 r j) :=
  (dif_pos fun b => match b with
    | 0 => ⟨Nat.le_refl 0, show 0 < 0 + 1 by omega⟩
    | 1 => ⟨Nat.zero_le _, show r.val < 0 + 144 by omega⟩
    | 2 => ⟨show 768 ≤ 768 + j.val by omega, show 768 + j.val < 768 + 256 by omega⟩).trans
  (congrArg w (funext fun b => match b with
    | 0 => Fin.ext (show 0 - 0 = 0 from rfl)
    | 1 => Fin.ext (show r.val - 0 = r.val by omega)
    | 2 => Fin.ext (show 768 + j.val - 768 = j.val by omega)))

end Cert.KernelIdeal.Attn

end
-- ==== Proof.DiagScore.lean ====
/- The key block on the diagonal, column by column: each sub-block changes the columns from its first key on. -/
module

public import proofs.«01_k».proof.Proof.DiagPay

@[expose] public section

noncomputable section

namespace Cert.KernelIdeal.Attn

open Cert.KernelIdeal Cert.KernelIdeal.Gen
open Idealize.ShloMosaic
open Idealize.ShloMosaic.VecWindow (window put)

/-- The word comparison of the mask: the keys up to the query. -/
theorem select_le {α : Type} (b : BitVec 32) (o x j : ℕ) (hb : b = 0#32) (ho : o < 1024) (hx : x < 1024) (hj : j < 1024) (A B : α) :
    Scalar.select (IntOp.cmpi .sle (IntOp.addi (Scalar.addi b (BitVec.ofNat 32 o)) (BitVec.ofNat 32 x)) (IntOp.addi (BitVec.ofNat 32 o) (BitVec.ofNat 32 j))) A B
      = if o + x ≤ o + j then A else B := by
  subst hb
  have e : ∀ n : ℕ, n < 2048 → (BitVec.ofNat 32 n).toInt = n := fun n hn => by
    have hm : n % 2 ^ 32 = n := Nat.mod_eq_of_lt (by omega)
    rw [BitVec.toInt_eq_toNat_of_lt (by rw [BitVec.toNat_ofNat, hm]; omega), BitVec.toNat_ofNat, hm]
  have h1 : IntOp.addi (Scalar.addi 0#32 (BitVec.ofNat 32 o)) (BitVec.ofNat 32 x) = BitVec.ofNat 32 (o + x) := by
    simp [IntOp.addi, Scalar.addi, BitVec.ofNat_add]
  have h2 : IntOp.addi (BitVec.ofNat 32 o) (BitVec.ofNat 32 j) = BitVec.ofNat 32 (o + j) := by
    simp [IntOp.addi, BitVec.ofNat_add]
  rw [h1, h2]
  have hs : (BitVec.ofNat 32 (o + x)).sle (BitVec.ofNat 32 (o + j)) = decide (o + x ≤ o + j) := by
    rw [BitVec.sle_eq_decide, e _ (by omega), e _ (by omega)]; exact decide_eq_decide.2 Int.ofNat_le
  unfold IntOp.cmpi
  by_cases h : o + x ≤ o + j
  · simp only [hs, h, decide_true, if_true]; simp [Scalar.select]
  · simp only [hs, h, decide_false, if_false]; simp [Scalar.select]

theorem lag_self (w : Elt Ideal .i32) : lag (F := Ideal) w w = 0#32 := by
  show (w - w * 1#32) * 1024#32 = 0#32
  simp

/-- The name of the mask's value. -/
theorem mask_value : Named.named (F := Ideal) κ "mask" (φ := .f32) 0xF149F2CA#32 = (⊥ : EReal) := rfl

variable (w : Elt Ideal .i32) (q : Vec Ideal S128x1024 .f32) (k : Vec Ideal S1024x128 .bf16) (v : Vec Ideal S128x1024 .bf16) (s : St Ideal)

/-- The masked scores: the keys past the query at minus infinity. -/
def scDA (o : ℕ) (ho : o + 256 ≤ 1024) (j : Fin 1024) (x : Fin 256) : EReal := if o + x.val ≤ j.val then scA q k o ho j x else ⊥
def scDB (o : ℕ) (ho : o + 256 ≤ 1024) (j : Fin 1024) (x : Fin 256) : EReal := if o + x.val ≤ j.val then scB q k o ho j x else ⊥

/-- Each of the masked scores at its column. -/
theorem sc00_at (x : Fin 256) (j : Fin 1024) : sc00 w w q k (ix2 x j) = scDA q k 0 (by decide) j x := by
  unfold sc00 scDA scA
  pointwise [k0_pay48, k0_pay43, k0_pay46, k0_pay42, k0_pay45]
  refine (select_le _ 0 x.val j.val (lag_self w) (by decide) (by omega) (by omega) _ _).trans ?_
  simp only [Nat.zero_add]; rfl
theorem sc01_at (x : Fin 256) (j : Fin 1024) : sc01 w w q k (ix2 x j) = scDB q k 0 (by decide) j x := by
  unfold sc01 scDB scB
  pointwise [k0_pay52, k0_pay49, k0_pay50, k0_pay51, k0_pay43, k0_pay47, k0_pay42, k0_pay45]
  refine (select_le _ 0 x.val j.val (lag_self w) (by decide) (by omega) (by omega) _ _).trans ?_
  simp only [Nat.zero_add]; rfl
theorem sc10_at (x : Fin 256) (j : Fin 768) : sc10 w w q k (ix2 x j) = scDA q k 256 (by decide) ⟨256 + j.val, by omega⟩ x := by
  unfold sc10 scDA scA
  pointwise [k0_pay53, k0_pay43, k0_pay46, k0_pay42, k0_pay45]
  refine (select_le _ 256 x.val j.val (lag_self w) (by decide) (by omega) (by omega) _ _).trans ?_
  rfl
theorem sc11_at (x : Fin 256) (j : Fin 768) : sc11 w w q k (ix2 x j) = scDB q k 256 (by decide) ⟨256 + j.val, by omega⟩ x := by
  unfold sc11 scDB scB
  pointwise [k0_pay54, k0_pay43, k0_pay47, k0_pay42, k0_pay45]
  refine (select_le _ 256 x.val j.val (lag_self w) (by decide) (by omega) (by omega) _ _).trans ?_
  rfl
theorem sc20_at (x : Fin 256) (j : Fin 512) : sc20 w w q k (ix2 x j) = scDA q k 512 (by decide) ⟨512 + j.val, by omega⟩ x := by
  unfold sc20 scDA scA
  pointwise [k0_pay55, k0_pay43, k0_pay46, k0_pay42, k0_pay45]
  refine (select_le _ 512 x.val j.val (lag_self w) (by decide) (by omega) (by omega) _ _).trans ?_
  rfl
theorem sc21_at (x : Fin 256) (j : Fin 512) : sc21 w w q k (ix2 x j) = scDB q k 512 (by decide) ⟨512 + j.val, by omega⟩ x := by
  unfold sc21 scDB scB
  pointwise [k0_pay57, k0_pay56, k0_pay43, k0_pay47, k0_pay42, k0_pay45]
  refine (select_le _ 512 x.val j.val (lag_self w) (by decide) (by omega) (by omega) _ _).trans ?_
  rfl
theorem sc30_at (x : Fin 256) (j : Fin 256) : sc30 w w q k (ix2 x j) = scDA q k 768 (by decide) ⟨768 + j.val, by omega⟩ x := by
  unfold sc30 scDA scA
  pointwise [k0_pay58, k0_pay43, k0_pay46, k0_pay42, k0_pay45]
  refine (select_le _ 768 x.val j.val (lag_self w) (by decide) (by omega) (by omega) _ _).trans ?_
  rfl
theorem sc31_at (x : Fin 256) (j : Fin 256) : sc31 w w q k (ix2 x j) = scDB q k 768 (by decide) ⟨768 + j.val, by omega⟩ x := by
  unfold sc31 scDB scB
  pointwise [k0_pay59, k0_pay43, k0_pay47, k0_pay42, k0_pay45]
  refine (select_le _ 768 x.val j.val (lag_self w) (by decide) (by omega) (by omega) _ _).trans ?_
  rfl

end Cert.KernelIdeal.Attn

end
-- ==== Proof.Diag.lean ====
/- The key block on the diagonal: what its four sub-blocks make of a column of the state. -/
module

public import proofs.«01_k».proof.Proof.DiagScore

@[expose] public section

noncomputable section

namespace Cert.KernelIdeal.Attn

open Cert.KernelIdeal Cert.KernelIdeal.Gen
open Idealize.ShloMosaic
open Idealize.ShloMosaic.VecWindow (window put)

variable (w : Elt Ideal .i32) (q : Vec Ideal S128x1024 .f32) (k : Vec Ideal S1024x128 .bf16) (v : Vec Ideal S128x1024 .bf16) (s : St Ideal) (r : Fin 144)

/-- The values with their rows of ones are read as for a full key block. -/
theorem vals60f (o : ℕ) (ho : o + 256 ≤ 1024) : (fun x : Fin 256 => k0_pay60 (k0_pay44 v) (ix2 r ⟨o + x.val, by omega⟩)) = vals v o ho r :=
  funext fun x => by
    unfold vals
    pointwise [k0_pay60, k0_pay44]

/-- A column from `o` on is the column of a narrower block. -/
theorem exists_column (o W : ℕ) (h : o + W = 1024) (j : Fin 1024) (hj : o ≤ j.val) : ∃ i : Fin W, j = ⟨o + i.val, h ▸ Nat.add_lt_add_left i.isLt o⟩ :=
  ⟨⟨j.val - o, by omega⟩, Fin.ext (by simp; omega)⟩

theorem dM0_at (j : Fin 1024) : dM0 w w q k s (ix2 0 j) = mx (s.m0 (ix3 0 0 j)) (scDA q k 0 (by decide) j) := by
  rw [dM0, pay63_mx]; simp only [pay61_at, sc00_at]
theorem dA0_at (j : Fin 1024) : dA0 w w q k v s (ix3 0 r j) = up (s.m0 (ix3 0 0 j)) (s.a0 (ix3 0 r j)) (scDA q k 0 (by decide) j) (vals v 0 (by decide) r) := by
  rw [dA0, pay65_up, pay63_mx]; simp only [pay61_at, sc00_at]; rw [vals60f v r 0 (by decide)]
theorem dM1_at (j : Fin 1024) : dM1 w w q k s (ix2 0 j) = mx (s.m1 (ix3 0 0 j)) (scDB q k 0 (by decide) j) := by
  rw [dM1, pay64_mx]; simp only [pay62_at, sc01_at]
theorem dA1_at (j : Fin 1024) : dA1 w w q k v s (ix3 0 r j) = up (s.m1 (ix3 0 0 j)) (s.a1 (ix3 0 r j)) (scDB q k 0 (by decide) j) (vals v 0 (by decide) r) := by
  rw [dA1, pay66_up, pay64_mx]; simp only [pay62_at, sc01_at]; rw [vals60f v r 0 (by decide)]

theorem dT0_at (j : Fin 768) : dT0 w w q k s (ix2 0 j) = mx (dM0 w w q k s (ix2 0 ⟨256 + j.val, by omega⟩)) (scDA q k 256 (by decide) ⟨256 + j.val, by omega⟩) := by
  rw [dT0, pay68_mx, ← dM0]; simp only [sc10_at]
theorem dU0_at (j : Fin 512) : dU0 w w q k s (ix2 0 j) = dN0 w w q k s (ix2 0 ⟨512 + j.val, by omega⟩) := pay75_at _ _ j
theorem dV0_at (j : Fin 256) : dV0 w w q k s (ix2 0 j) = dP0 w w q k s (ix2 0 ⟨768 + j.val, by omega⟩) := pay84_at _ _ _ j

theorem dN0_lo (j : Fin 1024) (h : j.val < 256) : dN0 w w q k s (ix2 0 j) = dM0 w w q k s (ix2 0 j) := by
  unfold dN0; exact pay69_lo _ _ ⟨j.val, h⟩
theorem dB0_lo (j : Fin 1024) (h : j.val < 256) : dB0 w w q k v s (ix3 0 r j) = dA0 w w q k v s (ix3 0 r j) := by
  unfold dB0; exact putTail256_lo _ _ r ⟨j.val, h⟩
theorem dN0_hi (j : Fin 1024) (h : 256 ≤ j.val) : dN0 w w q k s (ix2 0 j) = mx (dM0 w w q k s (ix2 0 j)) (scDA q k 256 (by decide) j) := by
  obtain ⟨j, rfl⟩ := exists_column 256 768 rfl j h
  unfold dN0; rw [pay69_hi, dT0_at]
theorem dB0_hi (j : Fin 1024) (h : 256 ≤ j.val) : dB0 w w q k v s (ix3 0 r j) = up (dM0 w w q k s (ix2 0 j)) (dA0 w w q k v s (ix3 0 r j)) (scDA q k 256 (by decide) j) (vals v 256 (by decide) r) := by
  obtain ⟨j, rfl⟩ := exists_column 256 768 rfl j h
  unfold dB0; rw [putTail256_hi, pay73_up, dT0_at, pay67_at, ← dM0, tail256_at, vals60f v r 256 (by decide)]; simp only [sc10_at]

theorem dN1_lo (j : Fin 1024) (h : j.val < 256) : dN1 w w q k s (ix2 0 j) = dM1 w w q k s (ix2 0 j) := by
  unfold dN1; exact pay72_lo _ _ ⟨j.val, h⟩
theorem dB1_lo (j : Fin 1024) (h : j.val < 256) : dB1 w w q k v s (ix3 0 r j) = dA1 w w q k v s (ix3 0 r j) := by
  unfold dB1; exact putTail256_lo _ _ r ⟨j.val, h⟩
theorem dN1_hi (j : Fin 1024) (h : 256 ≤ j.val) : dN1 w w q k s (ix2 0 j) = mx (dM1 w w q k s (ix2 0 j)) (scDB q k 256 (by decide) j) := by
  obtain ⟨j, rfl⟩ := exists_column 256 768 rfl j h
  unfold dN1; rw [pay72_hi, pay71_mx]; simp only [sc11_at]
theorem dB1_hi (j : Fin 1024) (h : 256 ≤ j.val) : dB1 w w q k v s (ix3 0 r j) = up (dM1 w w q k s (ix2 0 j)) (dA1 w w q k v s (ix3 0 r j)) (scDB q k 256 (by decide) j) (vals v 256 (by decide) r) := by
  obtain ⟨j, rfl⟩ := exists_column 256 768 rfl j h
  unfold dB1; rw [putTail256_hi, pay74_up, pay71_mx, tail256_at, vals60f v r 256 (by decide)]; simp only [sc11_at]

theorem dP0_lo (j : Fin 1024) (h : j.val < 512) : dP0 w w q k s (ix2 0 j) = dN0 w w q k s (ix2 0 j) := by
  unfold dP0; exact pay78_lo _ _ _ ⟨j.val, h⟩
theorem dC0_lo (j : Fin 1024) (h : j.val < 512) : dC0 w w q k v s (ix3 0 r j) = dB0 w w q k v s (ix3 0 r j) := by
  unfold dC0; exact putTail512_lo _ _ r ⟨j.val, h⟩
theorem dP0_hi (j : Fin 1024) (h : 512 ≤ j.val) : dP0 w w q k s (ix2 0 j) = mx (dN0 w w q k s (ix2 0 j)) (scDA q k 512 (by decide) j) := by
  obtain ⟨j, rfl⟩ := exists_column 512 512 rfl j h
  unfold dP0; rw [pay78_hi, pay77_mx, dU0_at]; simp only [sc20_at]
theorem dC0_hi (j : Fin 1024) (h : 512 ≤ j.val) : dC0 w w q k v s (ix3 0 r j) = up (dN0 w w q k s (ix2 0 j)) (dB0 w w q k v s (ix3 0 r j)) (scDA q k 512 (by decide) j) (vals v 512 (by decide) r) := by
  obtain ⟨j, rfl⟩ := exists_column 512 512 rfl j h
  unfold dC0; rw [putTail512_hi, pay82_up, pay77_mx, dU0_at, tail512_at, vals60f v r 512 (by decide)]; simp only [sc20_at]

theorem dP1_lo (j : Fin 1024) (h : j.val < 512) : dP1 w w q k s (ix2 0 j) = dN1 w w q k s (ix2 0 j) := by
  unfold dP1; exact pay81_lo _ _ ⟨j.val, h⟩
theorem dC1_lo (j : Fin 1024) (h : j.val < 512) : dC1 w w q k v s (ix3 0 r j) = dB1 w w q k v s (ix3 0 r j) := by
  unfold dC1; exact putTail512_lo _ _ r ⟨j.val, h⟩
theorem dP1_hi (j : Fin 1024) (h : 512 ≤ j.val) : dP1 w w q k s (ix2 0 j) = mx (dN1 w w q k s (ix2 0 j)) (scDB q k 512 (by decide) j) := by
  obtain ⟨j, rfl⟩ := exists_column 512 512 rfl j h
  unfold dP1; rw [pay81_hi, pay80_mx]; simp only [sc21_at]
theorem dC1_hi (j : Fin 1024) (h : 512 ≤ j.val) : dC1 w w q k v s (ix3 0 r j) = up (dN1 w w q k s (ix2 0 j)) (dB1 w w q k v s (ix3 0 r j)) (scDB q k 512 (by decide) j) (vals v 512 (by decide) r) := by
  obtain ⟨j, rfl⟩ := exists_column 512 512 rfl j h
  unfold dC1; rw [putTail512_hi, pay83_up, pay80_mx, tail512_at, vals60f v r 512 (by decide)]; simp only [sc21_at]

theorem dm0_lo (j : Fin 1024) (h : j.val < 768) : (diag w w q k v s).m0 (ix3 0 0 j) = dP0 w w q k s (ix2 0 j) := by
  show k0_pay4 (k0_pay86 (sc30 w w q k) (dP0 w w q k s) (dV0 w w q k s)) (ix3 0 0 _) = _; rw [pay4_at]; exact pay86_lo _ _ _ ⟨j.val, h⟩
theorem da0_lo (j : Fin 1024) (h : j.val < 768) : (diag w w q k v s).a0 (ix3 0 r j) = dC0 w w q k v s (ix3 0 r j) := by
  show putTail768 (dC0 w w q k v s) (k0_pay90 (sc30 w w q k) (k0_pay60 (k0_pay44 v)) (dV0 w w q k s) (tail768 (dC0 w w q k v s))) (ix3 0 r _) = _; exact putTail768_lo _ _ r ⟨j.val, h⟩
theorem dm0_hi (j : Fin 1024) (h : 768 ≤ j.val) : (diag w w q k v s).m0 (ix3 0 0 j) = mx (dP0 w w q k s (ix2 0 j)) (scDA q k 768 (by decide) j) := by
  obtain ⟨j, rfl⟩ := exists_column 768 256 rfl j h
  show k0_pay4 (k0_pay86 (sc30 w w q k) (dP0 w w q k s) (dV0 w w q k s)) (ix3 0 0 _) = _; rw [pay4_at]; rw [pay86_hi, pay85_mx, dV0_at]; simp only [sc30_at]
theorem da0_hi (j : Fin 1024) (h : 768 ≤ j.val) : (diag w w q k v s).a0 (ix3 0 r j) = up (dP0 w w q k s (ix2 0 j)) (dC0 w w q k v s (ix3 0 r j)) (scDA q k 768 (by decide) j) (vals v 768 (by decide) r) := by
  obtain ⟨j, rfl⟩ := exists_column 768 256 rfl j h
  show putTail768 (dC0 w w q k v s) (k0_pay90 (sc30 w w q k) (k0_pay60 (k0_pay44 v)) (dV0 w w q k s) (tail768 (dC0 w w q k v s))) (ix3 0 r _) = _; rw [putTail768_hi, pay90_up, pay85_mx, dV0_at, tail768_at, vals60f v r 768 (by decide)]; simp only [sc30_at]

theorem dm1_lo (j : Fin 1024) (h : j.val < 768) : (diag w w q k v s).m1 (ix3 0 0 j) = dP1 w w q k s (ix2 0 j) := by
  show k0_pay5 (k0_pay89 (sc31 w w q k) (dP1 w w q k s)) (ix3 0 0 _) = _; rw [pay5_at]; exact pay89_lo _ _ ⟨j.val, h⟩
theorem da1_lo (j : Fin 1024) (h : j.val < 768) : (diag w w q k v s).a1 (ix3 0 r j) = dC1 w w q k v s (ix3 0 r j) := by
  show putTail768 (dC1 w w q k v s) (k0_pay91 (sc31 w w q k) (k0_pay60 (k0_pay44 v)) (dP1 w w q k s) (tail768 (dC1 w w q k v s))) (ix3 0 r _) = _; exact putTail768_lo _ _ r ⟨j.val, h⟩
theorem dm1_hi (j : Fin 1024) (h : 768 ≤ j.val) : (diag w w q k v s).m1 (ix3 0 0 j) = mx (dP1 w w q k s (ix2 0 j)) (scDB q k 768 (by decide) j) := by
  obtain ⟨j, rfl⟩ := exists_column 768 256 rfl j h
  show k0_pay5 (k0_pay89 (sc31 w w q k) (dP1 w w q k s)) (ix3 0 0 _) = _; rw [pay5_at]; rw [pay89_hi, pay88_mx]; simp only [sc31_at]
theorem da1_hi (j : Fin 1024) (h : 768 ≤ j.val) : (diag w w q k v s).a1 (ix3 0 r j) = up (dP1 w w q k s (ix2 0 j)) (dC1 w w q k v s (ix3 0 r j)) (scDB q k 768 (by decide) j) (vals v 768 (by decide) r) := by
  obtain ⟨j, rfl⟩ := exists_column 768 256 rfl j h
  show putTail768 (dC1 w w q k v s) (k0_pay91 (sc31 w w q k) (k0_pay60 (k0_pay44 v)) (dP1 w w q k s) (tail768 (dC1 w w q k v s))) (ix3 0 r _) = _; rw [putTail768_hi, pay91_up, pay88_mx, tail768_at, vals60f v r 768 (by decide)]; simp only [sc31_at]

end Cert.KernelIdeal.Attn

end
-- ==== Proof.Softmax.lean ====
/- The running softmax over the reals: a maximum and a weighted sum kept over the keys seen so far, whatever the order of the sub-blocks of keys. -/
module

public import proofs.«01_k».proof.Proof.Columns

@[expose] public section

noncomputable section

namespace Cert.KernelIdeal.Attn

open Idealize.ShloMosaic

/-- The weight of a key: a power of two, nothing for the keys past the query. -/
def wt (s : ℕ → ℝ) (R : ℕ) (μ : ℝ) (k : ℕ) : ℝ := if k ≤ R then (2 : ℝ) ^ (s k - μ) else 0

/-- After `n` keys: nothing yet, or a real maximum and the sum of the weighted values against it. -/
def Good (s V : ℕ → ℝ) (R n : ℕ) (m a : EReal) : Prop :=
  (n = 0 ∧ m = ⊥ ∧ a = 0) ∨ ∃ μ : ℝ, m = μ ∧ a = ((∑ k ∈ Finset.range n, wt s R μ k * V k : ℝ) : EReal)

theorem exp2_coe (r : ℝ) : Ideal.exp2 (r : EReal) = (((2 : ℝ) ^ r : ℝ) : EReal) := Ideal.exp2_coe r

theorem wt_shift (s : ℕ → ℝ) (R : ℕ) (μ μ' : ℝ) (k : ℕ) : (2 : ℝ) ^ (μ - μ') * wt s R μ k = wt s R μ' k := by
  unfold wt
  split
  · rw [← Real.rpow_add (by norm_num)]; congr 1; ring
  · simp

theorem good_skip (s V : ℕ → ℝ) (R n : ℕ) (m a : EReal) (hn : R < n) (h : Good s V R n m a) : Good s V R (n + 256) m a := by
  rcases h with ⟨h, _⟩ | ⟨μ, hm, ha⟩
  · omega
  · refine Or.inr ⟨μ, hm, ?_⟩
    rw [ha, Finset.sum_range_add]
    have : ∑ x ∈ Finset.range 256, wt s R μ (n + x) * V (n + x) = 0 :=
      Finset.sum_eq_zero fun x _ => by unfold wt; rw [if_neg (by omega), zero_mul]
    rw [this, add_zero]

/-- The maximum after a sub-block that has a key up to the query, or that comes after one, is real. -/
theorem mx_real (m : EReal) (σ : Fin 256 → EReal) (hm : m ≠ ⊤) (hσ : ∀ x, σ x ≠ ⊤) (h : m ≠ ⊥ ∨ ∃ x, σ x ≠ ⊥) : ∃ μ : ℝ, mx m σ = μ := by
  have e : mx m σ = max m (Finset.univ.sup σ) := by
    unfold mx; congr 1
  have top : mx m σ ≠ ⊤ := by
    rw [e]
    refine (max_lt (lt_top_iff_ne_top.2 hm) ?_).ne
    exact (Finset.sup_lt_iff (by exact bot_lt_top)).2 fun x _ => lt_top_iff_ne_top.2 (hσ x)
  have bot : mx m σ ≠ ⊥ := by
    rw [e]
    rcases h with h | ⟨x, h⟩
    · exact fun h' => h (le_bot_iff.1 (h' ▸ le_max_left _ _))
    · exact fun h' => h (le_bot_iff.1 (h' ▸ (Finset.le_sup (Finset.mem_univ x)).trans (le_max_right _ _)))
  exact ⟨(mx m σ).toReal, (EReal.coe_toReal top bot).symm⟩

theorem good_step (s V : ℕ → ℝ) (R n : ℕ) (m a : EReal) (σ w : Fin 256 → EReal)
    (hσ : ∀ x : Fin 256, σ x = if n + x.val ≤ R then (s (n + x.val) : EReal) else ⊥) (hw : ∀ x : Fin 256, w x = (V (n + x.val) : EReal))
    (h : Good s V R n m a) : Good s V R (n + 256) (mx m σ) (up m a σ w) := by
  obtain ⟨μ', hμ'⟩ : ∃ μ : ℝ, mx m σ = μ := by
    refine mx_real m σ ?_ (fun x => ?_) ?_
    · rcases h with ⟨_, h, _⟩ | ⟨μ, h, _⟩ <;> rw [h] <;> simp
    · rw [hσ]; split <;> simp
    · rcases h with ⟨h, _, _⟩ | ⟨μ, h, _⟩
      · exact Or.inr ⟨0, by rw [hσ, if_pos (by simp [h])]; simp⟩
      · exact Or.inl (by rw [h]; simp)
  refine Or.inr ⟨μ', hμ', ?_⟩
  have hterm : ∀ x : Fin 256, w x * Ideal.exp2 (σ x - mx m σ) = ((wt s R μ' (n + x.val) * V (n + x.val) : ℝ) : EReal) := fun x => by
    rw [hw, hσ, hμ']; unfold wt
    split
    · rw [← EReal.coe_sub, exp2_coe, ← EReal.coe_mul, mul_comm]
    · rw [EReal.bot_sub, show Ideal.exp2 ⊥ = 0 from rfl]; simp
  have hsum : ∑ x, w x * Ideal.exp2 (σ x - mx m σ) = ((∑ x ∈ Finset.range 256, wt s R μ' (n + x) * V (n + x) : ℝ) : EReal) := by
    rw [Finset.sum_range, Finset.sum_congr rfl fun x _ => hterm x]
    exact (map_sum (⟨⟨Real.toEReal, rfl⟩, EReal.coe_add⟩ : ℝ →+ EReal) _ _).symm
  have hold : Ideal.exp2 (m - mx m σ) * a = ((∑ x ∈ Finset.range n, wt s R μ' x * V x : ℝ) : EReal) := by
    rcases h with ⟨h, _, ha⟩ | ⟨μ, hm, ha⟩
    · rw [ha, h]; simp
    · rw [hμ', hm, ha, ← EReal.coe_sub, exp2_coe, ← EReal.coe_mul, Finset.mul_sum]
      congr 1
      exact Finset.sum_congr rfl fun x _ => by rw [← mul_assoc, wt_shift]
  show upw m (mx m σ) a σ w = _
  unfold upw
  rw [hsum, hold, ← EReal.coe_add, Finset.sum_range_add]

end Cert.KernelIdeal.Attn

end
-- ==== Proof.Chain.lean ====
/- The running softmax through one pair of blocks: four sub-blocks of 256 keys. -/
module

public import proofs.«01_k».proof.Proof.Full
public import proofs.«01_k».proof.Proof.Diag
public import proofs.«01_k».proof.Proof.Softmax

@[expose] public section

noncomputable section

namespace Cert.KernelIdeal.Attn

open Cert.KernelIdeal Cert.KernelIdeal.Gen
open Idealize.ShloMosaic

/-- The state's column `j`, row `r`, for both score halves. -/
def StGood (sA sB V : ℕ → ℝ) (R n : ℕ) (s : St Ideal) (j : Fin 1024) (r : Fin 144) : Prop :=
  Good sA V R n (s.m0 (ix3 0 0 j)) (s.a0 (ix3 0 r j)) ∧ Good sB V R n (s.m1 (ix3 0 0 j)) (s.a1 (ix3 0 r j))

variable (w : Elt Ideal .i32) (q : Vec Ideal S128x1024 .f32) (k : Vec Ideal S1024x128 .bf16) (v : Vec Ideal S128x1024 .bf16) (s : St Ideal)
  (sA sB V : ℕ → ℝ) (R n : ℕ) (j : Fin 1024) (r : Fin 144)

/-- A sub-block of real scores and values, all of them up to the query. -/
theorem good_full (sc : ℕ → ℝ) (o : ℕ) (ho : o + 256 ≤ 1024) (σ w : Fin 256 → EReal) (m a : EReal)
    (hσ : ∀ x : Fin 256, σ x = (sc (n + (o + x.val)) : EReal)) (hw : ∀ x : Fin 256, w x = (V (n + (o + x.val)) : EReal)) (hR : n + 1024 ≤ R)
    (h : Good sc V R (n + o) m a) : Good sc V R (n + o + 256) (mx m σ) (up m a σ w) :=
  good_step sc V R (n + o) m a σ w (fun x => by rw [hσ, if_pos (by omega), Nat.add_assoc]) (fun x => by rw [hw, Nat.add_assoc]) h

theorem full_good (hA : ∀ o ho x, scA q k o ho j x = (sA (n + (o + x.val)) : EReal)) (hB : ∀ o ho x, scB q k o ho j x = (sB (n + (o + x.val)) : EReal))
    (hV : ∀ o ho x, vals v o ho r x = (V (n + (o + x.val)) : EReal)) (hR : n + 1024 ≤ R)
    (h : StGood sA sB V R n s j r) : StGood sA sB V R (n + 1024) (full q k v s) j r := by
  constructor
  · have h1 := good_full V R n sA 0 (by decide) _ _ _ _ (hA 0 (by decide)) (hV 0 (by decide)) hR h.1
    rw [← M0_at, ← A0_at] at h1
    have h2 := good_full V R n sA 256 (by decide) _ _ _ _ (hA 256 (by decide)) (hV 256 (by decide)) hR h1
    rw [← N0_at, ← B0_at] at h2
    have h3 := good_full V R n sA 512 (by decide) _ _ _ _ (hA 512 (by decide)) (hV 512 (by decide)) hR h2
    rw [← P0_at, ← C0_at] at h3
    have h4 := good_full V R n sA 768 (by decide) _ _ _ _ (hA 768 (by decide)) (hV 768 (by decide)) hR h3
    rw [← m0_at, ← a0_at] at h4
    exact h4
  · have h1 := good_full V R n sB 0 (by decide) _ _ _ _ (hB 0 (by decide)) (hV 0 (by decide)) hR h.2
    rw [← M1_at, ← A1_at] at h1
    have h2 := good_full V R n sB 256 (by decide) _ _ _ _ (hB 256 (by decide)) (hV 256 (by decide)) hR h1
    rw [← N1_at, ← B1_at] at h2
    have h3 := good_full V R n sB 512 (by decide) _ _ _ _ (hB 512 (by decide)) (hV 512 (by decide)) hR h2
    rw [← P1_at, ← C1_at] at h3
    have h4 := good_full V R n sB 768 (by decide) _ _ _ _ (hB 768 (by decide)) (hV 768 (by decide)) hR h3
    rw [← m1_at, ← a1_at] at h4
    exact h4

/-- A masked sub-block on the diagonal: changed if its first key is up to the query, else left. -/
theorem good_diag (sc : ℕ → ℝ) (o : ℕ) (ho : o + 256 ≤ 1024) (σ w : Fin 256 → EReal) (m a m' a' : EReal)
    (hσ : ∀ x : Fin 256, σ x = if o + x.val ≤ j.val then (sc (n + (o + x.val)) : EReal) else ⊥) (hw : ∀ x : Fin 256, w x = (V (n + (o + x.val)) : EReal))
    (hR : R = n + j.val) (hlo : j.val < o → m' = m ∧ a' = a) (hhi : o ≤ j.val → m' = mx m σ ∧ a' = up m a σ w)
    (h : Good sc V R (n + o) m a) : Good sc V R (n + o + 256) m' a' := by
  by_cases hj : j.val < o
  · rw [(hlo hj).1, (hlo hj).2]
    exact good_skip sc V R (n + o) m a (by omega) h
  · rw [(hhi (by omega)).1, (hhi (by omega)).2]
    refine good_step sc V R (n + o) m a σ w (fun x => ?_) (fun x => by rw [hw, Nat.add_assoc]) h
    rw [hσ, Nat.add_assoc]
    exact if_congr (by omega) rfl rfl

theorem diag_good (hA : ∀ o ho x, scA q k o ho j x = (sA (n + (o + x.val)) : EReal)) (hB : ∀ o ho x, scB q k o ho j x = (sB (n + (o + x.val)) : EReal))
    (hV : ∀ o ho x, vals v o ho r x = (V (n + (o + x.val)) : EReal)) (hR : R = n + j.val)
    (h : StGood sA sB V R n s j r) : StGood sA sB V R (n + 1024) (diag w w q k v s) j r := by
  have hDA : ∀ o ho x, scDA q k o ho j x = if o + x.val ≤ j.val then (sA (n + (o + x.val)) : EReal) else ⊥ := fun o ho x => by rw [scDA, hA]
  have hDB : ∀ o ho x, scDB q k o ho j x = if o + x.val ≤ j.val then (sB (n + (o + x.val)) : EReal) else ⊥ := fun o ho x => by rw [scDB, hB]
  constructor
  · have h1 := good_diag V R n j sA 0 (by decide) _ _ _ _ _ _ (hDA 0 (by decide)) (hV 0 (by decide)) hR (fun h => absurd h (by omega))
      (fun _ => ⟨dM0_at w q k s j, dA0_at w q k v s r j⟩) h.1
    have h2 := good_diag V R n j sA 256 (by decide) _ _ _ _ _ _ (hDA 256 (by decide)) (hV 256 (by decide)) hR
      (fun h => ⟨dN0_lo w q k s j h, dB0_lo w q k v s r j h⟩) (fun h => ⟨dN0_hi w q k s j h, dB0_hi w q k v s r j h⟩) h1
    have h3 := good_diag V R n j sA 512 (by decide) _ _ _ _ _ _ (hDA 512 (by decide)) (hV 512 (by decide)) hR
      (fun h => ⟨dP0_lo w q k s j h, dC0_lo w q k v s r j h⟩) (fun h => ⟨dP0_hi w q k s j h, dC0_hi w q k v s r j h⟩) h2
    exact good_diag V R n j sA 768 (by decide) _ _ _ _ _ _ (hDA 768 (by decide)) (hV 768 (by decide)) hR
      (fun h => ⟨dm0_lo w q k v s j h, da0_lo w q k v s r j h⟩) (fun h => ⟨dm0_hi w q k v s j h, da0_hi w q k v s r j h⟩) h3
  · have h1 := good_diag V R n j sB 0 (by decide) _ _ _ _ _ _ (hDB 0 (by decide)) (hV 0 (by decide)) hR (fun h => absurd h (by omega))
      (fun _ => ⟨dM1_at w q k s j, dA1_at w q k v s r j⟩) h.2
    have h2 := good_diag V R n j sB 256 (by decide) _ _ _ _ _ _ (hDB 256 (by decide)) (hV 256 (by decide)) hR
      (fun h => ⟨dN1_lo w q k s j h, dB1_lo w q k v s r j h⟩) (fun h => ⟨dN1_hi w q k s j h, dB1_hi w q k v s r j h⟩) h1
    have h3 := good_diag V R n j sB 512 (by decide) _ _ _ _ _ _ (hDB 512 (by decide)) (hV 512 (by decide)) hR
      (fun h => ⟨dP1_lo w q k s j h, dC1_lo w q k v s r j h⟩) (fun h => ⟨dP1_hi w q k s j h, dC1_hi w q k v s r j h⟩) h2
    exact good_diag V R n j sB 768 (by decide) _ _ _ _ _ _ (hDB 768 (by decide)) (hV 768 (by decide)) hR
      (fun h => ⟨dm1_lo w q k v s j h, da1_lo w q k v s r j h⟩) (fun h => ⟨dm1_hi w q k v s j h, da1_hi w q k v s r j h⟩) h3

end Cert.KernelIdeal.Attn

end
-- ==== Proof.Soft.lean ====
/- The softmax over the keys up to a query, over the reals. -/
module

public import Idealize.ShloMosaic.Lib.Pointwise

@[expose] public section

noncomputable section

namespace Cert.Softmax

open Idealize.ShloMosaic

/-- A key's exponential, nothing for the keys past the query `R`; their sum over `n` keys; a key's share. -/
def ew (s : ℕ → ℝ) (R k : ℕ) : ℝ := if k ≤ R then Real.exp (s k) else 0
def tot (n : ℕ) (s : ℕ → ℝ) (R : ℕ) : ℝ := ∑ k ∈ Finset.range n, ew s R k
def sm (n : ℕ) (s : ℕ → ℝ) (R k : ℕ) : ℝ := ew s R k / tot n s R

theorem ew_nonneg (s : ℕ → ℝ) (R k : ℕ) : 0 ≤ ew s R k := by
  unfold ew; split
  · exact (Real.exp_pos _).le
  · exact le_rfl

theorem tot_pos (n : ℕ) (hn : 0 < n) (s : ℕ → ℝ) (R : ℕ) : 0 < tot n s R :=
  Finset.sum_pos' (fun k _ => ew_nonneg s R k) ⟨0, Finset.mem_range.2 hn, by unfold ew; rw [if_pos (Nat.zero_le _)]; exact Real.exp_pos _⟩

theorem coe_sum {ι : Type} (t : Finset ι) (f : ι → ℝ) : ∑ i ∈ t, (f i : EReal) = ((∑ i ∈ t, f i : ℝ) : EReal) :=
  (map_sum (⟨⟨Real.toEReal, rfl⟩, EReal.coe_add⟩ : ℝ →+ EReal) f t).symm

/-- A maximum over values of which none is plus infinity, and one is above minus infinity, is real. -/
theorem max_real {n : ℕ} (m : EReal) (σ : Fin n → EReal) (hm : m ≠ ⊤) (hσ : ∀ x, σ x ≠ ⊤) (h : m ≠ ⊥ ∨ ∃ x, σ x ≠ ⊥) :
    ∃ μ : ℝ, max m (Finset.univ.fold max ⊥ σ) = μ := by
  have e : max m (Finset.univ.fold max ⊥ σ) = max m (Finset.univ.sup σ) := rfl
  have top : max m (Finset.univ.fold max ⊥ σ) ≠ ⊤ := by
    rw [e]
    refine (max_lt (lt_top_iff_ne_top.2 hm) ?_).ne
    exact (Finset.sup_lt_iff (by exact bot_lt_top)).2 fun x _ => lt_top_iff_ne_top.2 (hσ x)
  have bot : max m (Finset.univ.fold max ⊥ σ) ≠ ⊥ := by
    rw [e]
    rcases h with h | ⟨x, h⟩
    · exact fun h' => h (le_bot_iff.1 (h' ▸ le_max_left _ _))
    · exact fun h' => h (le_bot_iff.1 (h' ▸ (Finset.le_sup (Finset.mem_univ x)).trans (le_max_right _ _)))
  exact ⟨_, (EReal.coe_toReal top bot).symm⟩

/-- A row of masked scores: the exponentials against the row's maximum, divided by their sum, are the shares. -/
theorem row_soft {n : ℕ} (s : ℕ → ℝ) (R : ℕ) (σ : Fin n → EReal) (hσ : ∀ x, σ x = if x.val ≤ R then (s x.val : EReal) else ⊥) (M : EReal)
    (hM : M = max ⊥ (Finset.univ.fold max ⊥ σ)) (j : Fin n) :
    Ideal.div (Ideal.exp (σ j - M)) (∑ x, Ideal.exp (σ x - M)) = (sm n s R j.val : EReal) := by
  have hn : 0 < n := Nat.lt_of_le_of_lt (Nat.zero_le _) j.isLt
  have h0 : σ ⟨0, hn⟩ ≠ ⊥ := by
    rw [hσ, if_pos (show (⟨0, hn⟩ : Fin n).val ≤ R from Nat.zero_le _)]; exact EReal.coe_ne_bot _
  obtain ⟨μ, hμ⟩ := max_real ⊥ σ (by simp) (fun x => by rw [hσ]; split <;> simp) (Or.inr ⟨_, h0⟩)
  rw [hM, hμ]
  have hx : ∀ x, Ideal.exp (σ x - (μ : EReal)) = ((ew s R x.val * Real.exp (-μ) : ℝ) : EReal) := fun x => by
    rw [hσ]; unfold ew
    split
    · rw [← EReal.coe_sub, Ideal.exp_coe, ← Real.exp_add]; rfl
    · rw [EReal.bot_sub, show Ideal.exp ⊥ = 0 from rfl]; simp
  have hs : (∑ x : Fin n, ew s R x.val * Real.exp (-μ)) = tot n s R * Real.exp (-μ) := by
    rw [← Finset.sum_mul, tot, Finset.sum_range]
  have hne : tot n s R * Real.exp (-μ) ≠ 0 := mul_ne_zero (tot_pos n hn s R).ne' (Real.exp_pos _).ne'
  rw [Finset.sum_congr rfl fun x _ => hx x, hx, coe_sum, hs, Ideal.div_coe hne, ← EReal.coe_mul, mul_one_div]
  congr 1
  exact mul_div_mul_right _ _ (Real.exp_pos _).ne'

/-- The scaled product of a query with a key over the 64 features from `c` on. -/
def score (q k : ℕ → ℕ → ℝ) (c R x : ℕ) : ℝ := (∑ f ∈ Finset.range 64, q R (c + f) * k x (c + f)) * (1 / 8)

/-- A head's output for a query at a feature: the values weighted by the two softmaxes' difference. -/
def headOut (l : ℝ) (q k v : ℕ → ℕ → ℝ) (h R d : ℕ) : ℝ :=
  (∑ x ∈ Finset.range 16384, sm 16384 (score q k (128 * h) R) R x * v x (128 * h + d))
    - l * ∑ x ∈ Finset.range 16384, sm 16384 (score q k (128 * h + 64) R) R x * v x (128 * h + d)

end Cert.Softmax

end
-- ==== Proof.Shares.lean ====
/- The running sums divided by the running weight are the softmax's shares, and what a query block writes is the norm of their difference. -/
module

public import proofs.«01_k».proof.Proof.Chain
public import proofs.«01_k».proof.Proof.Soft

@[expose] public section

set_option maxRecDepth 16384

noncomputable section

namespace Cert.KernelIdeal.Attn

open Cert.KernelIdeal Cert.KernelIdeal.Gen Cert.Softmax
open Idealize.ShloMosaic Idealize.ShloMosaic.TcCoe
open Idealize.ShloMosaic.VecWindow (window put)

/-- Powers of two of scores in units of the logarithm of two, against `μ`, are exponentials against `μ` times that logarithm. -/
theorem wt_eq (s : ℕ → ℝ) (R : ℕ) (μ : ℝ) (k : ℕ) : wt (fun x => s x * (Real.log 2)⁻¹) R μ k = Real.exp (-(μ * Real.log 2)) * ew s R k := by
  have h2 : Real.log 2 ≠ 0 := (Real.log_pos (by norm_num)).ne'
  unfold wt ew
  split
  · rw [Real.rpow_def_of_pos (by norm_num), ← Real.exp_add]
    congr 1
    field_simp
    ring
  · simp

theorem wt_sum (s V : ℕ → ℝ) (R n N : ℕ) (μ : ℝ) (hR : R < n) (hn : n ≤ N) :
    ∑ k ∈ Finset.range n, wt (fun x => s x * (Real.log 2)⁻¹) R μ k * V k = Real.exp (-(μ * Real.log 2)) * ∑ k ∈ Finset.range N, ew s R k * V k := by
  rw [Finset.mul_sum]
  rw [← Finset.sum_subset (Finset.range_mono hn) (f := fun k => Real.exp (-(μ * Real.log 2)) * (ew s R k * V k))]
  · exact Finset.sum_congr rfl fun k _ => by rw [wt_eq, mul_assoc]
  · intro k _ hk
    have : ¬ k ≤ R := fun h => hk (Finset.mem_range.2 (by omega))
    simp [ew, this]

/-- The quotient of a row's running sum by the weight's. -/
theorem share (s V : ℕ → ℝ) (R n N : ℕ) (m a b : EReal) (hR : R < n) (hn : n ≤ N) (ha : Good (fun x => s x * (Real.log 2)⁻¹) V R n m a)
    (hb : Good (fun x => s x * (Real.log 2)⁻¹) (fun _ => 1) R n m b) : Ideal.div a b = ((∑ k ∈ Finset.range N, sm N s R k * V k : ℝ) : EReal) := by
  rcases ha with ⟨h, _⟩ | ⟨μ, hm, ha⟩
  · omega
  rcases hb with ⟨h, _⟩ | ⟨μ', hm', hb⟩
  · omega
  have e : μ' = μ := EReal.coe_injective (hm'.symm.trans hm)
  subst e
  have ht := tot_pos N (by omega) s R
  have hE := Real.exp_pos (-(μ' * Real.log 2))
  rw [wt_sum s V R n N μ' hR hn] at ha
  rw [wt_sum s (fun _ => 1) R n N μ' hR hn] at hb
  have hone : (∑ k ∈ Finset.range N, ew s R k * 1) = tot N s R := Finset.sum_congr rfl fun k _ => mul_one _
  rw [hone] at hb
  rw [ha, hb, Ideal.div_coe (mul_ne_zero hE.ne' ht.ne'), ← EReal.coe_mul, mul_one_div, mul_div_mul_left _ _ hE.ne', Finset.sum_div]
  congr 1
  exact Finset.sum_congr rfl fun k _ => by rw [sm, div_mul_eq_mul_div]

/-! ## The scores of a sub-block -/

theorem lower (f : Fin 128) : IntOp.cmpi CmpIPredicate.slt (BitVec.ofNat 32 f.val) 64#32 = if f.val < 64 then 1#1 else 0#1 := by
  revert f; decide
theorem upper (f : Fin 128) : IntOp.cmpi CmpIPredicate.sge (BitVec.ofNat 32 f.val) 64#32 = if f.val < 64 then 0#1 else 1#1 := by
  revert f; decide

theorem scale_value : Named.named (F := Ideal) κ "scale" (φ := .f32) 0x3E38AA3B#32 = (((8 * Real.log 2)⁻¹ : ℝ) : EReal) := rfl

variable (q : Vec Ideal S128x1024 .f32) (k : Vec Ideal S1024x128 .bf16) (v : Vec Ideal S128x1024 .bf16) (Q : ℕ → ℝ) (K : ℕ → ℕ → ℝ) (W : ℕ → ℕ → ℝ)

/-- A term of the scores with the other half of the features masked. -/
theorem term_real (o : ℕ) (ho : o + 256 ≤ 1024) (j : Fin 1024) (x : Fin 256) (f : Fin 128) (hq : ∀ f, q (ix2 f j) = (Q f.val : EReal))
    (hk : ∀ x f, k (ix2 x f) = (K x.val f.val : EReal)) :
    k (ix2 ⟨o + x.val, by omega⟩ f) * (q (ix2 f j) * Named.named (F := Ideal) κ "scale" (φ := .f32) 0x3E38AA3B#32)
      = ((Q f.val * K (o + x.val) f.val * (8 * Real.log 2)⁻¹ : ℝ) : EReal) := by
  rw [hq, hk, scale_value, ← EReal.coe_mul, ← EReal.coe_mul]
  congr 1; ring

theorem scA_real (o : ℕ) (ho : o + 256 ≤ 1024) (j : Fin 1024) (x : Fin 256) (hq : ∀ f, q (ix2 f j) = (Q f.val : EReal))
    (hk : ∀ x f, k (ix2 x f) = (K x.val f.val : EReal)) :
    scA q k o ho j x = (((∑ f ∈ Finset.range 64, Q f * K (o + x.val) f) * (8 * Real.log 2)⁻¹ : ℝ) : EReal) := by
  have e : ∀ f : Fin 128, Scalar.select (IntOp.cmpi CmpIPredicate.slt (BitVec.ofNat 32 f.val) 64#32)
      (k (ix2 ⟨o + x.val, by omega⟩ f) * (q (ix2 f j) * Named.named (F := Ideal) κ "scale" (φ := .f32) 0x3E38AA3B#32)) 0
      = ((if f.val < 64 then Q f.val * K (o + x.val) f.val * (8 * Real.log 2)⁻¹ else 0 : ℝ) : EReal) := fun f => by
    rw [lower, term_real q k Q K o ho j x f hq hk]
    split <;> simp [Scalar.select]
  unfold scA
  rw [Finset.sum_congr rfl fun f _ => e f, coe_sum, ← Finset.sum_range fun f => if f < 64 then Q f * K (o + x.val) f * (8 * Real.log 2)⁻¹ else 0,
    show (128 : ℕ) = 64 + 64 from rfl, Finset.sum_range_add, Finset.sum_mul]
  congr 1
  rw [Finset.sum_congr rfl fun f hf => if_pos (Finset.mem_range.1 hf), Finset.sum_congr (g := fun _ => (0 : ℝ)) rfl fun f _ => if_neg (by omega), Finset.sum_const_zero, add_zero]

theorem scB_real (o : ℕ) (ho : o + 256 ≤ 1024) (j : Fin 1024) (x : Fin 256) (hq : ∀ f, q (ix2 f j) = (Q f.val : EReal))
    (hk : ∀ x f, k (ix2 x f) = (K x.val f.val : EReal)) :
    scB q k o ho j x = (((∑ f ∈ Finset.range 64, Q (64 + f) * K (o + x.val) (64 + f)) * (8 * Real.log 2)⁻¹ : ℝ) : EReal) := by
  have e : ∀ f : Fin 128, Scalar.select (IntOp.cmpi CmpIPredicate.sge (BitVec.ofNat 32 f.val) 64#32)
      (k (ix2 ⟨o + x.val, by omega⟩ f) * (q (ix2 f j) * Named.named (F := Ideal) κ "scale" (φ := .f32) 0x3E38AA3B#32)) 0
      = ((if f.val < 64 then 0 else Q f.val * K (o + x.val) f.val * (8 * Real.log 2)⁻¹ : ℝ) : EReal) := fun f => by
    rw [upper, term_real q k Q K o ho j x f hq hk]
    split <;> simp [Scalar.select]
  unfold scB
  rw [Finset.sum_congr rfl fun f _ => e f, coe_sum, ← Finset.sum_range fun f => if f < 64 then 0 else Q f * K (o + x.val) f * (8 * Real.log 2)⁻¹,
    show (128 : ℕ) = 64 + 64 from rfl, Finset.sum_range_add, Finset.sum_mul]
  congr 1
  rw [Finset.sum_congr (g := fun _ => (0 : ℝ)) rfl fun f hf => if_pos (Finset.mem_range.1 hf), Finset.sum_const_zero, zero_add,
    Finset.sum_congr rfl fun f _ => if_neg (by omega)]

theorem vals_real (o : ℕ) (ho : o + 256 ≤ 1024) (r : Fin 144) (x : Fin 256) (hv : ∀ r x, v (ix2 r x) = (W x.val r.val : EReal)) :
    vals v o ho r x = ((if r.val < 128 then W (o + x.val) r.val else 1 : ℝ) : EReal) := by
  unfold vals
  by_cases h : r.val < 128
  · rw [dif_pos h, if_pos h, hv]
  · rw [dif_neg h, if_neg h]; rfl

/-! ## What a query block writes -/

theorem rows_at (a : FVec Ideal S1x144x1024 .f32) (d : Fin 128) (j : Fin 1024) : rows a (ix3 0 d j) = a (ix3 0 ⟨d.val, by omega⟩ j) :=
  congrArg a (funext fun b => match b with
    | 0 => Fin.ext (show 0 + 1 * 0 = 0 from rfl)
    | 1 => Fin.ext (show 0 + 1 * d.val = d.val by omega)
    | 2 => Fin.ext (show 0 + 1 * j.val = j.val by omega))
theorem weight_at (a : FVec Ideal S1x144x1024 .f32) (j : Fin 1024) : weight a (ix3 0 0 j) = a (ix3 0 ⟨128, by omega⟩ j) :=
  congrArg a (funext fun b => match b with
    | 0 => Fin.ext (show 0 + 1 * 0 = 0 from rfl)
    | 1 => Fin.ext (show 128 + 1 * 0 = 128 from rfl)
    | 2 => Fin.ext (show 0 + 1 * j.val = j.val by omega))

theorem pay6_at (a0 : FVec Ideal S1x128x1024 .f32) (w0 : FVec Ideal S1x1x1024 .f32) (a1 : FVec Ideal S1x128x1024 .f32) (w1 : FVec Ideal S1x1x1024 .f32)
    (l : Elt Ideal .f32) (g : Vec Ideal S1x128 .f32) (j : Fin 1024) (d : Fin 128) :
    k0_pay6 a0 w0 a1 w1 l g (ix2 j d) = (Ideal.div (a0 (ix3 0 d j)) (w0 (ix3 0 0 j)) - l * Ideal.div (a1 (ix3 0 d j)) (w1 (ix3 0 0 j)))
        * Ideal.rsqrt (Ideal.div (∑ x : Fin 128, (Ideal.div (a0 (ix3 0 x j)) (w0 (ix3 0 0 j)) - l * Ideal.div (a1 (ix3 0 x j)) (w1 (ix3 0 0 j)))
            * (Ideal.div (a0 (ix3 0 x j)) (w0 (ix3 0 0 j)) - l * Ideal.div (a1 (ix3 0 x j)) (w1 (ix3 0 0 j)))) (Ideal.ofBits .f32 0x43000000#32) + Ideal.ofBits .f32 0x358637BD#32)
        * g (ix2 0 d) * Ideal.ofBits .f32 0x3F4CCCCD#32 := by
  pointwise [k0_pay6]

/-- With the two halves' quotients' difference known, what is written. -/
theorem out_at (l : Elt Ideal .f32) (g : Vec Ideal S1x128 .f32) (s : St Ideal) (y : ℕ → ℝ) (j : Fin 1024) (d : Fin 128)
    (hy : ∀ x : Fin 128, Ideal.div (s.a0 (ix3 0 ⟨x.val, by omega⟩ j)) (s.a0 (ix3 0 ⟨128, by omega⟩ j))
      - l * Ideal.div (s.a1 (ix3 0 ⟨x.val, by omega⟩ j)) (s.a1 (ix3 0 ⟨128, by omega⟩ j)) = (y x.val : EReal)) :
    out l g s (ix2 j d) = (y d.val : EReal) * Ideal.rsqrt (Ideal.div (∑ x : Fin 128, (y x.val : EReal) * (y x.val : EReal)) (Ideal.ofBits .f32 0x43000000#32) + Ideal.ofBits .f32 0x358637BD#32)
        * g (ix2 0 d) * Ideal.ofBits .f32 0x3F4CCCCD#32 := by
  unfold out
  rw [pay6_at]
  simp only [rows_at, weight_at, hy]

end Cert.KernelIdeal.Attn

end
-- ==== Proof.Blocks.lean ====
/- What the windows' blocks hold at a grid point, as elements of the arguments. -/
module

public import proofs.«01_k».proof.Proof.Frames
public import Idealize.ShloMosaic.Lib.Pointwise
public import Idealize.ShloMosaic.Lib.Pipeline.ValueKit.Geometry

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The head, the query block and the key block of a point. -/
abbrev hd (t : Fin grid0.N) : ℕ := (grid0.coords t 0).val
abbrev qn (t : Fin grid0.N) : ℕ := (qiOf (pairOf (grid0.coords t))).toNat
abbrev kn (t : Fin grid0.N) : ℕ := (kjOf (pairOf (grid0.coords t))).toNat

/-- The point before. -/
abbrev prv (t : Fin grid0.N) : Fin grid0.N := ⟨t.val - 1, by omega⟩

theorem bounds_all : (List.finRange grid0.N).all (fun t => decide (hd t < 4) && decide (qn t < 16) && decide (kn t < 16)) = true := by sl_kernel_rfl

theorem bounds (t : Fin grid0.N) : hd t < 4 ∧ qn t < 16 ∧ kn t < 16 := by
  have h := List.all_eq_true.1 bounds_all t (List.mem_finRange t)
  simp only [Bool.and_eq_true, decide_eq_true_eq] at h
  exact ⟨h.1.1, h.1.2, h.2⟩

theorem order_all : (List.finRange grid0.N).all (fun t =>
    decide (before (pairOf (grid0.coords t)) → kn t < qn t)
    && decide (¬ before (pairOf (grid0.coords t)) → qiOf (pairOf (grid0.coords t)) = kjOf (pairOf (grid0.coords t)))
    && decide (first (pairOf (grid0.coords t)) → kn t = 0)
    && decide (¬ first (pairOf (grid0.coords t)) → t.val ≠ 0 ∧ hd (prv t) = hd t ∧ qn (prv t) = qn t ∧ kn (prv t) + 1 = kn t)) = true := by sl_kernel_rfl

/-- The order in which the grid walks the pairs: a query block's key blocks one after the other up to its own. -/
theorem order (t : Fin grid0.N) : (before (pairOf (grid0.coords t)) → kn t < qn t)
    ∧ (¬ before (pairOf (grid0.coords t)) → qiOf (pairOf (grid0.coords t)) = kjOf (pairOf (grid0.coords t)))
    ∧ (first (pairOf (grid0.coords t)) → kn t = 0)
    ∧ (¬ first (pairOf (grid0.coords t)) → t.val ≠ 0 ∧ hd (prv t) = hd t ∧ qn (prv t) = qn t ∧ kn (prv t) + 1 = kn t) := by
  have h := List.all_eq_true.1 order_all t (List.mem_finRange t)
  simp only [Bool.and_eq_true] at h
  exact ⟨of_decide_eq_true h.1.1.1, of_decide_eq_true h.1.1.2, of_decide_eq_true h.1.2, of_decide_eq_true h.2⟩

theorem index_all : (List.finRange grid0.N).all (fun t =>
    decide (((cfgA (F := Ideal)).win (1 : Fin 6)).index t = ![hd t, qn t]) && decide (((cfgA (F := Ideal)).win (2 : Fin 6)).index t = ![kn t, hd t])
    && decide (((cfgA (F := Ideal)).win (3 : Fin 6)).index t = ![hd t, kn t]) && decide (((cfgA (F := Ideal)).win (5 : Fin 6)).index t = ![qn t, hd t])) = true := by sl_kernel_rfl

/-- The block of each window at a point. -/
theorem index (t : Fin grid0.N) : ((cfgA (F := Ideal)).win (1 : Fin 6)).index t = ![hd t, qn t] ∧ ((cfgA (F := Ideal)).win (2 : Fin 6)).index t = ![kn t, hd t]
    ∧ ((cfgA (F := Ideal)).win (3 : Fin 6)).index t = ![hd t, kn t] ∧ ((cfgA (F := Ideal)).win (5 : Fin 6)).index t = ![qn t, hd t] := by
  have h := List.all_eq_true.1 index_all t (List.mem_finRange t)
  simp only [Bool.and_eq_true] at h
  exact ⟨of_decide_eq_true h.1.1.1, of_decide_eq_true h.1.1.2, of_decide_eq_true h.1.2, of_decide_eq_true h.2⟩

variable (m : (ℓ : Loc nD τ sig) → Buf (Elt Ideal) ℓ)

/-! What the host operations leave. -/
theorem V_q (c : Dev nD) (i : Fin 512) (j : Fin 16384) : V m c main_v0 (ix2 i j) = m (c, Proc.tc.devRef main_arg1) (ix2 j i) := by
  unfold V
  after_results_simp
  pointwise
theorem V_k (c : Dev nD) (i : Fin 16384) (j : Fin 512) : V m c main_v1 (ix2 i j) = m (c, Proc.tc.devRef main_arg2) (ix2 i j) := by
  unfold V
  after_results_simp
  pointwise
theorem V_v (c : Dev nD) (i : Fin 512) (j : Fin 16384) : V m c main_v3 (ix2 i j) = m (c, Proc.tc.devRef main_arg3) (ix2 j i) := by
  unfold V
  after_results_simp
  pointwise
theorem V_g (c : Dev nD) (j : Fin 128) : V m c main_v4 (ix2 0 j) = m (c, Proc.tc.devRef main_arg4) (ix1 j) := by
  unfold V
  after_results_simp
  pointwise
theorem V_l (c : Dev nD) (j : S1.Idx) : V m c main_arg0 j = m (c, Proc.tc.devRef main_arg0) j := by
  unfold V
  after_results_simp

variable (c : Dev nD) (t : Fin grid0.N)

theorem xQ_at (f : Fin 128) (j : Fin 1024) (h1 : 1024 * qn t + j.val < 16384) (h2 : 128 * hd t + f.val < 512) :
    xQ m c t (ix2 f j) = m (c, Proc.tc.devRef main_arg1) (ix2 ⟨1024 * qn t + j.val, h1⟩ ⟨128 * hd t + f.val, h2⟩) := by
  refine Eq.trans ?_ (V_q m c _ _)
  unfold xQ blk
  rw [View.read_apply]
  refine congrArg (V m c main_v0) (funext fun a => Fin.ext ?_)
  have e := (index t).1
  match a with
  | 0 => exact (Pipeline.Window.rect_emb_val _ t _ 0).trans (by rw [e]; show hd t * 128 + f.val = _; show _ = 128 * hd t + f.val; omega)
  | 1 => exact (Pipeline.Window.rect_emb_val _ t _ 1).trans (by rw [e]; show qn t * 1024 + j.val = _; show _ = 1024 * qn t + j.val; omega)

theorem xK_at (x : Fin 1024) (f : Fin 128) (h1 : 1024 * kn t + x.val < 16384) (h2 : 128 * hd t + f.val < 512) :
    xK m c t (ix2 x f) = m (c, Proc.tc.devRef main_arg2) (ix2 ⟨1024 * kn t + x.val, h1⟩ ⟨128 * hd t + f.val, h2⟩) := by
  refine Eq.trans ?_ (V_k m c _ _)
  unfold xK blk
  rw [View.read_apply]
  refine congrArg (V m c main_v1) (funext fun a => Fin.ext ?_)
  have e := (index t).2.1
  match a with
  | 0 => exact (Pipeline.Window.rect_emb_val _ t _ 0).trans (by rw [e]; show kn t * 1024 + x.val = _; show _ = 1024 * kn t + x.val; omega)
  | 1 => exact (Pipeline.Window.rect_emb_val _ t _ 1).trans (by rw [e]; show hd t * 128 + f.val = _; show _ = 128 * hd t + f.val; omega)

theorem xV_at (r : Fin 128) (x : Fin 1024) (h1 : 1024 * kn t + x.val < 16384) (h2 : 128 * hd t + r.val < 512) :
    xV m c t (ix2 r x) = m (c, Proc.tc.devRef main_arg3) (ix2 ⟨1024 * kn t + x.val, h1⟩ ⟨128 * hd t + r.val, h2⟩) := by
  refine Eq.trans ?_ (V_v m c _ _)
  unfold xV blk
  rw [View.read_apply]
  refine congrArg (V m c main_v3) (funext fun a => Fin.ext ?_)
  have e := (index t).2.2.1
  match a with
  | 0 => exact (Pipeline.Window.rect_emb_val _ t _ 0).trans (by rw [e]; show hd t * 128 + r.val = _; show _ = 128 * hd t + r.val; omega)
  | 1 => exact (Pipeline.Window.rect_emb_val _ t _ 1).trans (by rw [e]; show kn t * 1024 + x.val = _; show _ = 1024 * kn t + x.val; omega)

theorem xG_at (d : Fin 128) : xG m c t (ix2 0 d) = m (c, Proc.tc.devRef main_arg4) (ix1 d) := by
  refine Eq.trans ?_ (V_g m c _)
  unfold xG blk
  rw [View.read_apply]
  refine congrArg (V m c main_v4) (funext fun a => Fin.ext ?_)
  match a with
  | 0 => exact Pipeline.Window.rect_emb_val_of_index_zero _ t 0 rfl _
  | 1 => exact Pipeline.Window.rect_emb_val_of_index_zero _ t 1 rfl _

theorem xL_at : lamOf (xL m c t) = m (c, Proc.tc.devRef main_arg0) (ix1 0) := by
  refine Eq.trans ?_ (V_l m c _)
  unfold lamOf xL blk
  rw [View.read_apply]
  refine congrArg (V m c main_arg0) (funext fun a => Fin.ext ?_)
  match a with
  | 0 => exact (Pipeline.Window.rect_emb_val_of_index_zero _ t 0 rfl _).trans rfl

/-- Where an element of the output block lies in the result. -/
theorem out_emb (y : S1024x128.Idx) (h1 : 1024 * qn t + (y 0).val < 16384) (h2 : 128 * hd t + (y 1).val < 512) :
    (((cfgA (F := Ideal)).win (5 : Fin 6)).blk t).view.emb y = (ix2 ⟨1024 * qn t + (y 0).val, h1⟩ ⟨128 * hd t + (y 1).val, h2⟩ : S16384x512.Idx) := by
  refine funext fun a => Fin.ext ?_
  have e := (index t).2.2.2
  match a with
  | 0 => exact (Pipeline.Window.rect_emb_val _ t _ 0).trans (by rw [e]; show qn t * 1024 + (y 0).val = _; show _ = 1024 * qn t + (y 0).val; omega)
  | 1 => exact (Pipeline.Window.rect_emb_val _ t _ 1).trans (by rw [e]; show hd t * 128 + (y 1).val = _; show _ = 128 * hd t + (y 1).val; omega)

/-- The kernel's result, from what each flushing point leaves in its block. -/
theorem result_eq (G : S16384x512.Idx → EReal)
    (hG : ∀ t : Fin grid0.N, ¬ before (pairOf (grid0.coords t)) → ∀ (j : Fin 1024) (d : Fin 128) (h1 : 1024 * qn t + j.val < 16384) (h2 : 128 * hd t + d.val < 512),
      out (lamOf (xL m c t)) (xG m c t) (state m c (t.val + 1)) (ix2 j d) = G (ix2 ⟨1024 * qn t + j.val, h1⟩ ⟨128 * hd t + d.val, h2⟩)) :
    result m c = G := by
  refine (dats m 0 c).arrAt_eq_of_covers (5 : Fin 6) G (by decide +kernel) fun t hf y => ?_
  have hb : ¬ before (pairOf (grid0.coords t)) := fun hb => by
    have h := (flushes (F := Ideal) t).1.symm.trans hf
    rw [decide_eq_true hb] at h
    exact absurd h (by decide)
  obtain ⟨b1, b2, b3⟩ := bounds t
  have h1 : 1024 * qn t + (y 0).val < 16384 := by have : (y 0).val < 1024 := (y 0).isLt; omega
  have h2 : 128 * hd t + (y 1).val < 512 := by have : (y 1).val < 128 := (y 1).isLt; omega
  refine Eq.trans ?_ ((hG t hb (y 0) (y 1) h1 h2).trans (congrArg G (out_emb t y h1 h2).symm))
  blk_simp
  rw [after_5]
  exact congrArg _ (ValueIdx.eq_ix2 _)

end Cert.KernelIdeal.Attn

end
-- ==== Proof.Value.lean ====
/- The kernel's result over real queries, keys and values: the norm of the two softmaxes' difference, head by head. -/
module

public import proofs.«01_k».proof.Proof.Shares
public import proofs.«01_k».proof.Proof.Blocks

@[expose] public section

set_option maxRecDepth 16384

noncomputable section

namespace Cert.KernelIdeal.Attn

open Cert.KernelIdeal Cert.KernelIdeal.Gen Cert.Softmax
open Idealize.ShloMosaic Idealize.ShloMosaic.TcCoe

variable (m : (ℓ : Loc nD τ sig) → Buf (Elt Ideal) ℓ) (c : Dev nD) (L : ℝ) (Q K W : ℕ → ℕ → ℝ)

/-- The arguments are real. -/
structure Reals : Prop where
  l : m (c, Proc.tc.devRef main_arg0) (ix1 0) = (L : EReal)
  q : ∀ (i : Fin 16384) (j : Fin 512), m (c, Proc.tc.devRef main_arg1) (ix2 i j) = (Q i.val j.val : EReal)
  k : ∀ (i : Fin 16384) (j : Fin 512), m (c, Proc.tc.devRef main_arg2) (ix2 i j) = (K i.val j.val : EReal)
  v : ∀ (i : Fin 16384) (j : Fin 512), m (c, Proc.tc.devRef main_arg3) (ix2 i j) = (W i.val j.val : EReal)

/-- The scores of a point's column, in units of the logarithm of two: the first 64 features from `128 * hd t + o` on. -/
def sc (o : ℕ) (t : Fin grid0.N) (j : Fin 1024) (x : ℕ) : ℝ := score Q K (128 * hd t + o) (1024 * qn t + j.val) x * (Real.log 2)⁻¹

/-- The values of a point's row, ones past the features. -/
def vr (t : Fin grid0.N) (r : Fin 144) (x : ℕ) : ℝ := if r.val < 128 then W x (128 * hd t + r.val) else 1

/-- The word of zero. -/
theorem zero_f32 : Scalar.ofBits (F := Ideal) .f32 0x00000000#32 = (0 : EReal) := by
  show Ideal.ofBits .f32 0x00000000#32 = 0
  simp [Ideal.ofBits, Ideal.ieee]

variable (h : Reals m c L Q K W)
include h

theorem scA_point (t : Fin grid0.N) (j : Fin 1024) (o : ℕ) (ho : o + 256 ≤ 1024) (x : Fin 256) :
    scA (xQ m c t) (xK m c t) o ho j x = (sc Q K 0 t j (1024 * kn t + (o + x.val)) : EReal) := by
  obtain ⟨b1, b2, b3⟩ := bounds t
  rw [scA_real (xQ m c t) (xK m c t) (fun f => Q (1024 * qn t + j.val) (128 * hd t + f)) (fun x f => K (1024 * kn t + x) (128 * hd t + f)) o ho j x
    (fun f => (xQ_at m c t f j (by omega) (by omega)).trans (h.q _ _)) (fun x f => (xK_at m c t x f (by omega) (by omega)).trans (h.k _ _)), sc, score]
  congr 1
  rw [Nat.add_zero, mul_inv]
  ring

theorem scB_point (t : Fin grid0.N) (j : Fin 1024) (o : ℕ) (ho : o + 256 ≤ 1024) (x : Fin 256) :
    scB (xQ m c t) (xK m c t) o ho j x = (sc Q K 64 t j (1024 * kn t + (o + x.val)) : EReal) := by
  obtain ⟨b1, b2, b3⟩ := bounds t
  rw [scB_real (xQ m c t) (xK m c t) (fun f => Q (1024 * qn t + j.val) (128 * hd t + f)) (fun x f => K (1024 * kn t + x) (128 * hd t + f)) o ho j x
    (fun f => (xQ_at m c t f j (by omega) (by omega)).trans (h.q _ _)) (fun x f => (xK_at m c t x f (by omega) (by omega)).trans (h.k _ _)), sc, score]
  congr 1
  simp only [← Nat.add_assoc, mul_inv]
  ring

theorem vals_point (t : Fin grid0.N) (r : Fin 144) (o : ℕ) (ho : o + 256 ≤ 1024) (x : Fin 256) :
    vals (xV m c t) o ho r x = (vr W t r (1024 * kn t + (o + x.val)) : EReal) := by
  obtain ⟨b1, b2, b3⟩ := bounds t
  exact vals_real (xV m c t) (fun x r => W (1024 * kn t + x) (128 * hd t + r)) o ho r x
    (fun r x => (xV_at m c t r x (by omega) (by omega)).trans (h.v _ _))

/-- After a point, its block's columns hold the sums over all keys up to the point's key block. -/
theorem state_good : ∀ (n : ℕ) (t : Fin grid0.N), t.val = n → ∀ (j : Fin 1024) (r : Fin 144),
    StGood (sc Q K 0 t j) (sc Q K 64 t j) (vr W t r) (1024 * qn t + j.val) (1024 * kn t + 1024) (state m c (t.val + 1)) j r := by
  intro n
  induction n with
  | zero => ?_
  | succ n ih => ?_
  all_goals
    intro t ht j r
    obtain ⟨o1, o2, o3, o4⟩ := order t
    have base : StGood (sc Q K 0 t j) (sc Q K 64 t j) (vr W t r) (1024 * qn t + j.val) (1024 * kn t)
        (if first (pairOf (grid0.coords t)) then start else state m c t.val) j r := by
      by_cases hf : first (pairOf (grid0.coords t))
      · rw [if_pos hf]
        have hk := o3 hf
        exact ⟨Or.inl ⟨by omega, mask_value, zero_f32⟩, Or.inl ⟨by omega, mask_value, zero_f32⟩⟩
      · rw [if_neg hf]
        obtain ⟨p1, p2, p3, p4⟩ := o4 hf
        first
          | exact absurd ht p1
          | have e := ih (prv t) (by show t.val - 1 = n; omega) j r
            have e1 : (prv t).val + 1 = t.val := by show t.val - 1 + 1 = t.val; omega
            unfold sc vr at e ⊢
            rw [p2, p3, e1, show 1024 * kn (prv t) + 1024 = 1024 * kn t by omega] at e
            exact e
    rw [show state m c (t.val + 1) = _ from state_succ m c t]
    unfold step
    by_cases hb : before (pairOf (grid0.coords t))
    · rw [if_pos hb]
      exact full_good _ _ _ _ _ _ _ _ _ _ _ (fun o ho x => scA_point m c L Q K W h t j o ho x) (fun o ho x => scB_point m c L Q K W h t j o ho x)
        (fun o ho x => vals_point m c L Q K W h t r o ho x) (by have := o1 hb; omega) base
    · rw [if_neg hb]
      have e := o2 hb
      have eq : qn t = kn t := congrArg BitVec.toNat e
      show StGood _ _ _ _ _ (diag (qiOf (pairOf (grid0.coords t))) (kjOf (pairOf (grid0.coords t))) _ _ _ _) j r
      rw [e]
      exact diag_good _ _ _ _ _ _ _ _ _ _ _ _ (fun o ho x => scA_point m c L Q K W h t j o ho x) (fun o ho x => scB_point m c L Q K W h t j o ho x)
        (fun o ho x => vals_point m c L Q K W h t r o ho x) (by rw [eq]) base

/-- What a query block's last point writes. -/
theorem written (t : Fin grid0.N) (hb : ¬ before (pairOf (grid0.coords t))) (j : Fin 1024) (d : Fin 128) :
    out (lamOf (xL m c t)) (xG m c t) (state m c (t.val + 1)) (ix2 j d)
      = (headOut L Q K W (hd t) (1024 * qn t + j.val) d.val : EReal)
        * Ideal.rsqrt (Ideal.div (∑ x : Fin 128, (headOut L Q K W (hd t) (1024 * qn t + j.val) x.val : EReal) * (headOut L Q K W (hd t) (1024 * qn t + j.val) x.val : EReal))
            (Ideal.ofBits .f32 0x43000000#32) + Ideal.ofBits .f32 0x358637BD#32)
        * m (c, Proc.tc.devRef main_arg4) (ix1 d) * Ideal.ofBits .f32 0x3F4CCCCD#32 := by
  obtain ⟨b1, b2, b3⟩ := bounds t
  have eq : qn t = kn t := congrArg BitVec.toNat ((order t).2.1 hb)
  rw [out_at _ _ _ (headOut L Q K W (hd t) (1024 * qn t + j.val)) j d ?_, xG_at]
  intro x
  have hx := state_good m c L Q K W h t.val t rfl j ⟨x.val, by omega⟩
  have h1 := state_good m c L Q K W h t.val t rfl j ⟨128, by omega⟩
  have v1 : vr W t ⟨128, by omega⟩ = fun _ => 1 := funext fun y => if_neg (show ¬ 128 < 128 from Nat.lt_irrefl _)
  have vx : vr W t ⟨x.val, by omega⟩ = fun y => W y (128 * hd t + x.val) := funext fun y => if_pos x.isLt
  rw [v1] at h1
  rw [vx] at hx
  rw [xL_at, h.l, share (score Q K (128 * hd t + 0) (1024 * qn t + j.val)) _ _ _ 16384 _ _ _ (by omega) (by omega) hx.1 h1.1,
    share (score Q K (128 * hd t + 64) (1024 * qn t + j.val)) _ _ _ 16384 _ _ _ (by omega) (by omega) hx.2 h1.2, ← EReal.coe_mul, ← EReal.coe_sub]
  rfl

end Cert.KernelIdeal.Attn

end
-- ==== Proof.Reference.lean ====
/- The reference's value at an element: two masked softmaxes over all keys, their difference against the values, and the norm. -/
module

public import proofs.«01_k».proof.Proof.Gen.ReferenceIdeal.Run
public import Idealize.ShloMosaic.Lib.Pointwise
public import proofs.«01_k».proof.Proof.Soft

@[expose] public section
set_option maxRecDepth 16384
noncomputable section
namespace Cert.ReferenceIdeal.Attn
open Cert.ReferenceIdeal Cert.ReferenceIdeal.Gen
open Idealize.ShloMosaic Idealize.ShloMosaic.TcCoe
open Cert.Softmax

/-- The masked scores. -/
def scores (q k : FVec Ideal S16384x512 .f32) : FVec Ideal S4x2x16384x16384 .f32 :=
  select (broadcastInDim S4x2x16384x16384 ![2, 3] bcast_S16384x16384_S4x2x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (mulf (Host.dotGeneral dot_S16384x4x2x64_S16384x4x2x64_S4x2x16384x16384_3_3_0_0_12_12 none (shapeCast _ q shapeCasts_S16384x512_S16384x4x2x64) (shapeCast _ k shapeCasts_S16384x512_S16384x4x2x64)) (broadcastInDim S4x2x16384x16384 ![] bcast_S_S4x2x16384x16384 (constant S_ .f32 0x3E000000#32)))
    (broadcastInDim S4x2x16384x16384 ![] bcast_S_S4x2x16384x16384 (id (constant S_ .f32 0xFF800000#32)))

/-- A query's largest score. -/
def peak (s : FVec Ideal S4x2x16384x16384 .f32) : FVec Ideal S4x2x16384 .f32 :=
  maximumf (broadcastInDim S4x2x16384 ![] bcast_S_S4x2x16384 (constant S_ .f32 0xFF800000#32))
    (Host.reduce FloatOps.maximumf s (constant S_ .f32 0xFF800000#32) reducesTo_S4x2x16384x16384_S4x2x16384_d3 h_S_)

def expo (s : FVec Ideal S4x2x16384x16384 .f32) : FVec Ideal S4x2x16384x16384 .f32 :=
  Host.exp (subf s (broadcastInDim S4x2x16384x16384 ![0, 1, 2, 3] bcast_S4x2x16384x1_S4x2x16384x16384_0_1_2_3 (broadcastInDim S4x2x16384x1 ![0, 1, 2] bcast_S4x2x16384_S4x2x16384x1_0_1_2 (peak s))))

def total (e : FVec Ideal S4x2x16384x16384 .f32) : FVec Ideal S4x2x16384 .f32 :=
  Host.reduceAdd e (constant S_ .f32 0x00000000#32) reducesTo_S4x2x16384x16384_S4x2x16384_d3 h_S_

def soft (e : FVec Ideal S4x2x16384x16384 .f32) : FVec Ideal S4x2x16384x16384 .f32 :=
  Host.divf e (broadcastInDim S4x2x16384x16384 ![0, 1, 2, 3] bcast_S4x2x16384x1_S4x2x16384x16384_0_1_2_3 (broadcastInDim S4x2x16384x1 ![0, 1, 2] bcast_S4x2x16384_S4x2x16384x1_0_1_2 (total e)))

/-- The two softmaxes' difference. -/
def mixed (l : FVec Ideal S1 .f32) (p : FVec Ideal S4x2x16384x16384 .f32) : FVec Ideal S4x16384x16384 .f32 :=
  subf (shapeCast _ (extractStridedSlice S4x1x16384x16384 ![0, 0, 0, 0] p slices_S4x2x16384x16384_S4x1x16384x16384_0_0_0_0) shapeCasts_S4x1x16384x16384_S4x16384x16384)
    (mulf (broadcastInDim S4x16384x16384 ![] bcast_S_S4x16384x16384 (shapeCast _ l shapeCasts_S1_S_))
      (shapeCast _ (extractStridedSlice S4x1x16384x16384 ![0, 1, 0, 0] p slices_S4x2x16384x16384_S4x1x16384x16384_0_1_0_0) shapeCasts_S4x1x16384x16384_S4x16384x16384))

def attended (v : FVec Ideal S16384x512 .f32) (p : FVec Ideal S4x16384x16384 .f32) : FVec Ideal S16384x4x128 .f32 :=
  transpose S16384x4x128 [2, 0, 1] (Host.dotGeneral dot_S16384x4x128_S4x16384x16384_S4x128x16384_0_2_2_1_1_0 none (shapeCast _ v shapeCasts_S16384x512_S16384x4x128) p) transposes_S4x128x16384_S16384x4x128_2_0_1

def normed (g : FVec Ideal S128 .f32) (y : FVec Ideal S16384x4x128 .f32) : FVec Ideal S16384x512 .bf16 :=
  truncf .bf16 (shapeCast _ (mulf (mulf (mulf y
    (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf y y) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 g)))
    (broadcastInDim S16384x4x128 ![] bcast_S_S16384x4x128 (constant S_ .f32 0x3F4CCCCD#32))) shapeCasts_S16384x4x128_S16384x512) bitsLt_bf16_f32

variable (m : (ℓ : Loc nD τ sig) → Buf (Elt Ideal) ℓ)

theorem res_eq (c : Dev nD) : Value.res_main_v50 m c = normed (m ((c.tc : Thread nD τ).loc main_arg4))
    (attended (m ((c.tc : Thread nD τ).loc main_arg3)) (mixed (m ((c.tc : Thread nD τ).loc main_arg0)) (soft (expo (scores (m ((c.tc : Thread nD τ).loc main_arg1)) (m ((c.tc : Thread nD τ).loc main_arg2))))))) := by
  unfold Value.res_main_v50 normed attended mixed soft total expo peak scores
  rfl

/-! ## At an element -/

theorem ofBits_eighth : Ideal.ofBits .f32 0x3E000000#32 = ((1 / 8 : ℝ) : EReal) := by
  simp [Ideal.ofBits, Ideal.ieee, -EReal.coe_mul]; norm_num
theorem ofBits_bot : Ideal.ofBits .f32 0xFF800000#32 = ⊥ := by simp [Ideal.ofBits, Ideal.ieee]

/-- The mask's comparison of two positions' words. -/
theorem select_pos {α : Type} (a b : ℕ) (ha : a < 16384) (hb : b < 16384) (A B : α) :
    Scalar.select (IntOp.cmpi .sle (BitVec.ofNat 32 a) (BitVec.ofNat 32 b)) A B = if a ≤ b then A else B := by
  have e : ∀ n : ℕ, n < 16384 → (BitVec.ofNat 32 n).toInt = n := fun n hn => by
    have hm : n % 2 ^ 32 = n := Nat.mod_eq_of_lt (by omega)
    rw [BitVec.toInt_eq_toNat_of_lt (by rw [BitVec.toNat_ofNat, hm]; omega), BitVec.toNat_ofNat, hm]
  have hs : (BitVec.ofNat 32 a).sle (BitVec.ofNat 32 b) = decide (a ≤ b) := by
    rw [BitVec.sle_eq_decide, e _ ha, e _ hb]; exact decide_eq_decide.2 Int.ofNat_le
  unfold IntOp.cmpi
  by_cases h : a ≤ b
  · simp only [hs, h, decide_true, if_true]; simp [Scalar.select]
  · simp only [hs, h, decide_false, if_false]; simp [Scalar.select]

theorem max_at {s : Shape} (x y : FVec Ideal s .f32) (i : s.Idx) : maximumf x y i = max (x i) (y i) := rfl
theorem sub_at {s : Shape} (x y : FVec Ideal s .f32) (i : s.Idx) : subf x y i = x i - y i := rfl
theorem mul_at {s : Shape} (x y : FVec Ideal s .f32) (i : s.Idx) : mulf x y i = x i * y i := rfl

theorem scores_word (q k : FVec Ideal S16384x512 .f32) (h : Fin 4) (u : Fin 2) (i j : Fin 16384) :
    scores q k (ix4 h u i j) = Scalar.select (IntOp.cmpi .sle (BitVec.ofNat 32 j.val) (BitVec.ofNat 32 i.val))
      ((∑ x : Fin 64, q (ix2 i ⟨h.val * 128 + u.val * 64 + x.val, by omega⟩) * k (ix2 j ⟨h.val * 128 + u.val * 64 + x.val, by omega⟩)) * Ideal.ofBits .f32 0x3E000000#32)
      (Ideal.ofBits .f32 0xFF800000#32) := by
  pointwise [scores]
  rfl

theorem top_at (s : FVec Ideal S4x2x16384x16384 .f32) (h : Fin 4) (u : Fin 2) (i : Fin 16384) :
    Host.reduce FloatOps.maximumf s (constant S_ .f32 0xFF800000#32) reducesTo_S4x2x16384x16384_S4x2x16384_d3 h_S_ (ix3 h u i)
      = Finset.univ.fold max (Ideal.ofBits .f32 0xFF800000#32) (fun x => s (ix4 h u i x)) := by
  pointwise

theorem low_at (h : Fin 4) (u : Fin 2) (i : Fin 16384) :
    broadcastInDim S4x2x16384 ![] bcast_S_S4x2x16384 (constant (F := Ideal) S_ .f32 0xFF800000#32) (ix3 h u i) = Ideal.ofBits .f32 0xFF800000#32 := by
  pointwise

theorem peak_word (s : FVec Ideal S4x2x16384x16384 .f32) (h : Fin 4) (u : Fin 2) (i : Fin 16384) :
    peak s (ix3 h u i) = max (Ideal.ofBits .f32 0xFF800000#32) (Finset.univ.fold max (Ideal.ofBits .f32 0xFF800000#32) (fun x => s (ix4 h u i x))) := by
  unfold peak
  rw [max_at, low_at, top_at]

theorem peak_at (s : FVec Ideal S4x2x16384x16384 .f32) (h : Fin 4) (u : Fin 2) (i : Fin 16384) :
    peak s (ix3 h u i) = max ⊥ (Finset.univ.fold max ⊥ (fun x => s (ix4 h u i x))) := by
  rw [peak_word, ofBits_bot]

theorem expo_at (s : FVec Ideal S4x2x16384x16384 .f32) (h : Fin 4) (u : Fin 2) (i j : Fin 16384) :
    expo s (ix4 h u i j) = Ideal.exp (s (ix4 h u i j) - peak s (ix3 h u i)) := by
  pointwise [expo]

theorem total_at (s : FVec Ideal S4x2x16384x16384 .f32) (h : Fin 4) (u : Fin 2) (i : Fin 16384) :
    total s (ix3 h u i) = ∑ x, s (ix4 h u i x) := by
  pointwise [total]

theorem soft_at (s : FVec Ideal S4x2x16384x16384 .f32) (h : Fin 4) (u : Fin 2) (i j : Fin 16384) :
    soft s (ix4 h u i j) = Ideal.div (s (ix4 h u i j)) (total s (ix3 h u i)) := by
  pointwise [soft]

theorem head0_at (p : FVec Ideal S4x2x16384x16384 .f32) (h : Fin 4) (i j : Fin 16384) :
    extractStridedSlice S4x1x16384x16384 ![0, 0, 0, 0] p slices_S4x2x16384x16384_S4x1x16384x16384_0_0_0_0 (ix4 h 0 i j) = p (ix4 h 0 i j) := by
  pointwise
theorem head1_at (p : FVec Ideal S4x2x16384x16384 .f32) (h : Fin 4) (i j : Fin 16384) :
    extractStridedSlice S4x1x16384x16384 ![0, 1, 0, 0] p slices_S4x2x16384x16384_S4x1x16384x16384_0_1_0_0 (ix4 h 0 i j) = p (ix4 h 1 i j) := by
  pointwise
theorem flat_at (x : FVec Ideal S4x1x16384x16384 .f32) (h : Fin 4) (i j : Fin 16384) :
    shapeCast S4x16384x16384 x shapeCasts_S4x1x16384x16384_S4x16384x16384 (ix3 h i j) = x (ix4 h 0 i j) := by
  pointwise
theorem lam_at (l : FVec Ideal S1 .f32) (h : Fin 4) (i j : Fin 16384) :
    broadcastInDim S4x16384x16384 ![] bcast_S_S4x16384x16384 (shapeCast _ l shapeCasts_S1_S_) (ix3 h i j) = l (ix1 0) := by
  pointwise

theorem mixed_at (l : FVec Ideal S1 .f32) (p : FVec Ideal S4x2x16384x16384 .f32) (h : Fin 4) (i j : Fin 16384) :
    mixed l p (ix3 h i j) = p (ix4 h 0 i j) - l (ix1 0) * p (ix4 h 1 i j) := by
  unfold mixed
  rw [sub_at, mul_at, flat_at, flat_at, head0_at, head1_at, lam_at]

theorem attended_at (v : FVec Ideal S16384x512 .f32) (p : FVec Ideal S4x16384x16384 .f32) (i : Fin 16384) (h : Fin 4) (d : Fin 128) :
    attended v p (ix3 i h d) = ∑ x : Fin 16384, v (ix2 x ⟨h.val * 128 + d.val, by omega⟩) * p (ix3 h i x) := by
  pointwise [attended]

theorem normed_at (g : FVec Ideal S128 .f32) (y : FVec Ideal S16384x4x128 .f32) (i : Fin 16384) (d : Fin 512) :
    normed g y (ix2 i d) = y (ix3 i ⟨d.val / 128, by omega⟩ ⟨d.val % 128, by omega⟩)
        * Ideal.rsqrt (Ideal.div (∑ x : Fin 128, y (ix3 i ⟨d.val / 128, by omega⟩ x) * y (ix3 i ⟨d.val / 128, by omega⟩ x)) (Ideal.ofBits .f32 0x43000000#32) + Ideal.ofBits .f32 0x358637BD#32)
        * g (ix1 ⟨d.val % 128, by omega⟩) * Ideal.ofBits .f32 0x3F4CCCCD#32 := by
  pointwise [normed]

end Cert.ReferenceIdeal.Attn

end
-- ==== Proof.RefReal.lean ====
/- The reference's value over real queries, keys and values. -/
module

public import proofs.«01_k».proof.Proof.Reference

@[expose] public section
set_option maxRecDepth 16384
noncomputable section
namespace Cert.ReferenceIdeal.Attn
open Cert.ReferenceIdeal Cert.ReferenceIdeal.Gen
open Idealize.ShloMosaic Idealize.ShloMosaic.TcCoe
open Cert.Softmax

variable (l : FVec Ideal S1 .f32) (q k v : FVec Ideal S16384x512 .f32) (L : ℝ) (Q K W : ℕ → ℕ → ℝ)

theorem scores_real (hq : ∀ i j, q (ix2 i j) = (Q i.val j.val : EReal)) (hk : ∀ i j, k (ix2 i j) = (K i.val j.val : EReal)) (h : Fin 4) (u : Fin 2) (i j : Fin 16384) :
    scores q k (ix4 h u i j) = if j.val ≤ i.val then (score Q K (128 * h.val + 64 * u.val) i.val j.val : EReal) else ⊥ := by
  rw [scores_word, select_pos _ _ j.isLt i.isLt, ofBits_bot, ofBits_eighth]
  congr 1
  have e : ∀ x : Fin 64, q (ix2 i ⟨h.val * 128 + u.val * 64 + x.val, by omega⟩) * k (ix2 j ⟨h.val * 128 + u.val * 64 + x.val, by omega⟩)
      = ((Q i.val (128 * h.val + 64 * u.val + x.val) * K j.val (128 * h.val + 64 * u.val + x.val) : ℝ) : EReal) := fun x => by
    rw [hq, hk, ← EReal.coe_mul]
    show ((Q i.val (h.val * 128 + u.val * 64 + x.val) * K j.val (h.val * 128 + u.val * 64 + x.val) : ℝ) : EReal) = _
    rw [show h.val * 128 + u.val * 64 + x.val = 128 * h.val + 64 * u.val + x.val by omega]
  rw [Finset.sum_congr rfl fun x _ => e x, coe_sum, ← EReal.coe_mul, score, Finset.sum_range]

theorem row_real (hq : ∀ i j, q (ix2 i j) = (Q i.val j.val : EReal)) (hk : ∀ i j, k (ix2 i j) = (K i.val j.val : EReal)) (h : Fin 4) (u : Fin 2) (i j : Fin 16384) (M : EReal)
    (hM : M = max ⊥ (Finset.univ.fold max ⊥ (fun x => scores q k (ix4 h u i x)))) :
    Ideal.div (Ideal.exp (scores q k (ix4 h u i j) - M)) (∑ x : Fin 16384, Ideal.exp (scores q k (ix4 h u i x) - M))
      = (sm 16384 (score Q K (128 * h.val + 64 * u.val) i.val) i.val j.val : EReal) :=
  row_soft (score Q K (128 * h.val + 64 * u.val) i.val) i.val (fun x => scores q k (ix4 h u i x)) (fun x => scores_real q k Q K hq hk h u i x) M hM j

theorem soft_real (hq : ∀ i j, q (ix2 i j) = (Q i.val j.val : EReal)) (hk : ∀ i j, k (ix2 i j) = (K i.val j.val : EReal)) (h : Fin 4) (u : Fin 2) (i j : Fin 16384) :
    soft (expo (scores q k)) (ix4 h u i j) = (sm 16384 (score Q K (128 * h.val + 64 * u.val) i.val) i.val j.val : EReal) := by
  have e : ∀ x, expo (scores q k) (ix4 h u i x) = Ideal.exp (scores q k (ix4 h u i x) - peak (scores q k) (ix3 h u i)) := expo_at _ h u i
  rw [soft_at, total_at]
  simp only [e]
  exact row_real q k Q K hq hk h u i j _ (peak_at _ h u i)

variable (hq : ∀ i j, q (ix2 i j) = (Q i.val j.val : EReal)) (hk : ∀ i j, k (ix2 i j) = (K i.val j.val : EReal))
include hq hk

theorem soft0 (h : Fin 4) (i j : Fin 16384) : soft (expo (scores q k)) (ix4 h 0 i j) = (sm 16384 (score Q K (128 * h.val) i.val) i.val j.val : EReal) := by
  have e := soft_real q k Q K hq hk h 0 i j
  rwa [Fin.val_zero, Nat.mul_zero, Nat.add_zero] at e
theorem soft1 (h : Fin 4) (i j : Fin 16384) : soft (expo (scores q k)) (ix4 h 1 i j) = (sm 16384 (score Q K (128 * h.val + 64) i.val) i.val j.val : EReal) := by
  have e := soft_real q k Q K hq hk h 1 i j
  rwa [Fin.val_one, Nat.mul_one] at e

theorem term_at (hl : l (ix1 0) = (L : EReal)) (hv : ∀ i j, v (ix2 i j) = (W i.val j.val : EReal)) (i : Fin 16384) (h : Fin 4) (d : Fin 128) (x : Fin 16384) :
    v (ix2 x ⟨h.val * 128 + d.val, by omega⟩) * mixed l (soft (expo (scores q k))) (ix3 h i x)
      = ((sm 16384 (score Q K (128 * h.val) i.val) i.val x.val * W x.val (128 * h.val + d.val)
          - L * (sm 16384 (score Q K (128 * h.val + 64) i.val) i.val x.val * W x.val (128 * h.val + d.val)) : ℝ) : EReal) := by
  have e : v (ix2 x ⟨h.val * 128 + d.val, by omega⟩) = (W x.val (128 * h.val + d.val) : EReal) := by
    rw [hv]; dsimp only; rw [Nat.mul_comm]
  rw [mixed_at, soft0 q k Q K hq hk, soft1 q k Q K hq hk, hl, e, ← EReal.coe_mul, ← EReal.coe_sub, ← EReal.coe_mul]
  congr 1; ring

theorem attended_real (hl : l (ix1 0) = (L : EReal)) (hv : ∀ i j, v (ix2 i j) = (W i.val j.val : EReal)) (i : Fin 16384) (h : Fin 4) (d : Fin 128) :
    attended v (mixed l (soft (expo (scores q k)))) (ix3 i h d) = (headOut L Q K W h.val i.val d.val : EReal) := by
  rw [attended_at, Finset.sum_congr rfl fun x _ => term_at l q k v L Q K W hq hk hl hv i h d x, coe_sum, headOut, Finset.mul_sum, ← Finset.sum_sub_distrib, Finset.sum_range]

end Cert.ReferenceIdeal.Attn

end
-- ==== Proof.Conforms.lean ====
/- On finite arguments the kernel and the reference leave the same result. -/
module

public import proofs.«01_k».proof.Proof.Gen.Pre_finite
public import proofs.«01_k».proof.Proof.Value
public import proofs.«01_k».proof.Proof.RefReal
public import Idealize.ShloMosaic.Lib.ReduceAll

@[expose] public section

set_option maxRecDepth 16384

noncomputable section

namespace Cert.Conforms

open Idealize.ShloMosaic Idealize.ShloMosaic.TcCoe
open Cert.KernelIdeal.Attn (Reals result_eq written hd qn bounds)
open Cert.ReferenceIdeal.Attn (normed attended mixed soft expo scores normed_at attended_real res_eq)
open Cert.Softmax

abbrev Mat : Shape := ⟨2, ![16384, 512]⟩
abbrev One : Shape := ⟨1, ![1]⟩
abbrev Row : Shape := ⟨1, ![128]⟩

/-! ## Finite arguments are real -/

theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne fun hb => ?_).symm
  rw [hb] at hlt
  simp at hlt

theorem andi_split (a b : BitVec 1) (h : IntOp.andi a b = 1#1) : a = 1#1 ∧ b = 1#1 := by
  revert a b; decide

instance : Subsingleton (Shape.Idx Cert.Pre_finite.S_) := ⟨fun a b => funext fun i => i.elim0⟩

theorem finite_real (l : FVec Ideal One .f32) (q k v : FVec Ideal Mat .f32) (g : FVec Ideal Row .f32)
    (h : Cert.Pre_finite.fn (F := Ideal) l q k v g = fun _ => 1#1) :
    (∀ i, l i = ((l i).toReal : EReal)) ∧ (∀ i, q i = ((q i).toReal : EReal)) ∧ (∀ i, k i = ((k i).toReal : EReal)) ∧ (∀ i, v i = ((v i).toReal : EReal)) := by
  have e := congrFun h (fun i => i.elim0)
  dsimp only [Cert.Pre_finite.fn, Cert.Pre_finite.fn_part1] at e
  obtain ⟨e, e3⟩ := andi_split _ _ e
  obtain ⟨e, e2⟩ := andi_split _ _ e
  obtain ⟨e0, e1⟩ := andi_split _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

/-- A matrix of reals, by its rows and columns. -/
def entries (x : FVec Ideal Mat .f32) (i j : ℕ) : ℝ := if h : i < 16384 ∧ j < 512 then (x (ix2 ⟨i, h.1⟩ ⟨j, h.2⟩)).toReal else 0

theorem entries_eq (x : FVec Ideal Mat .f32) (h : ∀ i, x i = ((x i).toReal : EReal)) (i : Fin 16384) (j : Fin 512) : x (ix2 i j) = (entries x i.val j.val : EReal) := by
  rw [entries, dif_pos ⟨i.isLt, j.isLt⟩]
  exact h _

/-! ## The two results -/

/-- The reference's norm at a head's feature. -/
theorem normed_head (g : FVec Ideal Row .f32) (y : FVec Ideal Cert.ReferenceIdeal.S16384x4x128 .f32) (i : Fin 16384) (h : Fin 4) (d : Fin 128) (hd : 128 * h.val + d.val < 512) :
    normed g y (ix2 i ⟨128 * h.val + d.val, hd⟩) = y (ix3 i h d)
        * Ideal.rsqrt (Ideal.div (∑ x : Fin 128, y (ix3 i h x) * y (ix3 i h x)) (Ideal.ofBits .f32 0x43000000#32) + Ideal.ofBits .f32 0x358637BD#32)
        * g (ix1 d) * Ideal.ofBits .f32 0x3F4CCCCD#32 := by
  have eh : (⟨(128 * h.val + d.val) / 128, by omega⟩ : Fin 4) = h := Fin.ext (by show (128 * h.val + d.val) / 128 = h.val; omega)
  have ed : (⟨(128 * h.val + d.val) % 128, by omega⟩ : Fin 128) = d := Fin.ext (by show (128 * h.val + d.val) % 128 = d.val; omega)
  have e := normed_at g y i ⟨128 * h.val + d.val, hd⟩
  dsimp only at e
  rw [eh, ed] at e
  exact e

variable (m : (ℓ : Loc Cert.KernelIdeal.nD Cert.KernelIdeal.τ Cert.KernelIdeal.sig) → Buf (Elt Ideal) ℓ) (c : Dev Cert.KernelIdeal.nD)

theorem equal (l : FVec Ideal One .f32) (q k v : FVec Ideal Mat .f32) (g : FVec Ideal Row .f32)
    (h0 : m (c, Proc.tc.devRef Cert.KernelIdeal.main_arg0) = l) (h1 : m (c, Proc.tc.devRef Cert.KernelIdeal.main_arg1) = q)
    (h2 : m (c, Proc.tc.devRef Cert.KernelIdeal.main_arg2) = k) (h3 : m (c, Proc.tc.devRef Cert.KernelIdeal.main_arg3) = v)
    (h4 : m (c, Proc.tc.devRef Cert.KernelIdeal.main_arg4) = g) (hf : Cert.Pre_finite.fn (F := Ideal) l q k v g = fun _ => 1#1) :
    Cert.KernelIdeal.Attn.result m c = normed g (attended v (mixed l (soft (expo (scores q k))))) := by
  obtain ⟨f0, f1, f2, f3⟩ := finite_real l q k v g hf
  have hr : Reals m c (l (ix1 0)).toReal (entries q) (entries k) (entries v) :=
    ⟨by rw [h0]; exact f0 _, fun i j => by rw [h1]; exact entries_eq q f1 i j, fun i j => by rw [h2]; exact entries_eq k f2 i j, fun i j => by rw [h3]; exact entries_eq v f3 i j⟩
  refine result_eq m c _ fun t hb j d b1 b2 => ?_
  have ya : ∀ x : Fin 128, attended v (mixed l (soft (expo (scores q k)))) (ix3 ⟨1024 * qn t + j.val, b1⟩ ⟨hd t, (bounds t).1⟩ x)
      = (headOut (l (ix1 0)).toReal (entries q) (entries k) (entries v) (hd t) (1024 * qn t + j.val) x.val : EReal) :=
    fun x => attended_real l q k v _ _ _ _ (entries_eq q f1) (entries_eq k f2) (f0 _) (entries_eq v f3) _ _ x
  refine (written m c _ _ _ _ hr t hb j d).trans (Eq.trans ?_ (normed_head g _ ⟨1024 * qn t + j.val, b1⟩ ⟨hd t, (bounds t).1⟩ d b2).symm)
  simp only [ya, h4]

end Cert.Conforms

end
-- ==== Proof.Rows.lean ====
/- A row's values in the dense calls: the norm of a row, its product with a weight matrix, and the feed-forward part. -/
module

public import Idealize.ShloMosaic.Lib.Pointwise

@[expose] public section
noncomputable section
namespace Cert.Rows
open Idealize.ShloMosaic

/-- The reciprocal of a row's root mean square (the mean over 1024 entries, a small constant added). -/
def inv {n : ℕ} (x : Fin n → EReal) : EReal :=
  Ideal.rsqrt (Ideal.div (∑ i, x i * x i) (Ideal.ofBits .f32 0x44800000#32) + Ideal.ofBits .f32 0x358637BD#32)

/-- A row, normed and multiplied by the gain. -/
def rms {n : ℕ} (x g : Fin n → EReal) (d : Fin n) : EReal := x d * inv x * g d

/-- A row times a matrix. -/
def lin {n k : ℕ} (x : Fin n → EReal) (w : Fin n → Fin k → EReal) (j : Fin k) : EReal := ∑ i, x i * w i j

/-- The gated activation. -/
def act (a b : EReal) : EReal := a * Ideal.div 1 (1 + Ideal.exp (-a)) * b

/-- The feed-forward part of a row with the residual. -/
def ffn {n k : ℕ} (x g : Fin n → EReal) (wg wu : Fin n → Fin k → EReal) (wd : Fin k → Fin n → EReal) (d : Fin n) : EReal :=
  x d + lin (fun j => act (lin (rms x g) wg j) (lin (rms x g) wu j)) wd d

/-- The logistic function. -/
def squash (a : EReal) : EReal := Ideal.div 1 (1 + Ideal.exp (-a))

theorem zeros : (![0, 0] : Fin 2 → ℕ) = fun _ => 0 := by decide

theorem one_word : Ideal.ofBits .f32 0x3F800000#32 = 1 := by
  simp [Ideal.ofBits, Ideal.ieee, -EReal.coe_mul]; norm_num

end Cert.Rows
end
-- ==== Proof.Swiglu.lean ====
/- The feed-forward call's block at an element. -/
module

public import proofs.«01_k».proof.Proof.Gen.FfnIdeal.Value
public import proofs.«01_k».proof.Proof.Rows

@[expose] public section
set_option maxRecDepth 16384
noncomputable section
namespace Cert.FfnIdeal.Dense
open Cert.FfnIdeal Cert.FfnIdeal.Gen
open Idealize.ShloMosaic Idealize.ShloMosaic.TcCoe
open Cert.Rows

variable (x : FVec Ideal S256x1024 .f32) (g : FVec Ideal S1x1024 .f32)

/-- The normed block. -/
def normed : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

theorem normed_at (r : Fin 256) (d : Fin 1024) : normed x g (ix2 r d) = rms (fun i => x (ix2 r i)) (fun i => g (ix2 0 i)) d := by
  pointwise [normed]
  rfl

def hidden (w : FVec Ideal S1024x2816 .bf16) : FVec Ideal S256x2816 .f32 :=
  matmul dot_S256x1024_S1024x2816_S256x2816_1_0_0_1_n_n none (truncf .bf16 (normed x g) bitsLt_bf16_f32) (shapeCast S1024x2816 w shapeCasts_S1024x2816_S1024x2816) (constant S256x2816 .f32 0x00000000#32)

theorem product_at (h : FVec Ideal S256x1024 .f32) (w : FVec Ideal S1024x2816 .bf16) (r : Fin 256) (j : Fin 2816) :
    matmul dot_S256x1024_S1024x2816_S256x2816_1_0_0_1_n_n none (truncf .bf16 h bitsLt_bf16_f32) (shapeCast S1024x2816 w shapeCasts_S1024x2816_S1024x2816) (constant S256x2816 .f32 0x00000000#32) (ix2 r j)
      = lin (fun i => h (ix2 r i)) (fun i j => w (ix2 i j)) j := by
  pointwise
  rfl

theorem hidden_at (w : FVec Ideal S1024x2816 .bf16) (r : Fin 256) (j : Fin 2816) :
    hidden x g w (ix2 r j) = lin (rms (fun i => x (ix2 r i)) (fun i => g (ix2 0 i))) (fun i j => w (ix2 i j)) j := by
  unfold hidden
  rw [product_at]
  exact congrArg (fun f => lin f (fun i j => w (ix2 i j)) j) (funext fun i => normed_at x g r i)

def gated (a b : FVec Ideal S256x2816 .f32) : FVec Ideal S256x2816 .f32 := mulf (mulf a (logistic a)) b

theorem gated_at (a b : FVec Ideal S256x2816 .f32) (r : Fin 256) (j : Fin 2816) : gated a b (ix2 r j) = act (a (ix2 r j)) (b (ix2 r j)) := by
  pointwise [gated]
  rfl

theorem down_at (h : FVec Ideal S256x2816 .f32) (w : FVec Ideal S2816x1024 .bf16) (r : Fin 256) (d : Fin 1024) :
    addf x (matmul dot_S256x2816_S2816x1024_S256x1024_1_0_0_1_n_n none (truncf .bf16 h bitsLt_bf16_f32) (shapeCast S2816x1024 w shapeCasts_S2816x1024_S2816x1024) (constant S256x1024 .f32 0x00000000#32)) (ix2 r d)
      = x (ix2 r d) + lin (fun i => h (ix2 r i)) (fun i j => w (ix2 i j)) d := by
  pointwise
  rfl

variable (wg wu : FVec Ideal S1024x2816 .bf16) (wd : FVec Ideal S2816x1024 .bf16)

theorem pay_eq : k0_pay2 (F := Ideal) x g wg wu wd = addf x (matmul dot_S256x2816_S2816x1024_S256x1024_1_0_0_1_n_n none (truncf .bf16 (gated (hidden x g wg) (hidden x g wu)) bitsLt_bf16_f32) (shapeCast S2816x1024 wd shapeCasts_S2816x1024_S2816x1024) (constant S256x1024 .f32 0x00000000#32)) := rfl

theorem pay_at (r : Fin 256) (d : Fin 1024) : k0_pay2 (F := Ideal) x g wg wu wd (ix2 r d)
    = ffn (fun i => x (ix2 r i)) (fun i => g (ix2 0 i)) (fun i j => wg (ix2 i j)) (fun i j => wu (ix2 i j)) (fun i j => wd (ix2 i j)) d := by
  rw [pay_eq, down_at]
  simp only [gated_at, hidden_at]
  rfl

/-- The block the body stores, at an element. -/
theorem out_at (f : FVec Ideal S1x1024 .f32) (r : Fin 256) (d : Fin 1024) :
    k0_pay1 (F := Ideal) (k0_pay2 x g wg wu wd) (k0_pay3 f) (k0_pay4 x g wg wu wd) (k0_pay5 (F := Ideal)) (ix2 r d)
      = rms (ffn (fun i => x (ix2 r i)) (fun i => g (ix2 0 i)) (fun i j => wg (ix2 i j)) (fun i j => wu (ix2 i j)) (fun i j => wd (ix2 i j))) (fun i => f (ix2 0 i)) d := by
  show normed (k0_pay2 x g wg wu wd) f (ix2 r d) = _
  rw [normed_at]
  exact congrArg (fun h => rms h (fun i => f (ix2 0 i)) d) (funext fun i => pay_at x g wg wu wd r i)

end Cert.FfnIdeal.Dense
end
-- ==== Proof.SwigluRun.lean ====
/- The feed-forward call's result as a function of the arguments, row by row. -/
module

public import proofs.«01_k».proof.Proof.Swiglu
public import Idealize.ShloMosaic.Lib.Pipeline.ValueKit.Geometry

@[expose] public section
set_option maxRecDepth 16384
noncomputable section
namespace Cert.FfnIdeal.Dense
open Cert.FfnIdeal Cert.FfnIdeal.Gen
open Idealize.ShloMosaic Idealize.ShloMosaic.TcCoe Idealize.ShloMosaic.Tactic
open Cert.Rows

theorem index_all : (List.finRange grid0.N).all (fun t => decide (t.val < 64) && decide ((cfg0.win (0 : Fin 7)).index t = ![t.val, 0])
    && decide ((cfg0.win (6 : Fin 7)).index t = ![t.val, 0])) = true := by sl_kernel_rfl

/-- The rows' block at a point. -/
theorem index (t : Fin grid0.N) : t.val < 64 ∧ (cfg0.win (0 : Fin 7)).index t = ![t.val, 0] ∧ (cfg0.win (6 : Fin 7)).index t = ![t.val, 0] := by
  have h := List.all_eq_true.1 index_all t (List.mem_finRange t)
  simp only [Bool.and_eq_true] at h
  exact ⟨of_decide_eq_true h.1.1, of_decide_eq_true h.1.2, of_decide_eq_true h.2⟩

variable (m : (ℓ : Loc nD τ sig) → Buf (Elt Ideal) ℓ) (c : Dev nD) (t : Fin grid0.N)

theorem V_g (j : Fin 1024) : V m c main_v0 (ix2 0 j) = m (c, Proc.tc.devRef main_arg1) (ix1 j) := by
  unfold V
  after_results_simp
  pointwise
theorem V_wg (i : Fin 1024) (j : Fin 2816) : V m c main_v1 (ix2 i j) = m (c, Proc.tc.devRef main_arg2) (ix2 i j) := by
  unfold V
  after_results_simp
  pointwise
theorem V_wu (i : Fin 1024) (j : Fin 2816) : V m c main_v2 (ix2 i j) = m (c, Proc.tc.devRef main_arg3) (ix2 i j) := by
  unfold V
  after_results_simp
  pointwise
theorem V_wd (i : Fin 2816) (j : Fin 1024) : V m c main_v3 (ix2 i j) = m (c, Proc.tc.devRef main_arg4) (ix2 i j) := by
  unfold V
  after_results_simp
  pointwise
theorem V_f (j : Fin 1024) : V m c main_v4 (ix2 0 j) = m (c, Proc.tc.devRef main_arg5) (ix1 j) := by
  unfold V
  after_results_simp
  pointwise

theorem x_at (r : Fin 256) (d : Fin 1024) (h : 256 * t.val + r.val < 16384) :
    iblk m c 0 t (ix2 r d) = m (c, Proc.tc.devRef main_arg0) (ix2 ⟨256 * t.val + r.val, h⟩ d) := by
  refine Eq.trans ?_ (congrFun (V_main_arg0 m c) _)
  unfold iblk
  rw [View.read_apply]
  refine congrArg (V m c main_arg0) (funext fun a => Fin.ext ?_)
  have e := (index t).2.1
  match a with
  | 0 => exact (Pipeline.Window.rect_emb_val _ t _ 0).trans (by rw [e]; show t.val * 256 + r.val = 256 * t.val + r.val; omega)
  | 1 => exact (Pipeline.Window.rect_emb_val _ t _ 1).trans (by rw [e]; show 0 * 1024 + d.val = d.val; omega)

theorem g_at (j : Fin 1024) : iblk m c 1 t (ix2 0 j) = m (c, Proc.tc.devRef main_arg1) (ix1 j) := by
  refine Eq.trans ?_ (V_g m c j)
  unfold iblk
  rw [View.read_apply]
  refine congrArg (V m c main_v0) (funext fun a => Fin.ext ?_)
  match a with
  | 0 => exact Pipeline.Window.rect_emb_val_of_index_zero _ t 0 rfl _
  | 1 => exact Pipeline.Window.rect_emb_val_of_index_zero _ t 1 rfl _

theorem wg_at (i : Fin 1024) (j : Fin 2816) : iblk m c 2 t (ix2 i j) = m (c, Proc.tc.devRef main_arg2) (ix2 i j) := by
  refine Eq.trans ?_ (V_wg m c i j)
  unfold iblk
  rw [View.read_apply]
  refine congrArg (V m c main_v1) (funext fun a => Fin.ext ?_)
  match a with
  | 0 => exact Pipeline.Window.rect_emb_val_of_index_zero _ t 0 rfl _
  | 1 => exact Pipeline.Window.rect_emb_val_of_index_zero _ t 1 rfl _

theorem wu_at (i : Fin 1024) (j : Fin 2816) : iblk m c 3 t (ix2 i j) = m (c, Proc.tc.devRef main_arg3) (ix2 i j) := by
  refine Eq.trans ?_ (V_wu m c i j)
  unfold iblk
  rw [View.read_apply]
  refine congrArg (V m c main_v2) (funext fun a => Fin.ext ?_)
  match a with
  | 0 => exact Pipeline.Window.rect_emb_val_of_index_zero _ t 0 rfl _
  | 1 => exact Pipeline.Window.rect_emb_val_of_index_zero _ t 1 rfl _

theorem wd_at (i : Fin 2816) (j : Fin 1024) : iblk m c 4 t (ix2 i j) = m (c, Proc.tc.devRef main_arg4) (ix2 i j) := by
  refine Eq.trans ?_ (V_wd m c i j)
  unfold iblk
  rw [View.read_apply]
  refine congrArg (V m c main_v3) (funext fun a => Fin.ext ?_)
  match a with
  | 0 => exact Pipeline.Window.rect_emb_val_of_index_zero _ t 0 rfl _
  | 1 => exact Pipeline.Window.rect_emb_val_of_index_zero _ t 1 rfl _

theorem f_at (j : Fin 1024) : iblk m c 5 t (ix2 0 j) = m (c, Proc.tc.devRef main_arg5) (ix1 j) := by
  refine Eq.trans ?_ (V_f m c j)
  unfold iblk
  rw [View.read_apply]
  refine congrArg (V m c main_v4) (funext fun a => Fin.ext ?_)
  match a with
  | 0 => exact Pipeline.Window.rect_emb_val_of_index_zero _ t 0 rfl _
  | 1 => exact Pipeline.Window.rect_emb_val_of_index_zero _ t 1 rfl _

/-- What a point leaves in the output's block. -/
theorem stored (y : S256x1024.Idx) (x : FVec Ideal S256x1024 .f32) (g : FVec Ideal S1x1024 .f32) (wg wu : FVec Ideal S1024x2816 .bf16) (wd : FVec Ideal S2816x1024 .bf16) (f : FVec Ideal S1x1024 .f32) :
    out0_6 (F := Ideal) x g wg wu wd f y = rms (ffn (fun i => x (ix2 (y 0) i)) (fun i => g (ix2 0 i)) (fun i j => wg (ix2 i j)) (fun i j => wu (ix2 i j)) (fun i j => wd (ix2 i j))) (fun i => f (ix2 0 i)) (y 1) := by
  have e : y = ix2 (y 0) (y 1) := ValueIdx.eq_ix2 y
  refine Eq.trans ?_ (out_at x g wg wu wd f (y 0) (y 1))
  unfold out0_6
  rw [View.canon_unit_zero zeros, View.ld_unit_zero zeros, View.ld_unit_zero zeros, View.ld_unit_zero zeros, View.ld_unit_zero zeros, View.ld_unit_zero zeros, View.ld_unit_zero zeros]
  exact congrArg _ e

/-- The result of a row. -/
abbrev row (i : Fin 16384) (d : Fin 1024) : EReal :=
  rms (ffn (fun k => m (c, Proc.tc.devRef main_arg0) (ix2 i k)) (fun k => m (c, Proc.tc.devRef main_arg1) (ix1 k)) (fun k j => m (c, Proc.tc.devRef main_arg2) (ix2 k j))
    (fun k j => m (c, Proc.tc.devRef main_arg3) (ix2 k j)) (fun k j => m (c, Proc.tc.devRef main_arg4) (ix2 k j))) (fun k => m (c, Proc.tc.devRef main_arg5) (ix1 k)) d

theorem result_eq : (dats m 0 c).arrAt 6 cfg0.N = fun i : S16384x1024.Idx => row m c (i 0) (i 1) := by
  refine (dats m 0 c).arrAt_eq_of_covers (6 : Fin 7) (fun i : S16384x1024.Idx => row m c (i 0) (i 1)) (by decide +kernel) fun t hf y => ?_
  obtain ⟨b, e0, e6⟩ := index t
  have h : 256 * t.val + (y 0).val < 16384 := by have : (y 0).val < 256 := (y 0).isLt; omega
  have he : ((cfg0.win (6 : Fin 7)).blk t).view.emb y = (ix2 ⟨256 * t.val + (y 0).val, h⟩ (y 1) : S16384x1024.Idx) := by
    refine funext fun a => Fin.ext ?_
    match a with
    | 0 => exact (Pipeline.Window.rect_emb_val _ t _ 0).trans (by rw [e6]; show t.val * 256 + (y 0).val = _; show _ = 256 * t.val + (y 0).val; omega)
    | 1 => exact (Pipeline.Window.rect_emb_val _ t _ 1).trans (by rw [e6]; show 0 * 1024 + (y 1).val = _; show _ = (y 1).val; omega)
  refine Eq.trans ?_ (congrArg (fun i : S16384x1024.Idx => row m c (i 0) (i 1)) he.symm)
  blk_simp
  rw [after0_6]
  refine (stored y _ _ _ _ _ _).trans ?_
  simp only [g_at, wg_at, wu_at, wd_at, f_at, x_at m c t (y 0) _ h]
  rfl

end Cert.FfnIdeal.Dense
end
-- ==== Proof.SwigluRef.lean ====
/- The feed-forward reference at an element. -/
module

public import proofs.«01_k».proof.Proof.Gen.FfnReferenceIdeal.Run
public import proofs.«01_k».proof.Proof.Rows

@[expose] public section
set_option maxRecDepth 16384
noncomputable section
namespace Cert.FfnReferenceIdeal.Dense
open Cert.FfnReferenceIdeal Cert.FfnReferenceIdeal.Gen
open Idealize.ShloMosaic Idealize.ShloMosaic.TcCoe
open Cert.Rows

variable (x : FVec Ideal S16384x1024 .f32) (g : FVec Ideal S1024 .f32)

def normed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem normed_at (r : Fin 16384) (d : Fin 1024) : normed x g (ix2 r d) = rms (fun i => x (ix2 r i)) (fun i => g (ix1 i)) d := by
  pointwise [normed]
  rfl

theorem up_at (h : FVec Ideal S16384x1024 .f32) (w : FVec Ideal S1024x2816 .f32) (r : Fin 16384) (j : Fin 2816) :
    Host.dotGeneral dot_S16384x1024_S1024x2816_S16384x2816_1_0_0_1_n_n none h w (ix2 r j) = lin (fun i => h (ix2 r i)) (fun i j => w (ix2 i j)) j := by
  pointwise
  rfl

theorem down_at (h : FVec Ideal S16384x2816 .f32) (w : FVec Ideal S2816x1024 .f32) (r : Fin 16384) (d : Fin 1024) :
    addf x (Host.dotGeneral dot_S16384x2816_S2816x1024_S16384x1024_1_0_0_1_n_n none h w) (ix2 r d) = x (ix2 r d) + lin (fun i => h (ix2 r i)) (fun i j => w (ix2 i j)) d := by
  pointwise
  rfl

def gated (a b : FVec Ideal S16384x2816 .f32) : FVec Ideal S16384x2816 .f32 :=
  mulf (mulf a (Host.divf (broadcastInDim S16384x2816 ![] bcast_S_S16384x2816 (constant S_ .f32 0x3F800000#32)) (addf (broadcastInDim S16384x2816 ![] bcast_S_S16384x2816 (constant S_ .f32 0x3F800000#32)) (Host.exp (Host.negf a))))) b

theorem gated_word (a b : FVec Ideal S16384x2816 .f32) (r : Fin 16384) (j : Fin 2816) : gated a b (ix2 r j)
    = a (ix2 r j) * Ideal.div (Ideal.ofBits .f32 0x3F800000#32) (Ideal.ofBits .f32 0x3F800000#32 + Ideal.exp (-(a (ix2 r j)))) * b (ix2 r j) := by
  pointwise [gated]

theorem gated_at (a b : FVec Ideal S16384x2816 .f32) (r : Fin 16384) (j : Fin 2816) : gated a b (ix2 r j) = act (a (ix2 r j)) (b (ix2 r j)) := by
  rw [gated_word, one_word]
  rfl

def fed (wg wu : FVec Ideal S1024x2816 .f32) (wd : FVec Ideal S2816x1024 .f32) : FVec Ideal S16384x1024 .f32 :=
  addf x (Host.dotGeneral dot_S16384x2816_S2816x1024_S16384x1024_1_0_0_1_n_n none
    (gated (Host.dotGeneral dot_S16384x1024_S1024x2816_S16384x2816_1_0_0_1_n_n none (normed x g) wg) (Host.dotGeneral dot_S16384x1024_S1024x2816_S16384x2816_1_0_0_1_n_n none (normed x g) wu)) wd)

theorem fed_at (wg wu : FVec Ideal S1024x2816 .f32) (wd : FVec Ideal S2816x1024 .f32) (r : Fin 16384) (d : Fin 1024) : fed x g wg wu wd (ix2 r d)
    = ffn (fun i => x (ix2 r i)) (fun i => g (ix1 i)) (fun i j => wg (ix2 i j)) (fun i j => wu (ix2 i j)) (fun i j => wd (ix2 i j)) d := by
  unfold fed
  rw [down_at]
  simp only [gated_at, up_at, normed_at]
  rfl

/-- The reference's result at an element. -/
theorem out_at (wg wu : FVec Ideal S1024x2816 .f32) (wd : FVec Ideal S2816x1024 .f32) (f : FVec Ideal S1024 .f32) (r : Fin 16384) (d : Fin 1024) :
    normed (fed x g wg wu wd) f (ix2 r d)
      = rms (ffn (fun i => x (ix2 r i)) (fun i => g (ix1 i)) (fun i j => wg (ix2 i j)) (fun i j => wu (ix2 i j)) (fun i j => wd (ix2 i j))) (fun i => f (ix1 i)) d := by
  rw [normed_at]
  exact congrArg (fun h => rms h (fun i => f (ix1 i)) d) (funext fun i => fed_at x g wg wu wd r i)

variable (m : (ℓ : Loc nD τ sig) → Buf (Elt Ideal) ℓ)

theorem res_eq (c : Dev nD) : Value.res_main_v31 m c = normed (fed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) := by
  unfold Value.res_main_v31
  rfl

end Cert.FfnReferenceIdeal.Dense
end
-- ==== Proof.Proj.lean ====
/- The input projection's blocks at an element. -/
module

public import proofs.«01_k».proof.Proof.Gen.InProjIdeal.Value
public import proofs.«01_k».proof.Proof.Swiglu

@[expose] public section
set_option maxRecDepth 16384
noncomputable section
namespace Cert.InProjIdeal.Dense
open Cert.InProjIdeal Cert.InProjIdeal.Gen
open Idealize.ShloMosaic Idealize.ShloMosaic.TcCoe
open Cert.Rows

/-- The normed block, as in the feed-forward call. -/
theorem hidden_at (x : FVec Ideal S256x1024 .f32) (g : FVec Ideal S1x1024 .f32) (r : Fin 256) (d : Fin 1024) :
    k0_pay5 (F := Ideal) x g (ix2 r d) = rms (fun i => x (ix2 r i)) (fun i => g (ix2 0 i)) d :=
  Cert.FfnIdeal.Dense.normed_at x g r d

variable (h : FVec Ideal S256x1024 .bf16)

theorem cols_at (w : FVec Ideal S1024x512 .bf16) (r : Fin 256) (j : Fin 512) :
    matmul dot_S256x1024_S1024x512_S256x512_1_0_0_1_n_n none h (shapeCast S1024x512 w shapeCasts_S1024x512_S1024x512) (constant S256x512 .f32 0x00000000#32) (ix2 r j)
      = ∑ i, h (ix2 r i) * w (ix2 i j) := by
  pointwise

theorem wide_at (w : FVec Ideal S1024x1792 .bf16) (r : Fin 256) (j : Fin 1792) : k0_pay1 (F := Ideal) h w (ix2 r j) = ∑ i, h (ix2 r i) * w (ix2 i j) := by
  pointwise [k0_pay1]

theorem gates_at (w : FVec Ideal S1024x3072 .bf16) (r : Fin 256) (j : Fin 3072) : k0_pay2 (F := Ideal) h w (ix2 r j) = squash (∑ i, h (ix2 r i) * w (ix2 i j)) := by
  pointwise [k0_pay2]
  rfl

theorem queries_at (w : FVec Ideal S512x1024 .bf16) (j : Fin 512) (r : Fin 256) : k0_pay3 (F := Ideal) h w (ix2 j r) = ∑ i, w (ix2 j i) * h (ix2 r i) := by
  pointwise [k0_pay3]

theorem values_at (w : FVec Ideal S512x1024 .bf16) (j : Fin 512) (r : Fin 256) : k0_pay4 (F := Ideal) h w (ix2 j r) = ∑ i, w (ix2 j i) * h (ix2 r i) := by
  pointwise [k0_pay4]

/-! ## What a point leaves in each output's block -/

variable (x : FVec Ideal S256x1024 .f32) (g : FVec Ideal S1x1024 .f32) (w : FVec Ideal S1024x6912 .bf16) (wt : FVec Ideal S1024x1024 .bf16)

/-- The projection of a row of the block. -/
abbrev proj (r : Fin 256) (j : Fin 6912) : EReal := lin (rms (fun i => x (ix2 r i)) (fun i => g (ix2 0 i))) (fun i j => w (ix2 i j)) j

theorem ld_col {n : ℕ} (o : ℕ) (inb : ∀ a, (![0, o] : Fin 2 → ℕ) a + (⟨2, ![1024, n]⟩ : Shape).size a ≤ S1024x6912.size a) (i : Fin 1024) (j : Fin n) (hj : o + j.val < 6912) :
    View.ld (Val := Elt Ideal) (e' := .bf16) w (Rect.unit (s := S1024x6912) ![0, o] (⟨2, ![1024, n]⟩ : Shape).size inb) (ix2 i j) = w (ix2 i ⟨o + j.val, hj⟩) := by
  refine congrArg w (funext fun a => Fin.ext ?_)
  match a with
  | 0 => show 0 + 1 * i.val = i.val; omega
  | 1 => show o + 1 * j.val = o + j.val; omega

theorem ld_row {n : ℕ} (o : ℕ) (inb : ∀ a, (![o, 0] : Fin 2 → ℕ) a + (⟨2, ![n, 1024]⟩ : Shape).size a ≤ S1024x1024.size a) (j : Fin n) (i : Fin 1024) (hj : o + j.val < 1024) :
    View.ld (Val := Elt Ideal) (e' := .bf16) wt (Rect.unit (s := S1024x1024) ![o, 0] (⟨2, ![n, 1024]⟩ : Shape).size inb) (ix2 j i) = wt (ix2 ⟨o + j.val, hj⟩ i) := by
  refine congrArg wt (funext fun a => Fin.ext ?_)
  match a with
  | 0 => show o + 1 * j.val = o + j.val; omega
  | 1 => show 0 + 1 * i.val = i.val; omega

theorem stored4 (r : Fin 256) (j : Fin 512) : out0_4 (F := Ideal) x g w wt (ix2 r j) = proj x g w r ⟨512 + j.val, by omega⟩ := by
  unfold out0_4
  rw [View.canon_unit_zero zeros, View.ld_unit_zero zeros, View.ld_unit_zero zeros]
  unfold k0_pay6
  rw [cols_at]
  exact Finset.sum_congr rfl fun i _ => congrArg₂ (· * ·) (hidden_at x g r i) (ld_col w 512 _ i j _)

theorem stored5 (r : Fin 256) (j : Fin 512) : out0_5 (F := Ideal) x g w wt (ix2 r j) = proj x g w r ⟨512 + j.val, by omega⟩ := by
  refine Eq.trans ?_ (stored4 x g w wt r j)
  unfold out0_5 out0_4
  rw [View.canon_unit_zero zeros, View.canon_unit_zero zeros]
  rfl

theorem stored6 (r : Fin 256) (j : Fin 512) : out0_6 (F := Ideal) x g w wt (ix2 r j) = proj x g w r ⟨1024 + j.val, by omega⟩ := by
  unfold out0_6
  rw [View.canon_unit_zero zeros, View.ld_unit_zero zeros, View.ld_unit_zero zeros]
  unfold k0_pay8
  rw [cols_at]
  exact Finset.sum_congr rfl fun i _ => congrArg₂ (· * ·) (hidden_at x g r i) (ld_col w 1024 _ i j _)

theorem stored7 (r : Fin 256) (j : Fin 512) : out0_7 (F := Ideal) x g w wt (ix2 r j) = proj x g w r ⟨1536 + j.val, by omega⟩ := by
  unfold out0_7
  rw [View.canon_unit_zero zeros, View.ld_unit_zero zeros, View.ld_unit_zero zeros]
  unfold k0_pay9
  rw [cols_at]
  exact Finset.sum_congr rfl fun i _ => congrArg₂ (· * ·) (hidden_at x g r i) (ld_col w 1536 _ i j _)

theorem stored8 (r : Fin 256) (j : Fin 1792) : out0_8 (F := Ideal) x g w wt (ix2 r j) = proj x g w r ⟨2048 + j.val, by omega⟩ := by
  unfold out0_8 k0_pay10
  rw [View.canon_unit_zero zeros, View.ld_unit_zero zeros, View.ld_unit_zero zeros, wide_at]
  exact Finset.sum_congr rfl fun i _ => congrArg₂ (· * ·) (hidden_at x g r i) (ld_col w 2048 _ i j _)

theorem stored9 (r : Fin 256) (j : Fin 3072) : out0_9 (F := Ideal) x g w wt (ix2 r j) = squash (proj x g w r ⟨3840 + j.val, by omega⟩) := by
  unfold out0_9 k0_pay10
  rw [View.canon_unit_zero zeros, View.ld_unit_zero zeros, View.ld_unit_zero zeros, gates_at]
  exact congrArg squash (Finset.sum_congr rfl fun i _ => congrArg₂ (· * ·) (hidden_at x g r i) (ld_col w 3840 _ i j _))

/-- The projection by the transposed weights, of a row of the block. -/
abbrev projT (j : Fin 1024) (r : Fin 256) : EReal := lin (rms (fun i => x (ix2 r i)) (fun i => g (ix2 0 i))) (fun i j => wt (ix2 j i)) j

theorem stored10 (j : Fin 512) (r : Fin 256) : out0_10 (F := Ideal) x g w wt (ix2 j r) = projT x g wt ⟨j.val, by omega⟩ r := by
  unfold out0_10 k0_pay10
  rw [View.canon_unit_zero zeros, View.ld_unit_zero zeros, View.ld_unit_zero zeros, queries_at]
  refine Finset.sum_congr rfl fun i _ => (mul_comm _ _).trans (congrArg₂ (· * ·) (hidden_at x g r i) ((ld_row wt 0 _ j i (by omega)).trans ?_))
  exact congrArg (fun k => wt (ix2 k i)) (Fin.ext (Nat.zero_add _))

theorem stored11 (j : Fin 512) (r : Fin 256) : out0_11 (F := Ideal) x g w wt (ix2 j r) = projT x g wt ⟨512 + j.val, by omega⟩ r := by
  unfold out0_11 k0_pay10
  rw [View.canon_unit_zero zeros, View.ld_unit_zero zeros, View.ld_unit_zero zeros, values_at]
  exact Finset.sum_congr rfl fun i _ => (mul_comm _ _).trans (congrArg₂ (· * ·) (hidden_at x g r i) (ld_row wt 512 _ j i _))

end Cert.InProjIdeal.Dense
end
-- ==== Proof.ProjRun.lean ====
/- The input projection's results as functions of the arguments, element by element. -/
module

public import proofs.«01_k».proof.Proof.Proj
public import Idealize.ShloMosaic.Lib.Pipeline.ValueKit.Geometry

@[expose] public section
set_option maxRecDepth 16384
noncomputable section
namespace Cert.InProjIdeal.Dense
open Cert.InProjIdeal Cert.InProjIdeal.Gen
open Idealize.ShloMosaic Idealize.ShloMosaic.TcCoe Idealize.ShloMosaic.Tactic
open Cert.Rows

theorem index_all : (List.finRange grid0.N).all (fun t => decide (t.val < 64) && decide ((cfg0.win (0 : Fin 12)).index t = ![t.val, 0])
    && decide ((cfg0.win (4 : Fin 12)).index t = ![t.val, 0]) && decide ((cfg0.win (5 : Fin 12)).index t = ![t.val, 0]) && decide ((cfg0.win (6 : Fin 12)).index t = ![t.val, 0])
    && decide ((cfg0.win (7 : Fin 12)).index t = ![t.val, 0]) && decide ((cfg0.win (8 : Fin 12)).index t = ![t.val, 0]) && decide ((cfg0.win (9 : Fin 12)).index t = ![t.val, 0])
    && decide ((cfg0.win (10 : Fin 12)).index t = ![0, t.val]) && decide ((cfg0.win (11 : Fin 12)).index t = ![0, t.val])) = true := by sl_kernel_rfl

/-- The windows' blocks at a point. -/
theorem index (t : Fin grid0.N) : t.val < 64 ∧ (cfg0.win (0 : Fin 12)).index t = ![t.val, 0]
    ∧ (cfg0.win (4 : Fin 12)).index t = ![t.val, 0] ∧ (cfg0.win (5 : Fin 12)).index t = ![t.val, 0] ∧ (cfg0.win (6 : Fin 12)).index t = ![t.val, 0]
    ∧ (cfg0.win (7 : Fin 12)).index t = ![t.val, 0] ∧ (cfg0.win (8 : Fin 12)).index t = ![t.val, 0] ∧ (cfg0.win (9 : Fin 12)).index t = ![t.val, 0]
    ∧ (cfg0.win (10 : Fin 12)).index t = ![0, t.val] ∧ (cfg0.win (11 : Fin 12)).index t = ![0, t.val] := by
  have h := List.all_eq_true.1 index_all t (List.mem_finRange t)
  simp only [Bool.and_eq_true, decide_eq_true_eq] at h
  obtain ⟨⟨⟨⟨⟨⟨⟨⟨⟨h0, h1⟩, h2⟩, h3⟩, h4⟩, h5⟩, h6⟩, h7⟩, h8⟩, h9⟩ := h
  exact ⟨h0, h1, h2, h3, h4, h5, h6, h7, h8, h9⟩

variable (m : (ℓ : Loc nD τ sig) → Buf (Elt Ideal) ℓ) (c : Dev nD) (t : Fin grid0.N)

theorem V_g (j : Fin 1024) : V m c main_v5 (ix2 0 j) = m (c, Proc.tc.devRef main_arg1) (ix1 j) := by
  unfold V
  after_results_simp
  pointwise
theorem V_w (i : Fin 1024) (j : Fin 6912) : V m c main_v6 (ix2 i j) = m (c, Proc.tc.devRef main_arg2) (ix2 i j) := by
  unfold V
  after_results_simp
  pointwise
/-- The transposed weights hold the queries' columns, then the values'. -/
theorem V_wt_low (j : Fin 512) (i : Fin 1024) : V m c main_v4 (ix2 ⟨j.val, by omega⟩ i) = m (c, Proc.tc.devRef main_arg2) (ix2 i ⟨j.val, by omega⟩) := by
  unfold V
  after_results_simp
  pointwise
  after_results_simp
  pointwise
theorem V_wt_high (j : Fin 512) (i : Fin 1024) : V m c main_v4 (ix2 ⟨512 + j.val, by omega⟩ i) = m (c, Proc.tc.devRef main_arg2) (ix2 i ⟨1024 + j.val, by omega⟩) := by
  unfold V
  after_results_simp
  pointwise
  after_results_simp
  pointwise

theorem x_at (r : Fin 256) (d : Fin 1024) (h : 256 * t.val + r.val < 16384) :
    iblk m c 0 t (ix2 r d) = m (c, Proc.tc.devRef main_arg0) (ix2 ⟨256 * t.val + r.val, h⟩ d) := by
  refine Eq.trans ?_ (congrFun (V_main_arg0 m c) _)
  unfold iblk
  rw [View.read_apply]
  refine congrArg (V m c main_arg0) (funext fun a => Fin.ext ?_)
  have e := (index t).2.1
  match a with
  | 0 => exact (Pipeline.Window.rect_emb_val _ t _ 0).trans (by rw [e]; show t.val * 256 + r.val = 256 * t.val + r.val; omega)
  | 1 => exact (Pipeline.Window.rect_emb_val _ t _ 1).trans (by rw [e]; show 0 * 1024 + d.val = d.val; omega)

theorem g_at (j : Fin 1024) : iblk m c 1 t (ix2 0 j) = m (c, Proc.tc.devRef main_arg1) (ix1 j) := by
  refine Eq.trans ?_ (V_g m c j)
  unfold iblk
  rw [View.read_apply]
  refine congrArg (V m c main_v5) (funext fun a => Fin.ext ?_)
  match a with
  | 0 => exact Pipeline.Window.rect_emb_val_of_index_zero _ t 0 rfl _
  | 1 => exact Pipeline.Window.rect_emb_val_of_index_zero _ t 1 rfl _

theorem w_at (i : Fin 1024) (j : Fin 6912) : iblk m c 2 t (ix2 i j) = m (c, Proc.tc.devRef main_arg2) (ix2 i j) := by
  refine Eq.trans ?_ (V_w m c i j)
  unfold iblk
  rw [View.read_apply]
  refine congrArg (V m c main_v6) (funext fun a => Fin.ext ?_)
  match a with
  | 0 => exact Pipeline.Window.rect_emb_val_of_index_zero _ t 0 rfl _
  | 1 => exact Pipeline.Window.rect_emb_val_of_index_zero _ t 1 rfl _

theorem wt_low (j : Fin 512) (i : Fin 1024) : iblk m c 3 t (ix2 ⟨j.val, by omega⟩ i) = m (c, Proc.tc.devRef main_arg2) (ix2 i ⟨j.val, by omega⟩) := by
  refine Eq.trans ?_ (V_wt_low m c j i)
  unfold iblk
  rw [View.read_apply]
  refine congrArg (V m c main_v4) (funext fun a => Fin.ext ?_)
  match a with
  | 0 => exact Pipeline.Window.rect_emb_val_of_index_zero _ t 0 rfl _
  | 1 => exact Pipeline.Window.rect_emb_val_of_index_zero _ t 1 rfl _

theorem wt_high (j : Fin 512) (i : Fin 1024) : iblk m c 3 t (ix2 ⟨512 + j.val, by omega⟩ i) = m (c, Proc.tc.devRef main_arg2) (ix2 i ⟨1024 + j.val, by omega⟩) := by
  refine Eq.trans ?_ (V_wt_high m c j i)
  unfold iblk
  rw [View.read_apply]
  refine congrArg (V m c main_v4) (funext fun a => Fin.ext ?_)
  match a with
  | 0 => exact Pipeline.Window.rect_emb_val_of_index_zero _ t 0 rfl _
  | 1 => exact Pipeline.Window.rect_emb_val_of_index_zero _ t 1 rfl _

/-- The projection of a row of the argument. -/
abbrev row (i : Fin 16384) (j : Fin 6912) : EReal :=
  lin (rms (fun k => m (c, Proc.tc.devRef main_arg0) (ix2 i k)) (fun k => m (c, Proc.tc.devRef main_arg1) (ix1 k))) (fun k j => m (c, Proc.tc.devRef main_arg2) (ix2 k j)) j

theorem proj_row (r : Fin 256) (j : Fin 6912) (h : 256 * t.val + r.val < 16384) :
    proj (iblk m c 0 t) (iblk m c 1 t) (iblk m c 2 t) r j = row m c ⟨256 * t.val + r.val, h⟩ j := by
  unfold proj
  simp only [g_at, w_at, x_at m c t r _ h]

theorem projT_low (j : Fin 512) (r : Fin 256) (h : 256 * t.val + r.val < 16384) :
    projT (iblk m c 0 t) (iblk m c 1 t) (iblk m c 3 t) ⟨j.val, by omega⟩ r = row m c ⟨256 * t.val + r.val, h⟩ ⟨j.val, by omega⟩ := by
  unfold projT row lin
  simp only [g_at, wt_low, x_at m c t r _ h]

theorem projT_high (j : Fin 512) (r : Fin 256) (h : 256 * t.val + r.val < 16384) :
    projT (iblk m c 0 t) (iblk m c 1 t) (iblk m c 3 t) ⟨512 + j.val, by omega⟩ r = row m c ⟨256 * t.val + r.val, h⟩ ⟨1024 + j.val, by omega⟩ := by
  unfold projT row lin
  simp only [g_at, wt_high, x_at m c t r _ h]

def res4 : FVec Ideal S16384x512 .f32 := fun i => row m c (i 0) ⟨512 + (i 1).val, by have : (i 1).val < 512 := (i 1).isLt; omega⟩

theorem result4 : (dats m 0 c).arrAt 4 cfg0.N = res4 m c := by
  refine (dats m 0 c).arrAt_eq_of_covers (4 : Fin 12) (res4 m c) (by decide +kernel) fun t hf y => ?_
  obtain ⟨b, e⟩ : t.val < 64 ∧ (cfg0.win (4 : Fin 12)).index t = _ := ⟨(index t).1, (index t).2.2.1⟩
  have h : 256 * t.val + (y 0).val < 16384 := by have : (y 0).val < 256 := (y 0).isLt; omega
  have he : ((cfg0.win (4 : Fin 12)).blk t).view.emb y = (ix2 ⟨256 * t.val + (y 0).val, h⟩ (y 1) : S16384x512.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 512 + (y 1).val = _; show _ = (y 1).val; omega)
  refine Eq.trans ?_ (congrArg (res4 m c) he.symm)
  blk_simp
  rw [after0_4]
  refine (congrArg (out0_4 (F := Ideal) (iblk m c 0 t) (iblk m c 1 t) (iblk m c 2 t) (iblk m c 3 t)) (ValueIdx.eq_ix2 (y : S256x512.Idx))).trans ?_
  exact (stored4 _ _ _ _ (y 0) (y 1)).trans (proj_row m c t (y 0) _ h)

def res5 : FVec Ideal S16384x512 .f32 := fun i => row m c (i 0) ⟨512 + (i 1).val, by have : (i 1).val < 512 := (i 1).isLt; omega⟩

theorem result5 : (dats m 0 c).arrAt 5 cfg0.N = res5 m c := by
  refine (dats m 0 c).arrAt_eq_of_covers (5 : Fin 12) (res5 m c) (by decide +kernel) fun t hf y => ?_
  obtain ⟨b, e⟩ : t.val < 64 ∧ (cfg0.win (5 : Fin 12)).index t = _ := ⟨(index t).1, (index t).2.2.2.1⟩
  have h : 256 * t.val + (y 0).val < 16384 := by have : (y 0).val < 256 := (y 0).isLt; omega
  have he : ((cfg0.win (5 : Fin 12)).blk t).view.emb y = (ix2 ⟨256 * t.val + (y 0).val, h⟩ (y 1) : S16384x512.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 512 + (y 1).val = _; show _ = (y 1).val; omega)
  refine Eq.trans ?_ (congrArg (res5 m c) he.symm)
  blk_simp
  rw [after0_5]
  refine (congrArg (out0_5 (F := Ideal) (iblk m c 0 t) (iblk m c 1 t) (iblk m c 2 t) (iblk m c 3 t)) (ValueIdx.eq_ix2 (y : S256x512.Idx))).trans ?_
  exact (stored5 _ _ _ _ (y 0) (y 1)).trans (proj_row m c t (y 0) _ h)

def res6 : FVec Ideal S16384x512 .f32 := fun i => row m c (i 0) ⟨1024 + (i 1).val, by have : (i 1).val < 512 := (i 1).isLt; omega⟩

theorem result6 : (dats m 0 c).arrAt 6 cfg0.N = res6 m c := by
  refine (dats m 0 c).arrAt_eq_of_covers (6 : Fin 12) (res6 m c) (by decide +kernel) fun t hf y => ?_
  obtain ⟨b, e⟩ : t.val < 64 ∧ (cfg0.win (6 : Fin 12)).index t = _ := ⟨(index t).1, (index t).2.2.2.2.1⟩
  have h : 256 * t.val + (y 0).val < 16384 := by have : (y 0).val < 256 := (y 0).isLt; omega
  have he : ((cfg0.win (6 : Fin 12)).blk t).view.emb y = (ix2 ⟨256 * t.val + (y 0).val, h⟩ (y 1) : S16384x512.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 512 + (y 1).val = _; show _ = (y 1).val; omega)
  refine Eq.trans ?_ (congrArg (res6 m c) he.symm)
  blk_simp
  rw [after0_6]
  refine (congrArg (out0_6 (F := Ideal) (iblk m c 0 t) (iblk m c 1 t) (iblk m c 2 t) (iblk m c 3 t)) (ValueIdx.eq_ix2 (y : S256x512.Idx))).trans ?_
  exact (stored6 _ _ _ _ (y 0) (y 1)).trans (proj_row m c t (y 0) _ h)

def res7 : FVec Ideal S16384x512 .f32 := fun i => row m c (i 0) ⟨1536 + (i 1).val, by have : (i 1).val < 512 := (i 1).isLt; omega⟩

theorem result7 : (dats m 0 c).arrAt 7 cfg0.N = res7 m c := by
  refine (dats m 0 c).arrAt_eq_of_covers (7 : Fin 12) (res7 m c) (by decide +kernel) fun t hf y => ?_
  obtain ⟨b, e⟩ : t.val < 64 ∧ (cfg0.win (7 : Fin 12)).index t = _ := ⟨(index t).1, (index t).2.2.2.2.2.1⟩
  have h : 256 * t.val + (y 0).val < 16384 := by have : (y 0).val < 256 := (y 0).isLt; omega
  have he : ((cfg0.win (7 : Fin 12)).blk t).view.emb y = (ix2 ⟨256 * t.val + (y 0).val, h⟩ (y 1) : S16384x512.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 512 + (y 1).val = _; show _ = (y 1).val; omega)
  refine Eq.trans ?_ (congrArg (res7 m c) he.symm)
  blk_simp
  rw [after0_7]
  refine (congrArg (out0_7 (F := Ideal) (iblk m c 0 t) (iblk m c 1 t) (iblk m c 2 t) (iblk m c 3 t)) (ValueIdx.eq_ix2 (y : S256x512.Idx))).trans ?_
  exact (stored7 _ _ _ _ (y 0) (y 1)).trans (proj_row m c t (y 0) _ h)

def res8 : FVec Ideal S16384x1792 .f32 := fun i => row m c (i 0) ⟨2048 + (i 1).val, by have : (i 1).val < 1792 := (i 1).isLt; omega⟩

theorem result8 : (dats m 0 c).arrAt 8 cfg0.N = res8 m c := by
  refine (dats m 0 c).arrAt_eq_of_covers (8 : Fin 12) (res8 m c) (by decide +kernel) fun t hf y => ?_
  obtain ⟨b, e⟩ : t.val < 64 ∧ (cfg0.win (8 : Fin 12)).index t = _ := ⟨(index t).1, (index t).2.2.2.2.2.2.1⟩
  have h : 256 * t.val + (y 0).val < 16384 := by have : (y 0).val < 256 := (y 0).isLt; omega
  have he : ((cfg0.win (8 : Fin 12)).blk t).view.emb y = (ix2 ⟨256 * t.val + (y 0).val, h⟩ (y 1) : S16384x1792.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 1792 + (y 1).val = _; show _ = (y 1).val; omega)
  refine Eq.trans ?_ (congrArg (res8 m c) he.symm)
  blk_simp
  rw [after0_8]
  refine (congrArg (out0_8 (F := Ideal) (iblk m c 0 t) (iblk m c 1 t) (iblk m c 2 t) (iblk m c 3 t)) (ValueIdx.eq_ix2 (y : S256x1792.Idx))).trans ?_
  exact (stored8 _ _ _ _ (y 0) (y 1)).trans (proj_row m c t (y 0) _ h)

def res9 : FVec Ideal S16384x3072 .f32 := fun i => squash (row m c (i 0) ⟨3840 + (i 1).val, by have : (i 1).val < 3072 := (i 1).isLt; omega⟩)

theorem result9 : (dats m 0 c).arrAt 9 cfg0.N = res9 m c := by
  refine (dats m 0 c).arrAt_eq_of_covers (9 : Fin 12) (res9 m c) (by decide +kernel) fun t hf y => ?_
  obtain ⟨b, e⟩ : t.val < 64 ∧ (cfg0.win (9 : Fin 12)).index t = _ := ⟨(index t).1, (index t).2.2.2.2.2.2.2.1⟩
  have h : 256 * t.val + (y 0).val < 16384 := by have : (y 0).val < 256 := (y 0).isLt; omega
  have he : ((cfg0.win (9 : Fin 12)).blk t).view.emb y = (ix2 ⟨256 * t.val + (y 0).val, h⟩ (y 1) : S16384x3072.Idx) := by
    refine funext fun a => Fin.ext ?_
    match a with
    | 0 => exact (Pipeline.Window.rect_emb_val _ t _ 0).trans (by rw [e]; show t.val * 256 + (y 0).val = _; show _ = 256 * t.val + (y 0).val; omega)
    | 1 => exact (Pipeline.Window.rect_emb_val _ t _ 1).trans (by rw [e]; show 0 * 3072 + (y 1).val = _; show _ = (y 1).val; omega)
  refine Eq.trans ?_ (congrArg (res9 m c) he.symm)
  blk_simp
  rw [after0_9]
  refine (congrArg (out0_9 (F := Ideal) (iblk m c 0 t) (iblk m c 1 t) (iblk m c 2 t) (iblk m c 3 t)) (ValueIdx.eq_ix2 (y : S256x3072.Idx))).trans ?_
  exact (stored9 _ _ _ _ (y 0) (y 1)).trans (congrArg squash (proj_row m c t (y 0) _ h))

def res10 : FVec Ideal S512x16384 .f32 := fun i => row m c (i 1) ⟨(i 0).val, by have : (i 0).val < 512 := (i 0).isLt; omega⟩

theorem result10 : (dats m 0 c).arrAt 10 cfg0.N = res10 m c := by
  refine (dats m 0 c).arrAt_eq_of_covers (10 : Fin 12) (res10 m c) (by decide +kernel) fun t hf y => ?_
  obtain ⟨b, e⟩ : t.val < 64 ∧ (cfg0.win (10 : Fin 12)).index t = _ := ⟨(index t).1, (index t).2.2.2.2.2.2.2.2.1⟩
  have h : 256 * t.val + (y 1).val < 16384 := by have : (y 1).val < 256 := (y 1).isLt; omega
  have he : ((cfg0.win (10 : Fin 12)).blk t).view.emb y = (ix2 (y 0) ⟨256 * t.val + (y 1).val, h⟩ : S512x16384.Idx) := by
    refine funext fun a => Fin.ext ?_
    match a with
    | 0 => exact (Pipeline.Window.rect_emb_val _ t _ 0).trans (by rw [e]; show 0 * 512 + (y 0).val = _; show _ = (y 0).val; omega)
    | 1 => exact (Pipeline.Window.rect_emb_val _ t _ 1).trans (by rw [e]; show t.val * 256 + (y 1).val = _; show _ = 256 * t.val + (y 1).val; omega)
  refine Eq.trans ?_ (congrArg (res10 m c) he.symm)
  blk_simp
  rw [after0_10]
  refine (congrArg (out0_10 (F := Ideal) (iblk m c 0 t) (iblk m c 1 t) (iblk m c 2 t) (iblk m c 3 t)) (ValueIdx.eq_ix2 (y : S512x256.Idx))).trans ?_
  exact (stored10 _ _ _ _ (y 0) (y 1)).trans (projT_low m c t (y 0) (y 1) h)

def res11 : FVec Ideal S512x16384 .f32 := fun i => row m c (i 1) ⟨1024 + (i 0).val, by have : (i 0).val < 512 := (i 0).isLt; omega⟩

theorem result11 : (dats m 0 c).arrAt 11 cfg0.N = res11 m c := by
  refine (dats m 0 c).arrAt_eq_of_covers (11 : Fin 12) (res11 m c) (by decide +kernel) fun t hf y => ?_
  obtain ⟨b, e⟩ : t.val < 64 ∧ (cfg0.win (11 : Fin 12)).index t = _ := ⟨(index t).1, (index t).2.2.2.2.2.2.2.2.2⟩
  have h : 256 * t.val + (y 1).val < 16384 := by have : (y 1).val < 256 := (y 1).isLt; omega
  have he : ((cfg0.win (11 : Fin 12)).blk t).view.emb y = (ix2 (y 0) ⟨256 * t.val + (y 1).val, h⟩ : S512x16384.Idx) := by
    refine funext fun a => Fin.ext ?_
    match a with
    | 0 => exact (Pipeline.Window.rect_emb_val _ t _ 0).trans (by rw [e]; show 0 * 512 + (y 0).val = _; show _ = (y 0).val; omega)
    | 1 => exact (Pipeline.Window.rect_emb_val _ t _ 1).trans (by rw [e]; show t.val * 256 + (y 1).val = _; show _ = 256 * t.val + (y 1).val; omega)
  refine Eq.trans ?_ (congrArg (res11 m c) he.symm)
  blk_simp
  rw [after0_11]
  refine (congrArg (out0_11 (F := Ideal) (iblk m c 0 t) (iblk m c 1 t) (iblk m c 2 t) (iblk m c 3 t)) (ValueIdx.eq_ix2 (y : S512x256.Idx))).trans ?_
  exact (stored11 _ _ _ _ (y 0) (y 1)).trans (projT_high m c t (y 0) (y 1) h)

end Cert.InProjIdeal.Dense
end
-- ==== Proof.ProjRef.lean ====
/- The input projection's reference at an element. -/
module

public import proofs.«01_k».proof.Proof.Gen.InProjReferenceIdeal.Run
public import proofs.«01_k».proof.Proof.SwigluRef

@[expose] public section
set_option maxRecDepth 16384
noncomputable section
namespace Cert.InProjReferenceIdeal.Dense
open Cert.InProjReferenceIdeal Cert.InProjReferenceIdeal.Gen
open Idealize.ShloMosaic Idealize.ShloMosaic.TcCoe
open Cert.Rows

variable (x : FVec Ideal S16384x1024 .f32) (g : FVec Ideal S1024 .f32) (w : FVec Ideal S1024x6912 .f32)

/-- The projection of all rows. -/
def proj : FVec Ideal S16384x6912 .f32 :=
  Host.dotGeneral dot_S16384x1024_S1024x6912_S16384x6912_1_0_0_1_n_n none
    (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) w

theorem product_at (h : FVec Ideal S16384x1024 .f32) (r : Fin 16384) (j : Fin 6912) :
    Host.dotGeneral dot_S16384x1024_S1024x6912_S16384x6912_1_0_0_1_n_n none h w (ix2 r j) = lin (fun i => h (ix2 r i)) (fun i j => w (ix2 i j)) j := by
  pointwise
  rfl

theorem proj_at (r : Fin 16384) (j : Fin 6912) : proj x g w (ix2 r j) = lin (rms (fun i => x (ix2 r i)) (fun i => g (ix1 i))) (fun i j => w (ix2 i j)) j := by
  unfold proj
  rw [product_at]
  exact congrArg (fun f => lin f (fun i j => w (ix2 i j)) j) (funext fun i => Cert.FfnReferenceIdeal.Dense.normed_at x g r i)

variable (p : FVec Ideal S16384x6912 .f32)

theorem keys_at (r : Fin 16384) (j : Fin 512) : extractStridedSlice S16384x512 ![0, 512] p slices_S16384x6912_S16384x512_0_512 (ix2 r j) = p (ix2 r ⟨512 + j.val, by omega⟩) := by
  pointwise
theorem values_at (r : Fin 16384) (j : Fin 512) : extractStridedSlice S16384x512 ![0, 1024] p slices_S16384x6912_S16384x512_0_1024 (ix2 r j) = p (ix2 r ⟨1024 + j.val, by omega⟩) := by
  pointwise
theorem states_at (r : Fin 16384) (j : Fin 512) : extractStridedSlice S16384x512 ![0, 1536] p slices_S16384x6912_S16384x512_0_1536 (ix2 r j) = p (ix2 r ⟨1536 + j.val, by omega⟩) := by
  pointwise
theorem wide_at (r : Fin 16384) (j : Fin 1792) : extractStridedSlice S16384x1792 ![0, 2048] p slices_S16384x6912_S16384x1792_0_2048 (ix2 r j) = p (ix2 r ⟨2048 + j.val, by omega⟩) := by
  pointwise
theorem gates_word (r : Fin 16384) (j : Fin 3072) :
    Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 3840] p slices_S16384x6912_S16384x3072_0_3840)))) (ix2 r j)
      = Ideal.div (Ideal.ofBits .f32 0x3F800000#32) (Ideal.ofBits .f32 0x3F800000#32 + Ideal.exp (-(p (ix2 r ⟨3840 + j.val, by omega⟩)))) := by
  pointwise
theorem gates_at (r : Fin 16384) (j : Fin 3072) :
    Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 3840] p slices_S16384x6912_S16384x3072_0_3840)))) (ix2 r j)
      = squash (p (ix2 r ⟨3840 + j.val, by omega⟩)) := by
  rw [gates_word, one_word]
  rfl
theorem queriesT_at (j : Fin 512) (r : Fin 16384) :
    transpose S512x16384 [1, 0] (extractStridedSlice S16384x512 ![0, 0] p slices_S16384x6912_S16384x512_0_0) transposes_S16384x512_S512x16384_1_0 (ix2 j r)
      = p (ix2 r ⟨j.val, by omega⟩) := by
  pointwise
theorem valuesT_at (j : Fin 512) (r : Fin 16384) :
    truncf .bf16 (transpose S512x16384 [1, 0] (extractStridedSlice S16384x512 ![0, 1024] p slices_S16384x6912_S16384x512_0_1024) transposes_S16384x512_S512x16384_1_0) bitsLt_bf16_f32 (ix2 j r)
      = p (ix2 r ⟨1024 + j.val, by omega⟩) := by
  pointwise

end Cert.InProjReferenceIdeal.Dense
end
-- ==== Proof.Gate.lean ====
/- The gated merge's block and its reference at an element. -/
module

public import proofs.«01_k».proof.Proof.Gen.MergeIdeal.Value
public import proofs.«01_k».proof.Proof.Gen.MergeReferenceIdeal.Run
public import proofs.«01_k».proof.Proof.Rows

@[expose] public section
set_option maxRecDepth 16384
noncomputable section
namespace Cert.Rows
open Idealize.ShloMosaic

/-- A row of the merge: three gated products, merged by the output weights, with the residual. -/
def merge (x : Fin 1024 → EReal) (s : Fin 3072 → EReal) (a b c : Fin 512 → EReal) (pa pb pc : Fin 512 → Fin 1024 → EReal) (w : Fin 1024 → Fin 1024 → EReal) (d : Fin 1024) : EReal :=
  x d + lin (fun i => s ⟨i.val, by omega⟩ * lin a pa i + s ⟨1024 + i.val, by omega⟩ * lin b pb i + s ⟨2048 + i.val, by omega⟩ * lin c pc i) w d

end Cert.Rows

namespace Cert.MergeIdeal.Dense
open Cert.MergeIdeal Cert.MergeIdeal.Gen
open Idealize.ShloMosaic Idealize.ShloMosaic.TcCoe
open Cert.Rows

theorem branch_at (o : ℕ) (ho : o + 1024 ≤ 3072) (hs : S512x3072.Slices ![0, o] S512x1024) (s : FVec Ideal S512x3072 .f32) (a : FVec Ideal S512x512 .bf16) (p : FVec Ideal S512x1024 .bf16) (r : Fin 512) (d : Fin 1024) :
    mulf (extractStridedSlice S512x1024 ![0, o] s hs) (matmul dot_S512x512_S512x1024_S512x1024_1_0_0_1_n_n none a (shapeCast S512x1024 p shapeCasts_S512x1024_S512x1024) (constant S512x1024 .f32 0x00000000#32)) (ix2 r d)
      = s (ix2 r ⟨o + d.val, by omega⟩) * lin (fun i => a (ix2 r i)) (fun i j => p (ix2 i j)) d := by
  pointwise
  rfl

theorem out_at (x h : FVec Ideal S512x1024 .f32) (w : FVec Ideal S1024x1024 .bf16) (r : Fin 512) (d : Fin 1024) :
    addf x (matmul dot_S512x1024_S1024x1024_S512x1024_1_0_0_1_n_n none (truncf .bf16 h bitsLt_bf16_f32) (shapeCast S1024x1024 w shapeCasts_S1024x1024_S1024x1024) (constant S512x1024 .f32 0x00000000#32)) (ix2 r d)
      = x (ix2 r d) + lin (fun i => h (ix2 r i)) (fun i j => w (ix2 i j)) d := by
  pointwise
  rfl

theorem add_at {s : Shape} (x y : FVec Ideal s .f32) (i : s.Idx) : addf x y i = x i + y i := rfl

variable (x : FVec Ideal S512x1024 .f32) (s : FVec Ideal S512x3072 .f32) (a b : FVec Ideal S512x512 .bf16) (c : FVec Ideal S512x512 .f32) (pa pb pc : FVec Ideal S512x1024 .bf16) (w : FVec Ideal S1024x1024 .bf16)

theorem pay_at (r : Fin 512) (d : Fin 1024) : k0_pay1 (F := Ideal) s a pa b pb c pc x w (ix2 r d)
    = merge (fun i => x (ix2 r i)) (fun i => s (ix2 r i)) (fun i => a (ix2 r i)) (fun i => b (ix2 r i)) (fun i => c (ix2 r i)) (fun i j => pa (ix2 i j)) (fun i j => pb (ix2 i j)) (fun i j => pc (ix2 i j)) (fun i j => w (ix2 i j)) d := by
  unfold k0_pay1
  rw [out_at]
  refine congrArg (fun f => x (ix2 r d) + lin f (fun i j => w (ix2 i j)) d) (funext fun i => ?_)
  rw [add_at, add_at, branch_at 0 (by omega), branch_at 1024 (by omega), branch_at 2048 (by omega)]
  have e : (⟨0 + i.val, by omega⟩ : Fin 3072) = ⟨i.val, by omega⟩ := Fin.ext (Nat.zero_add _)
  rw [e]
  rfl

end Cert.MergeIdeal.Dense

namespace Cert.MergeReferenceIdeal.Dense
open Cert.MergeReferenceIdeal Cert.MergeReferenceIdeal.Gen
open Idealize.ShloMosaic Idealize.ShloMosaic.TcCoe
open Cert.Rows

theorem branch_at (o : ℕ) (ho : o + 1024 ≤ 3072) (hs : S16384x3072.Slices ![0, o] S16384x1024) (s : FVec Ideal S16384x3072 .f32) (a : FVec Ideal S16384x512 .f32) (p : FVec Ideal S512x1024 .f32) (r : Fin 16384) (d : Fin 1024) :
    mulf (extractStridedSlice S16384x1024 ![0, o] s hs) (Host.dotGeneral dot_S16384x512_S512x1024_S16384x1024_1_0_0_1_n_n none a p) (ix2 r d)
      = s (ix2 r ⟨o + d.val, by omega⟩) * lin (fun i => a (ix2 r i)) (fun i j => p (ix2 i j)) d := by
  pointwise
  rfl

theorem out_at (x h : FVec Ideal S16384x1024 .f32) (w : FVec Ideal S1024x1024 .f32) (r : Fin 16384) (d : Fin 1024) :
    addf x (Host.dotGeneral dot_S16384x1024_S1024x1024_S16384x1024_1_0_0_1_n_n none h w) (ix2 r d)
      = x (ix2 r d) + lin (fun i => h (ix2 r i)) (fun i j => w (ix2 i j)) d := by
  pointwise
  rfl

variable (x : FVec Ideal S16384x1024 .f32) (s : FVec Ideal S16384x3072 .f32) (a b : FVec Ideal S16384x512 .bf16) (c : FVec Ideal S16384x512 .f32) (pa pb pc : FVec Ideal S512x1024 .f32) (w : FVec Ideal S1024x1024 .f32)

/-- The reference's result at an element. -/
theorem res_at (r : Fin 16384) (d : Fin 1024) :
    addf x (Host.dotGeneral dot_S16384x1024_S1024x1024_S16384x1024_1_0_0_1_n_n none (addf (addf (mulf (extractStridedSlice S16384x1024 ![0, 0] s slices_S16384x3072_S16384x1024_0_0) (Host.dotGeneral dot_S16384x512_S512x1024_S16384x1024_1_0_0_1_n_n none (extf .f32 a bitsLt_bf16_f32) pa)) (mulf (extractStridedSlice S16384x1024 ![0, 1024] s slices_S16384x3072_S16384x1024_0_1024) (Host.dotGeneral dot_S16384x512_S512x1024_S16384x1024_1_0_0_1_n_n none (extf .f32 b bitsLt_bf16_f32) pb))) (mulf (extractStridedSlice S16384x1024 ![0, 2048] s slices_S16384x3072_S16384x1024_0_2048) (Host.dotGeneral dot_S16384x512_S512x1024_S16384x1024_1_0_0_1_n_n none c pc))) w) (ix2 r d)
    = merge (fun i => x (ix2 r i)) (fun i => s (ix2 r i)) (fun i => a (ix2 r i)) (fun i => b (ix2 r i)) (fun i => c (ix2 r i)) (fun i j => pa (ix2 i j)) (fun i j => pb (ix2 i j)) (fun i j => pc (ix2 i j)) (fun i j => w (ix2 i j)) d := by
  rw [out_at]
  refine congrArg (fun f => x (ix2 r d) + lin f (fun i j => w (ix2 i j)) d) (funext fun i => ?_)
  rw [Cert.MergeIdeal.Dense.add_at, Cert.MergeIdeal.Dense.add_at, branch_at 0 (by omega), branch_at 1024 (by omega), branch_at 2048 (by omega)]
  have e : (⟨0 + i.val, by omega⟩ : Fin 3072) = ⟨i.val, by omega⟩ := Fin.ext (Nat.zero_add _)
  rw [e]
  rfl

end Cert.MergeReferenceIdeal.Dense
end
-- ==== Proof.GateRun.lean ====
/- The merge's result as a function of the arguments, element by element. -/
module

public import proofs.«01_k».proof.Proof.Gate
public import Idealize.ShloMosaic.Lib.Pipeline.ValueKit.Geometry

@[expose] public section
set_option maxRecDepth 16384
noncomputable section
namespace Cert.MergeIdeal.Dense
open Cert.MergeIdeal Cert.MergeIdeal.Gen
open Idealize.ShloMosaic Idealize.ShloMosaic.TcCoe Idealize.ShloMosaic.Tactic
open Cert.Rows

theorem index_all : (List.finRange grid0.N).all (fun t => decide (t.val < 32) && decide ((cfg0.win (0 : Fin 10)).index t = ![t.val, 0])
    && decide ((cfg0.win (1 : Fin 10)).index t = ![t.val, 0]) && decide ((cfg0.win (2 : Fin 10)).index t = ![t.val, 0]) && decide ((cfg0.win (3 : Fin 10)).index t = ![t.val, 0])
    && decide ((cfg0.win (4 : Fin 10)).index t = ![t.val, 0]) && decide ((cfg0.win (9 : Fin 10)).index t = ![t.val, 0])) = true := by sl_kernel_rfl

/-- The row blocks at a point. -/
theorem index (t : Fin grid0.N) : t.val < 32 ∧ (cfg0.win (0 : Fin 10)).index t = ![t.val, 0]
    ∧ (cfg0.win (1 : Fin 10)).index t = ![t.val, 0] ∧ (cfg0.win (2 : Fin 10)).index t = ![t.val, 0] ∧ (cfg0.win (3 : Fin 10)).index t = ![t.val, 0]
    ∧ (cfg0.win (4 : Fin 10)).index t = ![t.val, 0] ∧ (cfg0.win (9 : Fin 10)).index t = ![t.val, 0] := by
  have h := List.all_eq_true.1 index_all t (List.mem_finRange t)
  simp only [Bool.and_eq_true, decide_eq_true_eq] at h
  obtain ⟨⟨⟨⟨⟨⟨h0, h1⟩, h2⟩, h3⟩, h4⟩, h5⟩, h6⟩ := h
  exact ⟨h0, h1, h2, h3, h4, h5, h6⟩

variable (m : (ℓ : Loc nD τ sig) → Buf (Elt Ideal) ℓ) (c : Dev nD) (t : Fin grid0.N)

theorem x_at (r : Fin 512) (d : Fin 1024) (h : 512 * t.val + r.val < 16384) :
    iblk m c 0 t (ix2 r d) = m (c, Proc.tc.devRef main_arg0) (ix2 ⟨512 * t.val + r.val, h⟩ d) := by
  refine Eq.trans ?_ (congrFun (V_main_arg0 m c) _)
  unfold iblk
  rw [View.read_apply]
  refine congrArg (V m c main_arg0) (funext fun a => Fin.ext ?_)
  have e := (index t).2.1
  match a with
  | 0 => exact (Pipeline.Window.rect_emb_val _ t _ 0).trans (by rw [e]; show t.val * 512 + r.val = 512 * t.val + r.val; omega)
  | 1 => exact (Pipeline.Window.rect_emb_val _ t _ 1).trans (by rw [e]; show 0 * 1024 + d.val = d.val; omega)

theorem s_at (r : Fin 512) (d : Fin 3072) (h : 512 * t.val + r.val < 16384) :
    iblk m c 1 t (ix2 r d) = m (c, Proc.tc.devRef main_arg1) (ix2 ⟨512 * t.val + r.val, h⟩ d) := by
  refine Eq.trans ?_ (congrFun (V_main_arg1 m c) _)
  unfold iblk
  rw [View.read_apply]
  refine congrArg (V m c main_arg1) (funext fun a => Fin.ext ?_)
  have e := (index t).2.2.1
  match a with
  | 0 => exact (Pipeline.Window.rect_emb_val _ t _ 0).trans (by rw [e]; show t.val * 512 + r.val = 512 * t.val + r.val; omega)
  | 1 => exact (Pipeline.Window.rect_emb_val _ t _ 1).trans (by rw [e]; show 0 * 3072 + d.val = d.val; omega)

theorem a_at (r : Fin 512) (d : Fin 512) (h : 512 * t.val + r.val < 16384) :
    iblk m c 2 t (ix2 r d) = m (c, Proc.tc.devRef main_arg2) (ix2 ⟨512 * t.val + r.val, h⟩ d) := by
  refine Eq.trans ?_ (congrFun (V_main_arg2 m c) _)
  unfold iblk
  rw [View.read_apply]
  refine congrArg (V m c main_arg2) (funext fun a => Fin.ext ?_)
  have e := (index t).2.2.2.1
  match a with
  | 0 => exact (Pipeline.Window.rect_emb_val _ t _ 0).trans (by rw [e]; show t.val * 512 + r.val = 512 * t.val + r.val; omega)
  | 1 => exact (Pipeline.Window.rect_emb_val _ t _ 1).trans (by rw [e]; show 0 * 512 + d.val = d.val; omega)

theorem b_at (r : Fin 512) (d : Fin 512) (h : 512 * t.val + r.val < 16384) :
    iblk m c 3 t (ix2 r d) = m (c, Proc.tc.devRef main_arg3) (ix2 ⟨512 * t.val + r.val, h⟩ d) := by
  refine Eq.trans ?_ (congrFun (V_main_arg3 m c) _)
  unfold iblk
  rw [View.read_apply]
  refine congrArg (V m c main_arg3) (funext fun a => Fin.ext ?_)
  have e := (index t).2.2.2.2.1
  match a with
  | 0 => exact (Pipeline.Window.rect_emb_val _ t _ 0).trans (by rw [e]; show t.val * 512 + r.val = 512 * t.val + r.val; omega)
  | 1 => exact (Pipeline.Window.rect_emb_val _ t _ 1).trans (by rw [e]; show 0 * 512 + d.val = d.val; omega)

theorem c_at (r : Fin 512) (d : Fin 512) (h : 512 * t.val + r.val < 16384) :
    iblk m c 4 t (ix2 r d) = m (c, Proc.tc.devRef main_arg4) (ix2 ⟨512 * t.val + r.val, h⟩ d) := by
  refine Eq.trans ?_ (congrFun (V_main_arg4 m c) _)
  unfold iblk
  rw [View.read_apply]
  refine congrArg (V m c main_arg4) (funext fun a => Fin.ext ?_)
  have e := (index t).2.2.2.2.2.1
  match a with
  | 0 => exact (Pipeline.Window.rect_emb_val _ t _ 0).trans (by rw [e]; show t.val * 512 + r.val = 512 * t.val + r.val; omega)
  | 1 => exact (Pipeline.Window.rect_emb_val _ t _ 1).trans (by rw [e]; show 0 * 512 + d.val = d.val; omega)

theorem V_pa (i : Fin 512) (j : Fin 1024) : V m c main_v0 (ix2 i j) = m (c, Proc.tc.devRef main_arg5) (ix2 i j) := by
  unfold V
  after_results_simp
  pointwise
theorem pa_at (i : Fin 512) (j : Fin 1024) : iblk m c 5 t (ix2 i j) = m (c, Proc.tc.devRef main_arg5) (ix2 i j) := by
  refine Eq.trans ?_ (V_pa m c i j)
  unfold iblk
  rw [View.read_apply]
  refine congrArg (V m c main_v0) (funext fun a => Fin.ext ?_)
  match a with
  | 0 => exact Pipeline.Window.rect_emb_val_of_index_zero _ t 0 rfl _
  | 1 => exact Pipeline.Window.rect_emb_val_of_index_zero _ t 1 rfl _

theorem V_pb (i : Fin 512) (j : Fin 1024) : V m c main_v1 (ix2 i j) = m (c, Proc.tc.devRef main_arg6) (ix2 i j) := by
  unfold V
  after_results_simp
  pointwise
theorem pb_at (i : Fin 512) (j : Fin 1024) : iblk m c 6 t (ix2 i j) = m (c, Proc.tc.devRef main_arg6) (ix2 i j) := by
  refine Eq.trans ?_ (V_pb m c i j)
  unfold iblk
  rw [View.read_apply]
  refine congrArg (V m c main_v1) (funext fun a => Fin.ext ?_)
  match a with
  | 0 => exact Pipeline.Window.rect_emb_val_of_index_zero _ t 0 rfl _
  | 1 => exact Pipeline.Window.rect_emb_val_of_index_zero _ t 1 rfl _

theorem V_pc (i : Fin 512) (j : Fin 1024) : V m c main_v2 (ix2 i j) = m (c, Proc.tc.devRef main_arg7) (ix2 i j) := by
  unfold V
  after_results_simp
  pointwise
theorem pc_at (i : Fin 512) (j : Fin 1024) : iblk m c 7 t (ix2 i j) = m (c, Proc.tc.devRef main_arg7) (ix2 i j) := by
  refine Eq.trans ?_ (V_pc m c i j)
  unfold iblk
  rw [View.read_apply]
  refine congrArg (V m c main_v2) (funext fun a => Fin.ext ?_)
  match a with
  | 0 => exact Pipeline.Window.rect_emb_val_of_index_zero _ t 0 rfl _
  | 1 => exact Pipeline.Window.rect_emb_val_of_index_zero _ t 1 rfl _

theorem V_w (i : Fin 1024) (j : Fin 1024) : V m c main_v3 (ix2 i j) = m (c, Proc.tc.devRef main_arg8) (ix2 i j) := by
  unfold V
  after_results_simp
  pointwise
theorem w_at (i : Fin 1024) (j : Fin 1024) : iblk m c 8 t (ix2 i j) = m (c, Proc.tc.devRef main_arg8) (ix2 i j) := by
  refine Eq.trans ?_ (V_w m c i j)
  unfold iblk
  rw [View.read_apply]
  refine congrArg (V m c main_v3) (funext fun a => Fin.ext ?_)
  match a with
  | 0 => exact Pipeline.Window.rect_emb_val_of_index_zero _ t 0 rfl _
  | 1 => exact Pipeline.Window.rect_emb_val_of_index_zero _ t 1 rfl _

/-- The merge of a row of the arguments. -/
abbrev row (i : Fin 16384) (d : Fin 1024) : EReal :=
  merge (fun k => m (c, Proc.tc.devRef main_arg0) (ix2 i k)) (fun k => m (c, Proc.tc.devRef main_arg1) (ix2 i k)) (fun k => m (c, Proc.tc.devRef main_arg2) (ix2 i k)) (fun k => m (c, Proc.tc.devRef main_arg3) (ix2 i k)) (fun k => m (c, Proc.tc.devRef main_arg4) (ix2 i k))
    (fun i j => m (c, Proc.tc.devRef main_arg5) (ix2 i j)) (fun i j => m (c, Proc.tc.devRef main_arg6) (ix2 i j)) (fun i j => m (c, Proc.tc.devRef main_arg7) (ix2 i j)) (fun i j => m (c, Proc.tc.devRef main_arg8) (ix2 i j)) d

theorem stored (y : S512x1024.Idx) (x : FVec Ideal S512x1024 .f32) (s : FVec Ideal S512x3072 .f32) (a b : FVec Ideal S512x512 .bf16) (c : FVec Ideal S512x512 .f32) (pa pb pc : FVec Ideal S512x1024 .bf16) (w : FVec Ideal S1024x1024 .bf16) :
    out0_9 (F := Ideal) x s a b c pa pb pc w y
      = merge (fun i => x (ix2 (y 0) i)) (fun i => s (ix2 (y 0) i)) (fun i => a (ix2 (y 0) i)) (fun i => b (ix2 (y 0) i)) (fun i => c (ix2 (y 0) i)) (fun i j => pa (ix2 i j)) (fun i j => pb (ix2 i j)) (fun i j => pc (ix2 i j)) (fun i j => w (ix2 i j)) (y 1) := by
  refine Eq.trans ?_ (pay_at x s a b c pa pb pc w (y 0) (y 1))
  unfold out0_9
  rw [View.canon_unit_zero zeros]
  repeat rw [View.ld_unit_zero zeros]
  exact congrArg _ (ValueIdx.eq_ix2 y)

theorem result_eq : (dats m 0 c).arrAt 9 cfg0.N = fun i : S16384x1024.Idx => row m c (i 0) (i 1) := by
  refine (dats m 0 c).arrAt_eq_of_covers (9 : Fin 10) (fun i : S16384x1024.Idx => row m c (i 0) (i 1)) (by decide +kernel) fun t hf y => ?_
  obtain ⟨b, e⟩ : t.val < 32 ∧ (cfg0.win (9 : Fin 10)).index t = _ := ⟨(index t).1, (index t).2.2.2.2.2.2⟩
  have h : 512 * t.val + (y 0).val < 16384 := by have : (y 0).val < 512 := (y 0).isLt; omega
  have he : ((cfg0.win (9 : Fin 10)).blk t).view.emb y = (ix2 ⟨512 * t.val + (y 0).val, h⟩ (y 1) : S16384x1024.Idx) := by
    refine funext fun a => Fin.ext ?_
    match a with
    | 0 => exact (Pipeline.Window.rect_emb_val _ t _ 0).trans (by rw [e]; show t.val * 512 + (y 0).val = _; show _ = 512 * t.val + (y 0).val; omega)
    | 1 => exact (Pipeline.Window.rect_emb_val _ t _ 1).trans (by rw [e]; show 0 * 1024 + (y 1).val = _; show _ = (y 1).val; omega)
  refine Eq.trans ?_ (congrArg (fun i : S16384x1024.Idx => row m c (i 0) (i 1)) he.symm)
  blk_simp
  rw [after0_9]
  refine (stored y _ _ _ _ _ _ _ _ _).trans ?_
  simp only [pa_at, pb_at, pc_at, w_at, x_at m c t (y 0) _ h, s_at m c t (y 0) _ h, a_at m c t (y 0) _ h, b_at m c t (y 0) _ h, c_at m c t (y 0) _ h]
  rfl

end Cert.MergeIdeal.Dense
end
-- ==== Proof.Mem.lean ====
/- The memory's keys and values: the block, the reference and the result as a function of the arguments. -/
module

public import proofs.«01_k».proof.Proof.Gen.MemIdeal.Value
public import proofs.«01_k».proof.Proof.Gen.MemReferenceIdeal.Run
public import proofs.«01_k».proof.Proof.Swiglu
public import Idealize.ShloMosaic.Lib.Pipeline.ValueKit.Geometry

@[expose] public section
set_option maxRecDepth 16384
noncomputable section
namespace Cert.MemReferenceIdeal.Dense
open Cert.MemReferenceIdeal Cert.MemReferenceIdeal.Gen
open Idealize.ShloMosaic Idealize.ShloMosaic.TcCoe
open Cert.Rows

variable (x : FVec Ideal S256x1024 .f32) (g : FVec Ideal S1024 .f32) (wk wv : FVec Ideal S1024x256 .f32)

/-- The normed memory. -/
def normed : FVec Ideal S256x1024 .f32 :=
  mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

theorem normed_at (r : Fin 256) (d : Fin 1024) : normed x g (ix2 r d) = rms (fun i => x (ix2 r i)) (fun i => g (ix1 i)) d := by
  pointwise [normed]
  rfl

/-- One half of the result: a product, transposed. -/
def half (h : FVec Ideal S256x1024 .f32) (w : FVec Ideal S1024x256 .f32) : FVec Ideal S256x256 .f32 :=
  transpose S256x256 [1, 0] (Host.dotGeneral dot_S256x1024_S1024x256_S256x256_1_0_0_1_n_n none h w) transposes_S256x256_S256x256_1_0

theorem half_at (h : FVec Ideal S256x1024 .f32) (w : FVec Ideal S1024x256 .f32) (j r : Fin 256) : half h w (ix2 j r) = lin (fun i => h (ix2 r i)) (fun i j => w (ix2 i j)) j := by
  pointwise [half]
  rfl

/-- The reference's result. -/
def res : FVec Ideal S512x256 .f32 :=
  concatenate S512x256 0 [⟨S256x256, half (normed x g) wk⟩, ⟨S256x256, half (normed x g) wv⟩] concatenates_S256x256_S256x256_S512x256_d0

theorem keys_at (j r : Fin 256) : res x g wk wv (ix2 ⟨j.val, by omega⟩ r) = lin (rms (fun i => x (ix2 r i)) (fun i => g (ix1 i))) (fun i j => wk (ix2 i j)) j := by
  have e : res x g wk wv (ix2 ⟨j.val, by omega⟩ r) = half (normed x g) wk (ix2 j r) := by
    unfold res
    pointwise
  rw [e, half_at]
  exact congrArg (fun f => lin f (fun i j => wk (ix2 i j)) j) (funext fun i => normed_at x g r i)

theorem values_at (j r : Fin 256) : res x g wk wv (ix2 ⟨256 + j.val, by omega⟩ r) = lin (rms (fun i => x (ix2 r i)) (fun i => g (ix1 i))) (fun i j => wv (ix2 i j)) j := by
  have e : res x g wk wv (ix2 ⟨256 + j.val, by omega⟩ r) = half (normed x g) wv (ix2 j r) := by
    unfold res
    pointwise
  rw [e, half_at]
  exact congrArg (fun f => lin f (fun i j => wv (ix2 i j)) j) (funext fun i => normed_at x g r i)

end Cert.MemReferenceIdeal.Dense

namespace Cert.MemIdeal.Dense
open Cert.MemIdeal Cert.MemIdeal.Gen
open Idealize.ShloMosaic Idealize.ShloMosaic.TcCoe Idealize.ShloMosaic.Tactic
open Cert.Rows

theorem product_at (w : FVec Ideal S512x1024 .bf16) (h : FVec Ideal S256x1024 .bf16) (j : Fin 512) (r : Fin 256) :
    matmul dot_S512x1024_S256x1024_S512x256_1_1_0_0_n_n none (shapeCast S512x1024 w shapeCasts_S512x1024_S512x1024) h (constant S512x256 .f32 0x00000000#32) (ix2 j r)
      = ∑ i, w (ix2 j i) * h (ix2 r i) := by
  pointwise

theorem pay_at (x : FVec Ideal S256x1024 .f32) (g : FVec Ideal S1x1024 .f32) (w : FVec Ideal S512x1024 .bf16) (j : Fin 512) (r : Fin 256) :
    k0_pay1 (F := Ideal) x g w (ix2 j r) = lin (rms (fun i => x (ix2 r i)) (fun i => g (ix2 0 i))) (fun i j => w (ix2 j i)) j := by
  refine (product_at w (Cert.FfnIdeal.Dense.normed x g) j r).trans (Finset.sum_congr rfl fun i _ => ?_)
  exact (mul_comm _ _).trans (congrArg (· * w (ix2 j i)) (Cert.FfnIdeal.Dense.normed_at x g r i))

theorem stored (x : FVec Ideal S256x1024 .f32) (g : FVec Ideal S1x1024 .f32) (w : FVec Ideal S512x1024 .bf16) (j : Fin 512) (r : Fin 256) :
    out0_3 (F := Ideal) x g w (ix2 j r) = lin (rms (fun i => x (ix2 r i)) (fun i => g (ix2 0 i))) (fun i j => w (ix2 j i)) j := by
  refine Eq.trans ?_ (pay_at x g w j r)
  unfold out0_3
  rw [View.canon_unit_zero zeros]
  repeat rw [View.ld_unit_zero zeros]

variable (m : (ℓ : Loc nD τ sig) → Buf (Elt Ideal) ℓ) (c : Dev nD) (t : Fin grid0.N)

theorem V_g (j : Fin 1024) : V m c main_v3 (ix2 0 j) = m (c, Proc.tc.devRef main_arg1) (ix1 j) := by
  unfold V
  after_results_simp
  pointwise
/-- The transposed weights hold the keys' columns, then the values'. -/
theorem V_low (j : Fin 256) (i : Fin 1024) : V m c main_v2 (ix2 ⟨j.val, by omega⟩ i) = m (c, Proc.tc.devRef main_arg2) (ix2 i j) := by
  unfold V
  after_results_simp
  pointwise
theorem V_high (j : Fin 256) (i : Fin 1024) : V m c main_v2 (ix2 ⟨256 + j.val, by omega⟩ i) = m (c, Proc.tc.devRef main_arg3) (ix2 i j) := by
  unfold V
  after_results_simp
  pointwise

theorem x_at (r : Fin 256) (d : Fin 1024) : iblk m c 0 t (ix2 r d) = m (c, Proc.tc.devRef main_arg0) (ix2 r d) := by
  refine Eq.trans ?_ (congrFun (V_main_arg0 m c) _)
  unfold iblk
  rw [View.read_apply]
  refine congrArg (V m c main_arg0) (funext fun a => Fin.ext ?_)
  match a with
  | 0 => exact Pipeline.Window.rect_emb_val_of_index_zero _ t 0 rfl _
  | 1 => exact Pipeline.Window.rect_emb_val_of_index_zero _ t 1 rfl _

theorem g_at (j : Fin 1024) : iblk m c 1 t (ix2 0 j) = m (c, Proc.tc.devRef main_arg1) (ix1 j) := by
  refine Eq.trans ?_ (V_g m c j)
  unfold iblk
  rw [View.read_apply]
  refine congrArg (V m c main_v3) (funext fun a => Fin.ext ?_)
  match a with
  | 0 => exact Pipeline.Window.rect_emb_val_of_index_zero _ t 0 rfl _
  | 1 => exact Pipeline.Window.rect_emb_val_of_index_zero _ t 1 rfl _

theorem low_at (j : Fin 256) (i : Fin 1024) : iblk m c 2 t (ix2 ⟨j.val, by omega⟩ i) = m (c, Proc.tc.devRef main_arg2) (ix2 i j) := by
  refine Eq.trans ?_ (V_low m c j i)
  unfold iblk
  rw [View.read_apply]
  refine congrArg (V m c main_v2) (funext fun a => Fin.ext ?_)
  match a with
  | 0 => exact Pipeline.Window.rect_emb_val_of_index_zero _ t 0 rfl _
  | 1 => exact Pipeline.Window.rect_emb_val_of_index_zero _ t 1 rfl _

theorem high_at (j : Fin 256) (i : Fin 1024) : iblk m c 2 t (ix2 ⟨256 + j.val, by omega⟩ i) = m (c, Proc.tc.devRef main_arg3) (ix2 i j) := by
  refine Eq.trans ?_ (V_high m c j i)
  unfold iblk
  rw [View.read_apply]
  refine congrArg (V m c main_v2) (funext fun a => Fin.ext ?_)
  match a with
  | 0 => exact Pipeline.Window.rect_emb_val_of_index_zero _ t 0 rfl _
  | 1 => exact Pipeline.Window.rect_emb_val_of_index_zero _ t 1 rfl _

/-- The keys' half of the result. -/
theorem keys (j r : Fin 256) : out0_3 (F := Ideal) (iblk m c 0 t) (iblk m c 1 t) (iblk m c 2 t) (ix2 ⟨j.val, by omega⟩ r)
    = lin (rms (fun i => m (c, Proc.tc.devRef main_arg0) (ix2 r i)) (fun i => m (c, Proc.tc.devRef main_arg1) (ix1 i))) (fun i j => m (c, Proc.tc.devRef main_arg2) (ix2 i j)) j := by
  rw [stored]
  unfold lin
  simp only [x_at, g_at, low_at]

/-- The values' half. -/
theorem values (j r : Fin 256) : out0_3 (F := Ideal) (iblk m c 0 t) (iblk m c 1 t) (iblk m c 2 t) (ix2 ⟨256 + j.val, by omega⟩ r)
    = lin (rms (fun i => m (c, Proc.tc.devRef main_arg0) (ix2 r i)) (fun i => m (c, Proc.tc.devRef main_arg1) (ix1 i))) (fun i j => m (c, Proc.tc.devRef main_arg3) (ix2 i j)) j := by
  rw [stored]
  unfold lin
  simp only [x_at, g_at, high_at]

/-- The reference's result of the arguments. -/
abbrev whole : FVec Ideal S512x256 .f32 :=
  Cert.MemReferenceIdeal.Dense.res (m (c, Proc.tc.devRef main_arg0)) (m (c, Proc.tc.devRef main_arg1)) (m (c, Proc.tc.devRef main_arg2)) (m (c, Proc.tc.devRef main_arg3))

theorem both (j : Fin 512) (r : Fin 256) : out0_3 (F := Ideal) (iblk m c 0 t) (iblk m c 1 t) (iblk m c 2 t) (ix2 j r) = whole m c (ix2 j r) := by
  by_cases hj : j.val < 256
  · exact (keys m c t ⟨j.val, hj⟩ r).trans (Cert.MemReferenceIdeal.Dense.keys_at _ _ _ _ ⟨j.val, hj⟩ r).symm
  · obtain ⟨k, e⟩ : ∃ k : Fin 256, j = ⟨256 + k.val, by omega⟩ := ⟨⟨j.val - 256, by omega⟩, Fin.ext (by show j.val = 256 + (j.val - 256); omega)⟩
    rw [e]
    exact (values m c t k r).trans (Cert.MemReferenceIdeal.Dense.values_at _ _ _ _ k r).symm

theorem result_eq : (dats m 0 c).arrAt 3 cfg0.N = whole m c := by
  refine (dats m 0 c).arrAt_eq_of_covers (3 : Fin 4) (whole m c) (by decide +kernel) fun t hf y => ?_
  have he : ((cfg0.win (3 : Fin 4)).blk t).view.emb y = (ix2 (y 0) (y 1) : S512x256.Idx) := by
    refine funext fun a => Fin.ext ?_
    match a with
    | 0 => exact Pipeline.Window.rect_emb_val_of_index_zero _ t 0 rfl _
    | 1 => exact Pipeline.Window.rect_emb_val_of_index_zero _ t 1 rfl _
  refine Eq.trans ?_ (congrArg (whole m c) he.symm)
  blk_simp
  rw [after0_3]
  refine (congrArg (out0_3 (F := Ideal) (iblk m c 0 t) (iblk m c 1 t) (iblk m c 2 t)) (ValueIdx.eq_ix2 (y : S512x256.Idx))).trans ?_
  exact both m c t (y 0) (y 1)

end Cert.MemIdeal.Dense
end
-- ==== Proof.Layer.lean ====
/- The claims about the calls other than attention: each kernel's result is its reference's, and each program ends with its
   arguments unchanged and its semaphores at zero. -/
module

public import proofs.«01_k».proof.Defs
public import proofs.«01_k».proof.Proof.Gen.Pre_finite
public import proofs.«01_k».proof.Proof.Gen.Ffn
public import proofs.«01_k».proof.Proof.Gen.Mem
public import proofs.«01_k».proof.Proof.Gen.InProj
public import proofs.«01_k».proof.Proof.Gen.Merge
public import proofs.«01_k».proof.Proof.Gen.Kernel
public import proofs.«01_k».proof.Proof.Gen.KernelIdeal
public import proofs.«01_k».proof.Proof.Gen.ReferenceIdeal
public import proofs.«01_k».proof.Proof.SwigluRun
public import proofs.«01_k».proof.Proof.SwigluRef
public import proofs.«01_k».proof.Proof.ProjRun
public import proofs.«01_k».proof.Proof.ProjRef
public import proofs.«01_k».proof.Proof.GateRun
public import proofs.«01_k».proof.Proof.Mem
public import proofs.«01_k».proof.Proof.Gen.FfnIdeal
public import proofs.«01_k».proof.Proof.Gen.FfnReferenceIdeal
public import proofs.«01_k».proof.Proof.Gen.MemIdeal
public import proofs.«01_k».proof.Proof.Gen.MemReferenceIdeal
public import proofs.«01_k».proof.Proof.Gen.InProjIdeal
public import proofs.«01_k».proof.Proof.Gen.InProjReferenceIdeal
public import proofs.«01_k».proof.Proof.Gen.MergeIdeal
public import proofs.«01_k».proof.Proof.Gen.MergeReferenceIdeal

@[expose] public section
set_option maxRecDepth 16384
noncomputable section
namespace Cert.Layer
open Idealize.ShloMosaic Idealize.ShloMosaic.TcCoe Idealize.SL.Sem

/-! ## The feed-forward -/

theorem ffn_equal (m : (ℓ : Loc Cert.FfnIdeal.nD Cert.FfnIdeal.τ Cert.FfnIdeal.sig) → Buf (Elt Ideal) ℓ) (c : Dev Cert.FfnIdeal.nD) (a0 : FVec Ideal (⟨2, ![16384, 1024]⟩ : Shape) .f32) (a1 : FVec Ideal (⟨1, ![1024]⟩ : Shape) .f32) (a2 : FVec Ideal (⟨2, ![1024, 2816]⟩ : Shape) .f32) (a3 : FVec Ideal (⟨2, ![1024, 2816]⟩ : Shape) .f32) (a4 : FVec Ideal (⟨2, ![2816, 1024]⟩ : Shape) .f32) (a5 : FVec Ideal (⟨1, ![1024]⟩ : Shape) .f32)
    (h0 : a0 = m (c, Proc.tc.devRef Cert.FfnIdeal.main_arg0)) (h1 : a1 = m (c, Proc.tc.devRef Cert.FfnIdeal.main_arg1)) (h2 : a2 = m (c, Proc.tc.devRef Cert.FfnIdeal.main_arg2)) (h3 : a3 = m (c, Proc.tc.devRef Cert.FfnIdeal.main_arg3)) (h4 : a4 = m (c, Proc.tc.devRef Cert.FfnIdeal.main_arg4)) (h5 : a5 = m (c, Proc.tc.devRef Cert.FfnIdeal.main_arg5)) :
    Cert.FfnReferenceIdeal.Dense.normed (Cert.FfnReferenceIdeal.Dense.fed a0 a1 a2 a3 a4) a5 = (Cert.FfnIdeal.Gen.dats m 0 c).arrAt 6 Cert.FfnIdeal.cfg0.N := by
  rw [Cert.FfnIdeal.Dense.result_eq, h0, h1, h2, h3, h4, h5]
  funext i
  exact (congrArg _ (ValueIdx.eq_ix2 i)).trans (Cert.FfnReferenceIdeal.Dense.out_at _ _ _ _ _ _ (i 0) (i 1))

/-- The frame at machine words, in the words of the program read at the extended reals. -/
def FfnBits : Prop :=
  ∀ (m : (ℓ : Loc Cert.FfnIdeal.nD Cert.FfnIdeal.τ Cert.FfnIdeal.sig) → Buf (Elt Bits) ℓ) (g : Dev Cert.FfnIdeal.nD → PrngReg), True →
    θ_run (Cert.FfnIdeal.defs (F := Bits)) (onTc (τ := Cert.FfnIdeal.τ) (Cert.FfnIdeal.main (F := Bits))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

/-- The two programs' texts are the same. -/
theorem ffn_same : FfnBits = Cert.quiescent_Ffn := by sl_kernel_rfl

theorem ffn_frame : Cert.quiescent_Ffn := ffn_same ▸ fun m g _ => Cert.FfnIdeal.Gen.frame (F := Bits) m g

theorem ffn_frame_ideal : Cert.quiescent_FfnIdeal := fun m g _ => Cert.FfnIdeal.Gen.frame m g

theorem ffn_frame_reference : Cert.quiescent_FfnReferenceIdeal := fun m g _ =>
  (θ_run Cert.FfnReferenceIdeal.defs _ _).mono (fun r h => ⟨fun c => (h c).2, sem_eq_zero_of_no_sems (by decide) r.2⟩) (Cert.FfnReferenceIdeal.Value.run m g)

theorem ffn_algebraic : Cert.algebraic_FfnIdeal_FfnReferenceIdeal := fun m g m' g' _ ha =>
  ⟨fun c => (Cert.FfnIdeal.Gen.dats m 0 c).arrAt 6 Cert.FfnIdeal.cfg0.N,
    Cert.FfnIdeal.Value.run_blocks m g,
    (θ_run Cert.FfnReferenceIdeal.defs _ _).mono (fun r h c => by
      obtain ⟨a0, a1, a2, a3, a4, a5⟩ := ha c
      exact ⟨(h c).1.trans ((Cert.FfnReferenceIdeal.Dense.res_eq m' c).trans <| ffn_equal m c _ _ _ _ _ _ a0 a1 a2 a3 a4 a5),
        (h c).2⟩)
      (Cert.FfnReferenceIdeal.Value.run m' g')⟩

/-! ## The memory's keys and values -/

theorem mem_equal (m : (ℓ : Loc Cert.MemIdeal.nD Cert.MemIdeal.τ Cert.MemIdeal.sig) → Buf (Elt Ideal) ℓ) (c : Dev Cert.MemIdeal.nD) (a0 : FVec Ideal (⟨2, ![256, 1024]⟩ : Shape) .f32) (a1 : FVec Ideal (⟨1, ![1024]⟩ : Shape) .f32) (a2 : FVec Ideal (⟨2, ![1024, 256]⟩ : Shape) .f32) (a3 : FVec Ideal (⟨2, ![1024, 256]⟩ : Shape) .f32)
    (h0 : a0 = m (c, Proc.tc.devRef Cert.MemIdeal.main_arg0)) (h1 : a1 = m (c, Proc.tc.devRef Cert.MemIdeal.main_arg1)) (h2 : a2 = m (c, Proc.tc.devRef Cert.MemIdeal.main_arg2)) (h3 : a3 = m (c, Proc.tc.devRef Cert.MemIdeal.main_arg3)) :
    Cert.MemReferenceIdeal.Dense.res a0 a1 a2 a3 = (Cert.MemIdeal.Gen.dats m 0 c).arrAt 3 Cert.MemIdeal.cfg0.N := by
  rw [Cert.MemIdeal.Dense.result_eq, h0, h1, h2, h3]

/-- The frame at machine words, in the words of the program read at the extended reals. -/
def MemBits : Prop :=
  ∀ (m : (ℓ : Loc Cert.MemIdeal.nD Cert.MemIdeal.τ Cert.MemIdeal.sig) → Buf (Elt Bits) ℓ) (g : Dev Cert.MemIdeal.nD → PrngReg), True →
    θ_run (Cert.MemIdeal.defs (F := Bits)) (onTc (τ := Cert.MemIdeal.τ) (Cert.MemIdeal.main (F := Bits))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

/-- The two programs' texts are the same. -/
theorem mem_same : MemBits = Cert.quiescent_Mem := by sl_kernel_rfl

theorem mem_frame : Cert.quiescent_Mem := mem_same ▸ fun m g _ => Cert.MemIdeal.Gen.frame (F := Bits) m g

theorem mem_frame_ideal : Cert.quiescent_MemIdeal := fun m g _ => Cert.MemIdeal.Gen.frame m g

theorem mem_frame_reference : Cert.quiescent_MemReferenceIdeal := fun m g _ =>
  (θ_run Cert.MemReferenceIdeal.defs _ _).mono (fun r h => ⟨fun c => (h c).2, sem_eq_zero_of_no_sems (by decide) r.2⟩) (Cert.MemReferenceIdeal.Value.run m g)

theorem mem_algebraic : Cert.algebraic_MemIdeal_MemReferenceIdeal := fun m g m' g' _ ha =>
  ⟨fun c => (Cert.MemIdeal.Gen.dats m 0 c).arrAt 3 Cert.MemIdeal.cfg0.N,
    Cert.MemIdeal.Value.run_blocks m g,
    (θ_run Cert.MemReferenceIdeal.defs _ _).mono (fun r h c => by
      obtain ⟨a0, a1, a2, a3⟩ := ha c
      exact ⟨(h c).1.trans (mem_equal m c _ _ _ _ a0 a1 a2 a3),
        (h c).2⟩)
      (Cert.MemReferenceIdeal.Value.run m' g')⟩

/-! ## The input projection -/

theorem in_equal4 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    extractStridedSlice Cert.InProjReferenceIdeal.S16384x512 ![0, 512] (Cert.InProjReferenceIdeal.Dense.proj a0 a1 a2) Cert.InProjReferenceIdeal.Gen.slices_S16384x6912_S16384x512_0_512
      = (Cert.InProjIdeal.Gen.dats m 0 c).arrAt 4 Cert.InProjIdeal.cfg0.N := by
  rw [Cert.InProjIdeal.Dense.result4, h0, h1, h2]
  funext i
  exact (congrArg _ (ValueIdx.eq_ix2 i)).trans ((Cert.InProjReferenceIdeal.Dense.keys_at _ (i 0) (i 1)).trans (Cert.InProjReferenceIdeal.Dense.proj_at _ _ _ _ _))

theorem in_equal5 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    truncf .bf16 (extractStridedSlice Cert.InProjReferenceIdeal.S16384x512 ![0, 512] (Cert.InProjReferenceIdeal.Dense.proj a0 a1 a2) Cert.InProjReferenceIdeal.Gen.slices_S16384x6912_S16384x512_0_512) Cert.InProjReferenceIdeal.Gen.bitsLt_bf16_f32
      = (Cert.InProjIdeal.Gen.dats m 0 c).arrAt 5 Cert.InProjIdeal.cfg0.N := by
  rw [Cert.InProjIdeal.Dense.result5, h0, h1, h2]
  funext i
  exact (congrArg _ (ValueIdx.eq_ix2 i)).trans ((Cert.InProjReferenceIdeal.Dense.keys_at _ (i 0) (i 1)).trans (Cert.InProjReferenceIdeal.Dense.proj_at _ _ _ _ _))

theorem in_equal6 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    extractStridedSlice Cert.InProjReferenceIdeal.S16384x512 ![0, 1024] (Cert.InProjReferenceIdeal.Dense.proj a0 a1 a2) Cert.InProjReferenceIdeal.Gen.slices_S16384x6912_S16384x512_0_1024
      = (Cert.InProjIdeal.Gen.dats m 0 c).arrAt 6 Cert.InProjIdeal.cfg0.N := by
  rw [Cert.InProjIdeal.Dense.result6, h0, h1, h2]
  funext i
  exact (congrArg _ (ValueIdx.eq_ix2 i)).trans ((Cert.InProjReferenceIdeal.Dense.values_at _ (i 0) (i 1)).trans (Cert.InProjReferenceIdeal.Dense.proj_at _ _ _ _ _))

theorem in_equal7 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    extractStridedSlice Cert.InProjReferenceIdeal.S16384x512 ![0, 1536] (Cert.InProjReferenceIdeal.Dense.proj a0 a1 a2) Cert.InProjReferenceIdeal.Gen.slices_S16384x6912_S16384x512_0_1536
      = (Cert.InProjIdeal.Gen.dats m 0 c).arrAt 7 Cert.InProjIdeal.cfg0.N := by
  rw [Cert.InProjIdeal.Dense.result7, h0, h1, h2]
  funext i
  exact (congrArg _ (ValueIdx.eq_ix2 i)).trans ((Cert.InProjReferenceIdeal.Dense.states_at _ (i 0) (i 1)).trans (Cert.InProjReferenceIdeal.Dense.proj_at _ _ _ _ _))

theorem in_equal8 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    extractStridedSlice Cert.InProjReferenceIdeal.S16384x1792 ![0, 2048] (Cert.InProjReferenceIdeal.Dense.proj a0 a1 a2) Cert.InProjReferenceIdeal.Gen.slices_S16384x6912_S16384x1792_0_2048
      = (Cert.InProjIdeal.Gen.dats m 0 c).arrAt 8 Cert.InProjIdeal.cfg0.N := by
  rw [Cert.InProjIdeal.Dense.result8, h0, h1, h2]
  funext i
  exact (congrArg _ (ValueIdx.eq_ix2 i)).trans ((Cert.InProjReferenceIdeal.Dense.wide_at _ (i 0) (i 1)).trans (Cert.InProjReferenceIdeal.Dense.proj_at _ _ _ _ _))

theorem in_equal9 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    Host.divf (broadcastInDim Cert.InProjReferenceIdeal.S16384x3072 ![] Cert.InProjReferenceIdeal.Gen.bcast_S_S16384x3072 (constant Cert.InProjReferenceIdeal.S_ .f32 0x3F800000#32)) (addf (broadcastInDim Cert.InProjReferenceIdeal.S16384x3072 ![] Cert.InProjReferenceIdeal.Gen.bcast_S_S16384x3072 (constant Cert.InProjReferenceIdeal.S_ .f32 0x3F800000#32)) (Host.exp (Host.negf (extractStridedSlice Cert.InProjReferenceIdeal.S16384x3072 ![0, 3840] (Cert.InProjReferenceIdeal.Dense.proj a0 a1 a2) Cert.InProjReferenceIdeal.Gen.slices_S16384x6912_S16384x3072_0_3840))))
      = (Cert.InProjIdeal.Gen.dats m 0 c).arrAt 9 Cert.InProjIdeal.cfg0.N := by
  rw [Cert.InProjIdeal.Dense.result9, h0, h1, h2]
  funext i
  exact (congrArg _ (ValueIdx.eq_ix2 i)).trans ((Cert.InProjReferenceIdeal.Dense.gates_at _ (i 0) (i 1)).trans (congrArg Cert.Rows.squash (Cert.InProjReferenceIdeal.Dense.proj_at _ _ _ _ _)))

theorem in_equal10 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    transpose Cert.InProjReferenceIdeal.S512x16384 [1, 0] (extractStridedSlice Cert.InProjReferenceIdeal.S16384x512 ![0, 0] (Cert.InProjReferenceIdeal.Dense.proj a0 a1 a2) Cert.InProjReferenceIdeal.Gen.slices_S16384x6912_S16384x512_0_0) Cert.InProjReferenceIdeal.Gen.transposes_S16384x512_S512x16384_1_0
      = (Cert.InProjIdeal.Gen.dats m 0 c).arrAt 10 Cert.InProjIdeal.cfg0.N := by
  rw [Cert.InProjIdeal.Dense.result10, h0, h1, h2]
  funext i
  exact (congrArg _ (ValueIdx.eq_ix2 i)).trans ((Cert.InProjReferenceIdeal.Dense.queriesT_at _ (i 0) (i 1)).trans (Cert.InProjReferenceIdeal.Dense.proj_at _ _ _ _ _))

theorem in_equal11 (m : (ℓ : Loc Cert.InProjIdeal.nD Cert.InProjIdeal.τ Cert.InProjIdeal.sig) → Buf (Elt Ideal) ℓ) (c : Dev Cert.InProjIdeal.nD) (a0 : FVec Ideal (⟨2, ![16384, 1024]⟩ : Shape) .f32) (a1 : FVec Ideal (⟨1, ![1024]⟩ : Shape) .f32) (a2 : FVec Ideal (⟨2, ![1024, 6912]⟩ : Shape) .f32)
    (h0 : a0 = m (c, Proc.tc.devRef Cert.InProjIdeal.main_arg0)) (h1 : a1 = m (c, Proc.tc.devRef Cert.InProjIdeal.main_arg1)) (h2 : a2 = m (c, Proc.tc.devRef Cert.InProjIdeal.main_arg2)) :
    truncf .bf16 (transpose Cert.InProjReferenceIdeal.S512x16384 [1, 0] (extractStridedSlice Cert.InProjReferenceIdeal.S16384x512 ![0, 1024] (Cert.InProjReferenceIdeal.Dense.proj a0 a1 a2) Cert.InProjReferenceIdeal.Gen.slices_S16384x6912_S16384x512_0_1024) Cert.InProjReferenceIdeal.Gen.transposes_S16384x512_S512x16384_1_0) Cert.InProjReferenceIdeal.Gen.bitsLt_bf16_f32
      = (Cert.InProjIdeal.Gen.dats m 0 c).arrAt 11 Cert.InProjIdeal.cfg0.N := by
  rw [Cert.InProjIdeal.Dense.result11, h0, h1, h2]
  funext i
  exact (congrArg _ (ValueIdx.eq_ix2 i)).trans ((Cert.InProjReferenceIdeal.Dense.valuesT_at _ (i 0) (i 1)).trans (Cert.InProjReferenceIdeal.Dense.proj_at _ _ _ _ _))

/-- The frame at machine words, in the words of the program read at the extended reals. -/
def InProjBits : Prop :=
  ∀ (m : (ℓ : Loc Cert.InProjIdeal.nD Cert.InProjIdeal.τ Cert.InProjIdeal.sig) → Buf (Elt Bits) ℓ) (g : Dev Cert.InProjIdeal.nD → PrngReg), True →
    θ_run (Cert.InProjIdeal.defs (F := Bits)) (onTc (τ := Cert.InProjIdeal.τ) (Cert.InProjIdeal.main (F := Bits))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

/-- The two programs' texts are the same. -/
theorem in_same : InProjBits = Cert.quiescent_InProj := by sl_kernel_rfl

theorem in_frame : Cert.quiescent_InProj := in_same ▸ fun m g _ => Cert.InProjIdeal.Gen.frame (F := Bits) m g

theorem in_frame_ideal : Cert.quiescent_InProjIdeal := fun m g _ => Cert.InProjIdeal.Gen.frame m g

theorem in_frame_reference : Cert.quiescent_InProjReferenceIdeal := fun m g _ =>
  (θ_run Cert.InProjReferenceIdeal.defs _ _).mono (fun r h => ⟨fun c => (h c).2.2.2.2.2.2.2.2, sem_eq_zero_of_no_sems (by decide) r.2⟩) (Cert.InProjReferenceIdeal.Value.run m g)

theorem in_algebraic : Cert.algebraic_InProjIdeal_InProjReferenceIdeal := fun m g m' g' _ ha =>
  ⟨fun c => (Cert.InProjIdeal.Gen.dats m 0 c).arrAt 4 Cert.InProjIdeal.cfg0.N, fun c => (Cert.InProjIdeal.Gen.dats m 0 c).arrAt 5 Cert.InProjIdeal.cfg0.N, fun c => (Cert.InProjIdeal.Gen.dats m 0 c).arrAt 6 Cert.InProjIdeal.cfg0.N, fun c => (Cert.InProjIdeal.Gen.dats m 0 c).arrAt 7 Cert.InProjIdeal.cfg0.N, fun c => (Cert.InProjIdeal.Gen.dats m 0 c).arrAt 8 Cert.InProjIdeal.cfg0.N, fun c => (Cert.InProjIdeal.Gen.dats m 0 c).arrAt 9 Cert.InProjIdeal.cfg0.N, fun c => (Cert.InProjIdeal.Gen.dats m 0 c).arrAt 10 Cert.InProjIdeal.cfg0.N, fun c => (Cert.InProjIdeal.Gen.dats m 0 c).arrAt 11 Cert.InProjIdeal.cfg0.N,
    Cert.InProjIdeal.Value.run_blocks m g,
    (θ_run Cert.InProjReferenceIdeal.defs _ _).mono (fun r h c => by
      obtain ⟨a0, a1, a2⟩ := ha c
      exact ⟨(h c).1.trans (in_equal4 m c _ _ _ a0 a1 a2),
        (h c).2.1.trans (in_equal5 m c _ _ _ a0 a1 a2),
        (h c).2.2.1.trans (in_equal6 m c _ _ _ a0 a1 a2),
        (h c).2.2.2.1.trans (in_equal7 m c _ _ _ a0 a1 a2),
        (h c).2.2.2.2.1.trans (in_equal8 m c _ _ _ a0 a1 a2),
        (h c).2.2.2.2.2.1.trans (in_equal9 m c _ _ _ a0 a1 a2),
        (h c).2.2.2.2.2.2.1.trans (in_equal10 m c _ _ _ a0 a1 a2),
        (h c).2.2.2.2.2.2.2.1.trans (in_equal11 m c _ _ _ a0 a1 a2),
        (h c).2.2.2.2.2.2.2.2⟩)
      (Cert.InProjReferenceIdeal.Value.run m' g')⟩

/-! ## The merge -/

theorem merge_equal (m : (ℓ : Loc Cert.MergeIdeal.nD Cert.MergeIdeal.τ Cert.MergeIdeal.sig) → Buf (Elt Ideal) ℓ) (c : Dev Cert.MergeIdeal.nD) (a0 : FVec Ideal (⟨2, ![16384, 1024]⟩ : Shape) .f32) (a1 : FVec Ideal (⟨2, ![16384, 3072]⟩ : Shape) .f32) (a2 : FVec Ideal (⟨2, ![16384, 512]⟩ : Shape) .bf16) (a3 : FVec Ideal (⟨2, ![16384, 512]⟩ : Shape) .bf16) (a4 : FVec Ideal (⟨2, ![16384, 512]⟩ : Shape) .f32) (a5 : FVec Ideal (⟨2, ![512, 1024]⟩ : Shape) .f32) (a6 : FVec Ideal (⟨2, ![512, 1024]⟩ : Shape) .f32) (a7 : FVec Ideal (⟨2, ![512, 1024]⟩ : Shape) .f32) (a8 : FVec Ideal (⟨2, ![1024, 1024]⟩ : Shape) .f32)
    (h0 : a0 = m (c, Proc.tc.devRef Cert.MergeIdeal.main_arg0)) (h1 : a1 = m (c, Proc.tc.devRef Cert.MergeIdeal.main_arg1)) (h2 : a2 = m (c, Proc.tc.devRef Cert.MergeIdeal.main_arg2)) (h3 : a3 = m (c, Proc.tc.devRef Cert.MergeIdeal.main_arg3)) (h4 : a4 = m (c, Proc.tc.devRef Cert.MergeIdeal.main_arg4)) (h5 : a5 = m (c, Proc.tc.devRef Cert.MergeIdeal.main_arg5)) (h6 : a6 = m (c, Proc.tc.devRef Cert.MergeIdeal.main_arg6)) (h7 : a7 = m (c, Proc.tc.devRef Cert.MergeIdeal.main_arg7)) (h8 : a8 = m (c, Proc.tc.devRef Cert.MergeIdeal.main_arg8)) :
    addf a0 (Host.dotGeneral Cert.MergeReferenceIdeal.dot_S16384x1024_S1024x1024_S16384x1024_1_0_0_1_n_n none (addf (addf (mulf (extractStridedSlice Cert.MergeReferenceIdeal.S16384x1024 ![0, 0] a1 Cert.MergeReferenceIdeal.Gen.slices_S16384x3072_S16384x1024_0_0) (Host.dotGeneral Cert.MergeReferenceIdeal.dot_S16384x512_S512x1024_S16384x1024_1_0_0_1_n_n none (extf .f32 a2 Cert.MergeReferenceIdeal.Gen.bitsLt_bf16_f32) a5)) (mulf (extractStridedSlice Cert.MergeReferenceIdeal.S16384x1024 ![0, 1024] a1 Cert.MergeReferenceIdeal.Gen.slices_S16384x3072_S16384x1024_0_1024) (Host.dotGeneral Cert.MergeReferenceIdeal.dot_S16384x512_S512x1024_S16384x1024_1_0_0_1_n_n none (extf .f32 a3 Cert.MergeReferenceIdeal.Gen.bitsLt_bf16_f32) a6))) (mulf (extractStridedSlice Cert.MergeReferenceIdeal.S16384x1024 ![0, 2048] a1 Cert.MergeReferenceIdeal.Gen.slices_S16384x3072_S16384x1024_0_2048) (Host.dotGeneral Cert.MergeReferenceIdeal.dot_S16384x512_S512x1024_S16384x1024_1_0_0_1_n_n none a4 a7))) a8)
      = (Cert.MergeIdeal.Gen.dats m 0 c).arrAt 9 Cert.MergeIdeal.cfg0.N := by
  rw [Cert.MergeIdeal.Dense.result_eq, h0, h1, h2, h3, h4, h5, h6, h7, h8]
  funext i
  exact (congrArg _ (ValueIdx.eq_ix2 i)).trans (Cert.MergeReferenceIdeal.Dense.res_at _ _ _ _ _ _ _ _ _ (i 0) (i 1))

/-- The frame at machine words, in the words of the program read at the extended reals. -/
def MergeBits : Prop :=
  ∀ (m : (ℓ : Loc Cert.MergeIdeal.nD Cert.MergeIdeal.τ Cert.MergeIdeal.sig) → Buf (Elt Bits) ℓ) (g : Dev Cert.MergeIdeal.nD → PrngReg), True →
    θ_run (Cert.MergeIdeal.defs (F := Bits)) (onTc (τ := Cert.MergeIdeal.τ) (Cert.MergeIdeal.main (F := Bits))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

/-- The two programs' texts are the same. -/
theorem merge_same : MergeBits = Cert.quiescent_Merge := by sl_kernel_rfl

theorem merge_frame : Cert.quiescent_Merge := merge_same ▸ fun m g _ => Cert.MergeIdeal.Gen.frame (F := Bits) m g

theorem merge_frame_ideal : Cert.quiescent_MergeIdeal := fun m g _ => Cert.MergeIdeal.Gen.frame m g

theorem merge_frame_reference : Cert.quiescent_MergeReferenceIdeal := fun m g _ =>
  (θ_run Cert.MergeReferenceIdeal.defs _ _).mono (fun r h => ⟨fun c => (h c).2, sem_eq_zero_of_no_sems (by decide) r.2⟩) (Cert.MergeReferenceIdeal.Value.run m g)

theorem merge_algebraic : Cert.algebraic_MergeIdeal_MergeReferenceIdeal := fun m g m' g' _ ha =>
  ⟨fun c => (Cert.MergeIdeal.Gen.dats m 0 c).arrAt 9 Cert.MergeIdeal.cfg0.N,
    Cert.MergeIdeal.Value.run_blocks m g,
    (θ_run Cert.MergeReferenceIdeal.defs _ _).mono (fun r h c => by
      obtain ⟨a0, a1, a2, a3, a4, a5, a6, a7, a8⟩ := ha c
      exact ⟨(h c).1.trans (merge_equal m c _ _ _ _ _ _ _ _ _ a0 a1 a2 a3 a4 a5 a6 a7 a8),
        (h c).2⟩)
      (Cert.MergeReferenceIdeal.Value.run m' g')⟩

end Cert.Layer
end
-- ==== Proof.lean ====
/- The certificate, assembled. For the attention call: the frames of the kernel (Proof/Frames.lean), of its idealization and
   of the reference, the equality of the results (Proof/Conforms.lean), and what the idealization's named constants are. For
   the feed-forward, the memory's keys and values, the input projection and the merge: Proof/Layer.lean. -/
module

public import proofs.«01_k».proof.Proof.Gen.Pre_finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Mem
public import proofs.«01_k».proof.Proof.Gen.MemIdeal
public import proofs.«01_k».proof.Proof.Gen.MemIdeal.Value
public import proofs.«01_k».proof.Proof.Gen.MemReferenceIdeal
public import proofs.«01_k».proof.Proof.Gen.MemReferenceIdeal.Run
public import proofs.«01_k».proof.Proof.Gen.InProj
public import proofs.«01_k».proof.Proof.Gen.InProjIdeal
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.Merge
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Frames
public import proofs.«01_k».proof.Proof.Conforms
public import proofs.«01_k».proof.Proof.Layer
public import Idealize.ShloMosaic.Adequacy
public import Idealize.ShloMosaic.Init

@[expose] public section

noncomputable section

namespace Cert.Proof

open Idealize.ShloMosaic Idealize.SL.Sem

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem preserves : Cert.preserves_Kernel_KernelIdeal :=
  ⟨IdealRules.named_const.statement _ _ _ _ _ rfl, IdealRules.named_const.statement _ _ _ _ _ rfl⟩

theorem frame_ideal_finite : Cert.quiescent_KernelIdeal_pre_finite := fun m g _ =>
  Cert.KernelIdeal.Attn.frame_ideal m g trivial

theorem frame_reference_finite : Cert.quiescent_ReferenceIdeal_pre_finite := fun m g _ =>
  frame_reference m g trivial

/-- On finite arguments the kernel's result and the reference's are the same array. -/
theorem algebraic : Cert.algebraic_KernelIdeal_ReferenceIdeal_pre_finite := fun m g m' g' hp ha =>
  ⟨fun c => Cert.KernelIdeal.Attn.result m c,
    (θ_run Cert.KernelIdeal.defs _ _).mono (fun _ h => h.1) (Cert.KernelIdeal.Attn.run m g),
    (θ_run Cert.ReferenceIdeal.defs _ _).mono (fun r h c => ⟨(h c).1.trans (by
      obtain ⟨a0, a1, a2, a3, a4⟩ := ha c
      rw [Cert.ReferenceIdeal.Attn.res_eq]
      exact (Cert.Conforms.equal m c _ _ _ _ _ a0.symm a1.symm a2.symm a3.symm a4.symm (by rw [a0, a1, a2, a3, a4]; exact hp c)).symm), (h c).2⟩)
      (Cert.ReferenceIdeal.Value.run m' g')⟩

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mem.Gen.facts, Cert.MemIdeal.Gen.facts, Cert.MemReferenceIdeal.Gen.facts,
    Cert.InProj.Gen.facts, Cert.InProjIdeal.Gen.facts, Cert.InProjReferenceIdeal.Gen.facts,
    Cert.Merge.Gen.facts, Cert.MergeIdeal.Gen.facts, Cert.MergeReferenceIdeal.Gen.facts, Cert.Pre_finite.Gen.facts,
    Cert.KernelIdeal.Attn.frame_kernel, Cert.KernelIdeal.Attn.frame_ideal, frame_ideal_finite, frame_reference, frame_reference_finite,
    Layer.ffn_frame, Layer.ffn_frame_ideal, Layer.ffn_frame_reference,
    Layer.mem_frame, Layer.mem_frame_ideal, Layer.mem_frame_reference,
    Layer.in_frame, Layer.in_frame_ideal, Layer.in_frame_reference,
    Layer.merge_frame, Layer.merge_frame_ideal, Layer.merge_frame_reference,
    preserves, algebraic, trivial, Layer.ffn_algebraic, trivial, Layer.mem_algebraic, trivial, Layer.in_algebraic, trivial, Layer.merge_algebraic⟩

end Cert.Proof

end
